-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gates_finite [hPre_gates_finite : Cert.Pre_gates_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gates_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gates_finite [hPre_gates_finite : Cert.Pre_gates_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gates_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_gates_finite [hKernel4Ideal : Cert.Kernel4Ideal.Facts] [hPre_gates_finite : Cert.Pre_gates_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gates_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_gates_finite [hReference4Ideal : Cert.Reference4Ideal.Facts] [hPre_gates_finite : Cert.Pre_gates_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gates_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_gates_finite [hKernel4Ideal : Cert.Kernel4Ideal.Facts] [hReference4Ideal : Cert.Reference4Ideal.Facts] [hPre_gates_finite : Cert.Pre_gates_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gates_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v17_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_logits_finite : Cert.Pre_logits_finite.Facts) (hPre_gates_finite : Cert.Pre_gates_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_gates_finite (hKernel4Ideal := hKernel4Ideal) (hPre_gates_finite := hPre_gates_finite)
    ∧ quiescent_Reference4Ideal (hReference4Ideal := hReference4Ideal)
    ∧ quiescent_Reference4Ideal_pre_gates_finite (hReference4Ideal := hReference4Ideal) (hPre_gates_finite := hPre_gates_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_gates_finite (hKernel4Ideal := hKernel4Ideal) (hReference4Ideal := hReference4Ideal) (hPre_gates_finite := hPre_gates_finite)
-- ==== Pre_gates_finite.lean ====
abbrev S4x4096x1920 : Shape := ⟨3, ![4, 4096, 1920]⟩
abbrev S16x128 : Shape := ⟨2, ![16, 128]⟩
abbrev S128 : Shape := ⟨1, ![128]⟩
abbrev S64 : Shape := ⟨1, ![64]⟩
abbrev S4x4096x16 : Shape := ⟨3, ![4, 4096, 16]⟩
abbrev S_ : Shape := ⟨0, ![]⟩

class Facts : Prop where
  slices_S4x4096x1920_S4x4096x16_0_0_1792 : S4x4096x1920.Slices ![0, 0, 1792] S4x4096x16
  bcast_S_S4x4096x16 : S_.BroadcastsInDim S4x4096x16 (![] : Fin 0 → Fin S4x4096x16.rank)
  reducesTo_S4x4096x16_S_d0_1_2 : S4x4096x16.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x4096x1920 .f32) (main_arg1 : FVec F S16x128 .f32) (main_arg2 : FVec F S128 .f32) (main_arg3 : FVec F S64 .f32) : IVec S_ 1 :=
  let main_v0 : FVec F S4x4096x16 .f32 := (extractStridedSlice S4x4096x16 ![0, 0, 1792] · slices_S4x4096x1920_S4x4096x16_0_0_1792) main_arg0
  let main_v1 : FVec F S4x4096x16 .f32 := Host.absf main_v0
  let main_cst : FVec F S_ .f32 := constant S_ .f32 0x7F800000#32
  let main_v2 : FVec F S4x4096x16 .f32 := broadcastInDim S4x4096x16 ![] bcast_S_S4x4096x16 main_cst
  let main_v3 : IVec S4x4096x16 1 := cmpf .olt main_v1 main_v2
  let main_c : IVec S_ 1 := constantI S_ 1 1#1
  let main_v4 : IVec S_ 1 := (fun x v => Host.reduce IntOp.andi x v reducesTo_S4x4096x16_S_d0_1_2 h_S_) main_v3 main_c
  let main_v5 : FVec F S16x128 .f32 := Host.absf main_arg1
  let main_cst_0 : FVec F S_ .f32 := constant S_ .f32 0x7F800000#32
  let main_v6 : FVec F S16x128 .f32 := broadcastInDim S16x128 ![] bcast_S_S16x128 main_cst_0
  let main_v7 : IVec S16x128 1 := cmpf .olt main_v5 main_v6
  let main_c_1 : IVec S_ 1 := constantI S_ 1 1#1
  let main_v8 : IVec S_ 1 := (fun x v => Host.reduce IntOp.andi x v reducesTo_S16x128_S_d0_1 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  main_v14
-- ==== Pre_logits_finite.lean ====
abbrev S16384x512 : Shape := ⟨2, ![16384, 512]⟩
abbrev S8 : Shape := ⟨1, ![8]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16384x512 .bf16) (main_arg1 : FVec F S16384x512 .f32) (main_arg2 : FVec F S16384x512 .f32) (main_arg3 : FVec F S8 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := Host.absf main_arg1
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_c_1 : IVec S_ 1 := constantI S_ 1 1#1
  let main_v8 : IVec S_ 1 := (fun x v => Host.reduce IntOp.andi x v reducesTo_S16384x512_S_d0_1 h_S_) main_v7 main_c_1
  let main_v9 : IVec S_ 1 := andi main_v4 main_v8
  let main_v10 : FVec F S8 .f32 := Host.absf main_arg3
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v9 main_v13
  main_v14
-- ==== Kernel.lean ====
abbrev S16384x512 : Shape := ⟨2, ![16384, 512]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S2048x128 : Shape := ⟨2, ![2048, 128]⟩
abbrev S4096x128 : Shape := ⟨2, ![4096, 128]⟩
abbrev S2x2048x128 : Shape := ⟨3, ![2, 2048, 128]⟩
abbrev S1 : Shape := ⟨1, ![1]⟩
abbrev S512x128 : Shape := ⟨2, ![512, 128]⟩
abbrev S512x512 : Shape := ⟨2, ![512, 512]⟩
abbrev S1x512x128 : Shape := ⟨3, ![1, 512, 128]⟩
abbrev S512x256 : Shape := ⟨2, ![512, 256]⟩
abbrev S1024x512 : Shape := ⟨2, ![1024, 512]⟩
abbrev S1024x128 : Shape := ⟨2, ![1024, 128]⟩
abbrev S1x1024x128 : Shape := ⟨3, ![1, 1024, 128]⟩
abbrev S1024x256 : Shape := ⟨2, ![1024, 256]⟩
abbrev S1536x512 : Shape := ⟨2, ![1536, 512]⟩
abbrev S1536x128 : Shape := ⟨2, ![1536, 128]⟩
abbrev S1x1536x128 : Shape := ⟨3, ![1, 1536, 128]⟩
abbrev S1536x256 : Shape := ⟨2, ![1536, 256]⟩
abbrev S2048x512 : Shape := ⟨2, ![2048, 512]⟩
abbrev S1x2048x128 : Shape := ⟨3, ![1, 2048, 128]⟩
abbrev S2048x256 : Shape := ⟨2, ![2048, 256]⟩

abbrev nBuf : Space → Nat
  | .hbm => 16
  | .vmem => 13
  | .smem => 1
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S8, .f32⟩
  | .hbm, ⟨4, _⟩ => ⟨S128, .i32⟩
  | .hbm, ⟨5, _⟩ => ⟨S128x1, .i32⟩
  | .hbm, ⟨6, _⟩ => ⟨S128, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S_, .i1⟩
  | .hbm, ⟨12, _⟩ => ⟨S128x128, .i1⟩
  | .hbm, ⟨13, _⟩ => ⟨S128x256, .i1⟩
  | .hbm, ⟨14, _⟩ => ⟨S128x256, .bf16⟩
  | .hbm, ⟨15, _⟩ => ⟨S16384x512, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x256, .bf16⟩
  | .local _ .vmem, ⟨7, _⟩ => ⟨S2048x128, .bf16⟩
  | .local _ .vmem, ⟨8, _⟩ => ⟨S2048x128, .bf16⟩
  | .local _ .vmem, ⟨9, _⟩ => ⟨S4096x128, .bf16⟩
  | .local _ .vmem, ⟨10, _⟩ => ⟨S4096x128, .bf16⟩
  | .local _ .vmem, ⟨11, _⟩ => ⟨S2x2048x128, .f32⟩
  | .local _ .vmem, ⟨12, _⟩ => ⟨S2x2048x128, .f32⟩
  | .local _ .smem, ⟨0, _⟩ => ⟨S8, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 2], ![false, false, false]⟩

def k0_off1 (i : grid0.Coords) : Fin 1 → Nat :=
  let c2_i32 : BitVec 32 := 2#32
  let arg1 : BitVec 32 := BitVec.ofNat 32 (i 1).val
  let v14 : BitVec 32 := Scalar.muli c2_i32 arg1
  let v15 : Index := Scalar.indexCast v14
  ![v15.toNat]
def k0_off2 (i : grid0.Coords) : Fin 1 → Nat :=
  let c2_i32_3 : BitVec 32 := 2#32
  let arg1 : BitVec 32 := BitVec.ofNat 32 (i 1).val
  let v18 : BitVec 32 := Scalar.muli c2_i32_3 arg1
  let c1_i32 : BitVec 32 := 1#32
  let v19 : BitVec 32 := Scalar.addi v18 c1_i32
  let v20 : Index := Scalar.indexCast v19
  ![v20.toNat]
def k0_mult1 (i : grid0.Coords) : BitVec 32 :=
  let arg2 : BitVec 32 := BitVec.ofNat 32 (i 2).val
  let c4_i32 : BitVec 32 := 4#32
  let v33 : BitVec 32 := Scalar.muli arg2 c4_i32
  let c3_i32 : BitVec 32 := 3#32
  let v34 : BitVec 32 := Scalar.addi v33 c3_i32
  let c512_i32 : BitVec 32 := 512#32
  let v35 : BitVec 32 := Scalar.muli v34 c512_i32
  v35
def k0_off3 (i : grid0.Coords) (c3_i32 : BitVec 32) : Fin 2 → Nat :=
  let arg2 : BitVec 32 := BitVec.ofNat 32 (i 2).val
  let c4_i32 : BitVec 32 := 4#32
  let v33 : BitVec 32 := Scalar.muli arg2 c4_i32
  let v34 : BitVec 32 := Scalar.addi v33 c3_i32
  let c512_i32 : BitVec 32 := 512#32
  let v35 : BitVec 32 := Scalar.muli v34 c512_i32
  let v36 : BitVec 32 := v35
  let v37 : Index := Scalar.indexCast v36
  let c0_15 : Index := 0#32
  ![v37.toNat, 0]
def k0_mult2 (i : grid0.Coords) : BitVec 32 :=
  let arg2 : BitVec 32 := BitVec.ofNat 32 (i 2).val
  let c4_i32_63 : BitVec 32 := 4#32
  let v188 : BitVec 32 := Scalar.muli arg2 c4_i32_63
  let c2_i32_64 : BitVec 32 := 2#32
  let v189 : BitVec 32 := Scalar.addi v188 c2_i32_64
  let c512_i32_65 : BitVec 32 := 512#32
  let v190 : BitVec 32 := Scalar.muli v189 c512_i32_65
  v190
def k0_mult3 (i : grid0.Coords) : BitVec 32 :=
  let arg2 : BitVec 32 := BitVec.ofNat 32 (i 2).val
  let c4_i32_116 : BitVec 32 := 4#32
  let v343 : BitVec 32 := Scalar.muli arg2 c4_i32_116
  let c1_i32_117 : BitVec 32 := 1#32
  let v344 : BitVec 32 := Scalar.addi v343 c1_i32_117
  let c512_i32_118 : BitVec 32 := 512#32
  let v345 : BitVec 32 := Scalar.muli v344 c512_i32_118
  v345
def k0_mult4 (i : grid0.Coords) : BitVec 32 :=
  let arg2 : BitVec 32 := BitVec.ofNat 32 (i 2).val
  let c4_i32_170 : BitVec 32 := 4#32
  let v498 : BitVec 32 := Scalar.muli arg2 c4_i32_170
  let c0_i32_171 : BitVec 32 := 0#32
  let v499 : BitVec 32 := Scalar.addi v498 c0_i32_171
  let c512_i32_172 : BitVec 32 := 512#32
  let v500 : BitVec 32 := Scalar.muli v499 c512_i32_172
  v500
@[reducible] def k0_t1_loop (i : grid0.Coords) : Scf.Loop 32 :=
  let c0_i32_227 : BitVec 32 := 0#32
  let arg2 : BitVec 32 := BitVec.ofNat 32 (i 2).val
  let c4_i32_225 : BitVec 32 := 4#32
  let v651 : BitVec 32 := Scalar.muli arg2 c4_i32_225
  let v652 : BitVec 32 := Scalar.subi v651 c0_i32_227
  let c1_i32_228 : BitVec 32 := 1#32
  let v654 : BitVec 32 := Scalar.divsi v652 c1_i32_228
  let v655 : BitVec 32 := Scalar.muli v654 c1_i32_228
  let v656 : BitVec 32 := Scalar.addi c0_i32_227 v655
  let c1_i32_229 : BitVec 32 := 1#32
  ⟨c0_i32_227, v656, c1_i32_229⟩
def k0_mult5 (i : grid0.Coords) (k0_t1 : Fin (k0_t1_loop i).trips) : BitVec 32 :=
  let arg2 : BitVec 32 := BitVec.ofNat 32 (i 2).val
  let c4_i32_239 : BitVec 32 := 4#32
  let v666 : BitVec 32 := Scalar.muli arg2 c4_i32_239
  let c1_i32_240 : BitVec 32 := 1#32
  let v667 : BitVec 32 := Scalar.subi v666 c1_i32_240
  let c0_i32_227 : BitVec 32 := 0#32
  let c1_i32_229 : BitVec 32 := 1#32
  let arg13 : BitVec 32 := Scf.iv c0_i32_227 c1_i32_229 k0_t1
  let v668 : BitVec 32 := Scalar.subi v667 arg13
  let c512_i32_241 : BitVec 32 := 512#32
  let v669 : BitVec 32 := Scalar.muli v668 c512_i32_241
  v669
def k0_off4 (i : grid0.Coords) (k0_t1 : Fin (k0_t1_loop i).trips) : Fin 2 → Nat :=
  let arg2 : BitVec 32 := BitVec.ofNat 32 (i 2).val
  let c4_i32_239 : BitVec 32 := 4#32
  let v666 : BitVec 32 := Scalar.muli arg2 c4_i32_239
  let c1_i32_240 : BitVec 32 := 1#32
  let v667 : BitVec 32 := Scalar.subi v666 c1_i32_240
  let c0_i32_227 : BitVec 32 := 0#32
  let c1_i32_229 : BitVec 32 := 1#32
  let arg13 : BitVec 32 := Scf.iv c0_i32_227 c1_i32_229 k0_t1
  let v668 : BitVec 32 := Scalar.subi v667 arg13
  let c512_i32_241 : BitVec 32 := 512#32
  let v669 : BitVec 32 := Scalar.muli v668 c512_i32_241
  let v670 : BitVec 32 := v669
  let v671 : Index := Scalar.indexCast v670
  let c0_242 : Index := 0#32
  ![v671.toNat, 0]
@[reducible] def k0_t2_loop (i : grid0.Coords) : Scf.Loop 32 :=
  let c0_i32_227 : BitVec 32 := 0#32
  let arg2 : BitVec 32 := BitVec.ofNat 32 (i 2).val
  let c4_i32_225 : BitVec 32 := 4#32
  let v651 : BitVec 32 := Scalar.muli arg2 c4_i32_225
  let v652 : BitVec 32 := Scalar.subi v651 c0_i32_227
  let c1_i32_228 : BitVec 32 := 1#32
  let v654 : BitVec 32 := Scalar.divsi v652 c1_i32_228
  let v655 : BitVec 32 := Scalar.muli v654 c1_i32_228
  let v656 : BitVec 32 := Scalar.addi c0_i32_227 v655
  let v653 : BitVec 32 := Scalar.addi c0_i32_227 v652
  let c1_i32_230 : BitVec 32 := 1#32
  ⟨v656, v653, c1_i32_230⟩
def k0_mult6 (i : grid0.Coords) (k0_t2 : Fin (k0_t2_loop i).trips) : BitVec 32 :=
  let arg2 : BitVec 32 := BitVec.ofNat 32 (i 2).val
  let c4_i32_239 : BitVec 32 := 4#32
  let v666 : BitVec 32 := Scalar.muli arg2 c4_i32_239
  let c1_i32_240 : BitVec 32 := 1#32
  let v667 : BitVec 32 := Scalar.subi v666 c1_i32_240
  let c0_i32_227 : BitVec 32 := 0#32
  let c4_i32_225 : BitVec 32 := 4#32
  let v651 : BitVec 32 := Scalar.muli arg2 c4_i32_225
  let v652 : BitVec 32 := Scalar.subi v651 c0_i32_227
  let c1_i32_228 : BitVec 32 := 1#32
  let v654 : BitVec 32 := Scalar.divsi v652 c1_i32_228
  let v655 : BitVec 32 := Scalar.muli v654 c1_i32_228
  let v656 : BitVec 32 := Scalar.addi c0_i32_227 v655
  let c1_i32_230 : BitVec 32 := 1#32
  let arg13 : BitVec 32 := Scf.iv v656 c1_i32_230 k0_t2
  let v668 : BitVec 32 := Scalar.subi v667 arg13
  let c512_i32_241 : BitVec 32 := 512#32
  let v669 : BitVec 32 := Scalar.muli v668 c512_i32_241
  v669
def k0_off5 (i : grid0.Coords) (k0_t2 : Fin (k0_t2_loop i).trips) : Fin 2 → Nat :=
  let arg2 : BitVec 32 := BitVec.ofNat 32 (i 2).val
  let c4_i32_239 : BitVec 32 := 4#32
  let v666 : BitVec 32 := Scalar.muli arg2 c4_i32_239
  let c1_i32_240 : BitVec 32 := 1#32
  let v667 : BitVec 32 := Scalar.subi v666 c1_i32_240
  let c0_i32_227 : BitVec 32 := 0#32
  let c4_i32_225 : BitVec 32 := 4#32
  let v651 : BitVec 32 := Scalar.muli arg2 c4_i32_225
  let v652 : BitVec 32 := Scalar.subi v651 c0_i32_227
  let c1_i32_228 : BitVec 32 := 1#32
  let v654 : BitVec 32 := Scalar.divsi v652 c1_i32_228
  let v655 : BitVec 32 := Scalar.muli v654 c1_i32_228
  let v656 : BitVec 32 := Scalar.addi c0_i32_227 v655
  let c1_i32_230 : BitVec 32 := 1#32
  let arg13 : BitVec 32 := Scf.iv v656 c1_i32_230 k0_t2
  let v668 : BitVec 32 := Scalar.subi v667 arg13
  let c512_i32_241 : BitVec 32 := 512#32
  let v669 : BitVec 32 := Scalar.muli v668 c512_i32_241
  let v670 : BitVec 32 := v669
  let v671 : Index := Scalar.indexCast v670
  let c0_242 : Index := 0#32
  ![v671.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x512 : Shape := ⟨2, ![16384, 512]⟩
abbrev S8 : Shape := ⟨1, ![8]⟩
abbrev S4x4096x8x64 : Shape := ⟨4, ![4, 4096, 8, 64]⟩
abbrev S_ : Shape := ⟨0, ![]⟩
abbrev S4096 : Shape := ⟨1, ![4096]⟩
abbrev S4x8x4096x4096 : Shape := ⟨4, ![4, 8, 4096, 4096]⟩
abbrev S1x8x1x1 : Shape := ⟨4, ![1, 8, 1, 1]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S8, .f32⟩
  | .hbm, ⟨4, _⟩ => ⟨S4x4096x8x64, .bf16⟩
  | .hbm, ⟨5, _⟩ => ⟨S4x4096x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x8x64, .f32⟩
  | .hbm, ⟨11, _⟩ => ⟨S4x4096x8x64, .f32⟩
  | .hbm, ⟨12, _⟩ => ⟨S4x4096x8x64, .f32⟩
  | .hbm, ⟨13, _⟩ => ⟨S4x4096x8x64, .f32⟩
  | .hbm, ⟨14, _⟩ => ⟨S4096, .i32⟩
  | .hbm, ⟨15, _⟩ => ⟨S4x8x4096x4096, .f32⟩
  | .hbm, ⟨16, _⟩ => ⟨S_, .f32⟩
  | .hbm, ⟨17, _⟩ => ⟨S4x8x4096x4096, .f32⟩
  | .hbm, ⟨18, _⟩ => ⟨S4x8x4096x4096, .f32⟩
  | .hbm, ⟨19, _⟩ => ⟨S1x8x1x1, .f32⟩
  | .hbm, ⟨20, _⟩ => ⟨S4x8x4096x4096, .f32⟩
  | .hbm, ⟨21, _⟩ => ⟨S4x8x4096x4096, .f32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4x8x4096x4096, .f32⟩
  | .hbm, ⟨28, _⟩ => ⟨S_, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .i1⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S_, .f32⟩
  | .hbm, ⟨46, _⟩ => ⟨S4x8x4096x4096, .i1⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S_, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S_, .f32⟩
  | .hbm, ⟨56, _⟩ => ⟨S_, .f32⟩
  | .hbm, ⟨57, _⟩ => ⟨S4x8x4096x4096, .i1⟩
  | .hbm, ⟨58, _⟩ => ⟨S4x8x4096x4096, .f32⟩
  | .hbm, ⟨59, _⟩ => ⟨S4x8x4096x4096, .f32⟩
  | .hbm, ⟨60, _⟩ => ⟨S4x8x64x4096, .f32⟩
  | .hbm, ⟨61, _⟩ => ⟨S4x4096x8x64, .f32⟩
  | .hbm, ⟨62, _⟩ => ⟨S16384x512, .f32⟩
  | .hbm, ⟨63, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_call2_cst : Ref sig .tc := ⟨.hbm, 49, rfl⟩
abbrev main_call2_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S16384x256, .f32⟩
  | .hbm, ⟨9, _⟩ => ⟨S16384x256, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3352 : Shape := ⟨2, ![1024, 3352]⟩
abbrev S64 : Shape := ⟨1, ![64]⟩
abbrev S1024x128 : Shape := ⟨2, ![1024, 128]⟩
abbrev S1024x256 : Shape := ⟨2, ![1024, 256]⟩
abbrev S1024x16 : Shape := ⟨2, ![1024, 16]⟩
abbrev S1024x768 : Shape := ⟨2, ![1024, 768]⟩
abbrev S1024x4 : Shape := ⟨2, ![1024, 4]⟩
abbrev S1024x512 : Shape := ⟨2, ![1024, 512]⟩
abbrev S_ : Shape := ⟨0, ![]⟩
abbrev S1024x104 : Shape := ⟨2, ![1024, 104]⟩
abbrev S1024x3456 : Shape := ⟨2, ![1024, 3456]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16384x512 : Shape := ⟨2, ![16384, 512]⟩
abbrev S16384x1920 : Shape := ⟨2, ![16384, 1920]⟩
abbrev S512x1024 : Shape := ⟨2, ![512, 1024]⟩
abbrev S512x512 : Shape := ⟨2, ![512, 512]⟩
abbrev S512x1920 : Shape := ⟨2, ![512, 1920]⟩
abbrev S512x1 : Shape := ⟨2, ![512, 1]⟩
abbrev S1x128 : Shape := ⟨2, ![1, 128]⟩
abbrev S512x128 : Shape := ⟨2, ![512, 128]⟩
abbrev S1024x640 : Shape := ⟨2, ![1024, 640]⟩
abbrev S512x640 : Shape := ⟨2, ![512, 640]⟩

abbrev nBuf : Space → Nat
  | .hbm => 35
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S64, .f32⟩
  | .hbm, ⟨5, _⟩ => ⟨S1024x128, .f32⟩
  | .hbm, ⟨6, _⟩ => ⟨S1024x128, .f32⟩
  | .hbm, ⟨7, _⟩ => ⟨S1024x256, .f32⟩
  | .hbm, ⟨8, _⟩ => ⟨S1024x16, .f32⟩
  | .hbm, ⟨9, _⟩ => ⟨S1024x256, .f32⟩
  | .hbm, ⟨10, _⟩ => ⟨S1024x768, .f32⟩
  | .hbm, ⟨11, _⟩ => ⟨S1024x4, .f32⟩
  | .hbm, ⟨12, _⟩ => ⟨S1024x4, .f32⟩
  | .hbm, ⟨13, _⟩ => ⟨S1024x256, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x104, .f32⟩
  | .hbm, ⟨19, _⟩ => ⟨S1024x128, .f32⟩
  | .hbm, ⟨20, _⟩ => ⟨S1024x3456, .f32⟩
  | .hbm, ⟨21, _⟩ => ⟨S1024x3456, .bf16⟩
  | .hbm, ⟨22, _⟩ => ⟨S1x1024, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S16384x512, .bf16⟩
  | .hbm, ⟨32, _⟩ => ⟨S16384x512, .f32⟩
  | .hbm, ⟨33, _⟩ => ⟨S16384x512, .f32⟩
  | .hbm, ⟨34, _⟩ => ⟨S16384x1920, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1920, .f32⟩
  | .local _ .vmem, ⟨13, _⟩ => ⟨S512x1920, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev main_v25_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1920 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S16384x1024 : Shape := ⟨2, ![16384, 1024]⟩
abbrev S1024 : Shape := ⟨1, ![1024]⟩
abbrev S1024x3352 : Shape := ⟨2, ![1024, 3352]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3352 : Shape := ⟨2, ![16384, 3352]⟩
abbrev S16384x128 : Shape := ⟨2, ![16384, 128]⟩
abbrev S16384x256 : Shape := ⟨2, ![16384, 256]⟩
abbrev S16384x16 : Shape := ⟨2, ![16384, 16]⟩
abbrev S16384x768 : Shape := ⟨2, ![16384, 768]⟩
abbrev S16384x4 : Shape := ⟨2, ![16384, 4]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x104 : Shape := ⟨2, ![16384, 104]⟩
abbrev S16384x1920 : Shape := ⟨2, ![16384, 1920]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3352, .f32⟩
  | .hbm, ⟨22, _⟩ => ⟨S16384x128, .f32⟩
  | .hbm, ⟨23, _⟩ => ⟨S16384x128, .f32⟩
  | .hbm, ⟨24, _⟩ => ⟨S16384x256, .f32⟩
  | .hbm, ⟨25, _⟩ => ⟨S16384x16, .f32⟩
  | .hbm, ⟨26, _⟩ => ⟨S16384x256, .f32⟩
  | .hbm, ⟨27, _⟩ => ⟨S16384x768, .f32⟩
  | .hbm, ⟨28, _⟩ => ⟨S16384x4, .f32⟩
  | .hbm, ⟨29, _⟩ => ⟨S16384x4, .f32⟩
  | .hbm, ⟨30, _⟩ => ⟨S16384x256, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x8x64, .f32⟩
  | .hbm, ⟨35, _⟩ => ⟨S16384x8x64, .f32⟩
  | .hbm, ⟨36, _⟩ => ⟨S_, .f32⟩
  | .hbm, ⟨37, _⟩ => ⟨S16384x8, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S_, .f32⟩
  | .hbm, ⟨43, _⟩ => ⟨S16384x8x1, .f32⟩
  | .hbm, ⟨44, _⟩ => ⟨S16384x8x1, .f32⟩
  | .hbm, ⟨45, _⟩ => ⟨S16384x8x1, .f32⟩
  | .hbm, ⟨46, _⟩ => ⟨S16384x8x64, .f32⟩
  | .hbm, ⟨47, _⟩ => ⟨S16384x8x64, .f32⟩
  | .hbm, ⟨48, _⟩ => ⟨S1x1x64, .f32⟩
  | .hbm, ⟨49, _⟩ => ⟨S16384x8x64, .f32⟩
  | .hbm, ⟨50, _⟩ => ⟨S16384x8x64, .f32⟩
  | .hbm, ⟨51, _⟩ => ⟨S16384x8x64, .f32⟩
  | .hbm, ⟨52, _⟩ => ⟨S16384x8x64, .f32⟩
  | .hbm, ⟨53, _⟩ => ⟨S_, .f32⟩
  | .hbm, ⟨54, _⟩ => ⟨S16384x8, .f32⟩
  | .hbm, ⟨55, _⟩ => ⟨S16384x8x1, .f32⟩
  | .hbm, ⟨56, _⟩ => ⟨S_, .f32⟩
  | .hbm, ⟨57, _⟩ => ⟨S16384x8x1, .f32⟩
  | .hbm, ⟨58, _⟩ => ⟨S16384x8x1, .f32⟩
  | .hbm, ⟨59, _⟩ => ⟨S_, .f32⟩
  | .hbm, ⟨60, _⟩ => ⟨S16384x8x1, .f32⟩
  | .hbm, ⟨61, _⟩ => ⟨S16384x8x1, .f32⟩
  | .hbm, ⟨62, _⟩ => ⟨S16384x8x1, .f32⟩
  | .hbm, ⟨63, _⟩ => ⟨S16384x8x64, .f32⟩
  | .hbm, ⟨64, _⟩ => ⟨S16384x8x64, .f32⟩
  | .hbm, ⟨65, _⟩ => ⟨S1x1x64, .f32⟩
  | .hbm, ⟨66, _⟩ => ⟨S16384x8x64, .f32⟩
  | .hbm, ⟨67, _⟩ => ⟨S16384x8x64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16384x8x64, .f32⟩
  | .hbm, ⟨73, _⟩ => ⟨S16384x8x64, .f32⟩
  | .hbm, ⟨74, _⟩ => ⟨S16384x8x64, .bf16⟩
  | .hbm, ⟨75, _⟩ => ⟨S_, .f32⟩
  | .hbm, ⟨76, _⟩ => ⟨S16384x104, .f32⟩
  | .hbm, ⟨77, _⟩ => ⟨S16384x1920, .f32⟩
  | .hbm, ⟨78, _⟩ => ⟨S16384x512, .bf16⟩
  | .hbm, ⟨79, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel4.lean ====
abbrev S4x4096x1920 : Shape := ⟨3, ![4, 4096, 1920]⟩
abbrev S16x128 : Shape := ⟨2, ![16, 128]⟩
abbrev S128 : Shape := ⟨1, ![128]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4x256x128 : Shape := ⟨3, ![4, 256, 128]⟩
abbrev S128x128 : Shape := ⟨2, ![128, 128]⟩
abbrev S1 : Shape := ⟨1, ![1]⟩
abbrev S1x128 : Shape := ⟨2, ![1, 128]⟩
abbrev S1x64 : Shape := ⟨2, ![1, 64]⟩
abbrev S4x64 : Shape := ⟨2, ![4, 64]⟩
abbrev S4x4096x256 : Shape := ⟨3, ![4, 4096, 256]⟩
abbrev S4x64x128 : Shape := ⟨3, ![4, 64, 128]⟩
abbrev S4x64x256 : Shape := ⟨3, ![4, 64, 256]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S1x256x128 : Shape := ⟨3, ![1, 256, 128]⟩
abbrev S256x128 : Shape := ⟨2, ![256, 128]⟩
abbrev S64x64 : Shape := ⟨2, ![64, 64]⟩

abbrev nBuf : Space → Nat
  | .hbm => 43
  | .vmem => 19
  | .smem => 0
  | _ => 0

abbrev bufTy : (tb : Table) → Fin (tcTables nBuf tb) → BufTy
  | .hbm, ⟨0, _⟩ => ⟨S4x4096x1920, .f32⟩
  | .hbm, ⟨1, _⟩ => ⟨S16x128, .f32⟩
  | .hbm, ⟨2, _⟩ => ⟨S128, .f32⟩
  | .hbm, ⟨3, _⟩ => ⟨S64, .f32⟩
  | .hbm, ⟨4, _⟩ => ⟨S256, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .bf16⟩
  | .hbm, ⟨29, _⟩ => ⟨S_, .f32⟩
  | .hbm, ⟨30, _⟩ => ⟨S4x256x128, .f32⟩
  | .hbm, ⟨31, _⟩ => ⟨S_, .f32⟩
  | .hbm, ⟨32, _⟩ => ⟨S128x128, .f32⟩
  | .hbm, ⟨33, _⟩ => ⟨S_, .i32⟩
  | .hbm, ⟨34, _⟩ => ⟨S1, .i32⟩
  | .hbm, ⟨35, _⟩ => ⟨S128x128, .f32⟩
  | .hbm, ⟨36, _⟩ => ⟨S1x128, .f32⟩
  | .hbm, ⟨37, _⟩ => ⟨S1x64, .f32⟩
  | .hbm, ⟨38, _⟩ => ⟨S4x64, .f32⟩
  | .hbm, ⟨39, _⟩ => ⟨S256, .f32⟩
  | .hbm, ⟨40, _⟩ => ⟨S1x256, .f32⟩
  | .hbm, ⟨41, _⟩ => ⟨S4x4096x256, .bf16⟩
  | .hbm, ⟨42, _⟩ => ⟨S4x256x128, .f32⟩
  | .local _ .vmem, ⟨0, _⟩ => ⟨S4x64x128, .f32⟩
  | .local _ .vmem, ⟨1, _⟩ => ⟨S4x64x128, .f32⟩
  | .local _ .vmem, ⟨2, _⟩ => ⟨S4x64x128, .f32⟩
  | .local _ .vmem, ⟨3, _⟩ => ⟨S4x64x128, .f32⟩
  | .local _ .vmem, ⟨4, _⟩ => ⟨S4x64x256, .f32⟩
  | .local _ .vmem, ⟨5, _⟩ => ⟨S4x64x256, .f32⟩
  | .local _ .vmem, ⟨6, _⟩ => ⟨S4x64x256, .f32⟩
  | .local _ .vmem, ⟨7, _⟩ => ⟨S4x64x256, .f32⟩
  | .local _ .vmem, ⟨8, _⟩ => ⟨S4x64x128, .f32⟩
  | .local _ .vmem, ⟨9, _⟩ => ⟨S4x64x128, .f32⟩
  | .local _ .vmem, ⟨10, _⟩ => ⟨S4x256x128, .f32⟩
  | .local _ .vmem, ⟨11, _⟩ => ⟨S128x128, .f32⟩
  | .local _ .vmem, ⟨12, _⟩ => ⟨S1x128, .f32⟩
  | .local _ .vmem, ⟨13, _⟩ => ⟨S1x256, .f32⟩
  | .local _ .vmem, ⟨14, _⟩ => ⟨S256x256, .bf16⟩
  | .local _ .vmem, ⟨15, _⟩ => ⟨S4x64x256, .bf16⟩
  | .local _ .vmem, ⟨16, _⟩ => ⟨S4x64x256, .bf16⟩
  | .local _ .vmem, ⟨17, _⟩ => ⟨S4x256x128, .f32⟩
  | .local _ .vmem, ⟨18, _⟩ => ⟨S4x256x128, .f32⟩
  | _, _ => ⟨S4x4096x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17_0 : Ref sig .tc := ⟨.hbm, 41, rfl⟩
abbrev main_v17_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference4Ideal.lean ====
abbrev S4x4096x1920 : Shape := ⟨3, ![4, 4096, 1920]⟩
abbrev S16x128 : Shape := ⟨2, ![16, 128]⟩
abbrev S128 : Shape := ⟨1, ![128]⟩
abbrev S64 : Shape := ⟨1, ![64]⟩
abbrev S4x4096x128 : Shape := ⟨3, ![4, 4096, 128]⟩
abbrev S4x4096x256 : Shape := ⟨3, ![4, 4096, 256]⟩
abbrev S4x4096x16 : Shape := ⟨3, ![4, 4096, 16]⟩
abbrev S1x1x128 : Shape := ⟨3, ![1, 1, 128]⟩
abbrev S_ : Shape := ⟨0, ![]⟩
abbrev S4x1x128 : Shape := ⟨3, ![4, 1, 128]⟩
abbrev S4x256x128 : Shape := ⟨3, ![4, 256, 128]⟩
abbrev S256 : Shape := ⟨1, ![256]⟩
abbrev S256x1 : Shape := ⟨2, ![256, 1]⟩
abbrev S1x128 : Shape := ⟨2, ![1, 128]⟩
abbrev S256x128 : Shape := ⟨2, ![256, 128]⟩
abbrev S1x256x128 : Shape := ⟨3, ![1, 256, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x1920, .f32⟩
  | .hbm, ⟨1, _⟩ => ⟨S16x128, .f32⟩
  | .hbm, ⟨2, _⟩ => ⟨S128, .f32⟩
  | .hbm, ⟨3, _⟩ => ⟨S64, .f32⟩
  | .hbm, ⟨4, _⟩ => ⟨S4x4096x128, .f32⟩
  | .hbm, ⟨5, _⟩ => ⟨S4x4096x256, .f32⟩
  | .hbm, ⟨6, _⟩ => ⟨S4x4096x16, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S_, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S4x4096x128, .f32⟩
  | .hbm, ⟨17, _⟩ => ⟨S4x4096x128, .i1⟩
  | .hbm, ⟨18, _⟩ => ⟨S4x4096x128, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x128, .f32⟩
  | .hbm, ⟨27, _⟩ => ⟨S_, .f32⟩
  | .hbm, ⟨28, _⟩ => ⟨S4x4096x128, .f32⟩
  | .hbm, ⟨29, _⟩ => ⟨S4x4096x128, .f32⟩
  | .hbm, ⟨30, _⟩ => ⟨S_, .f32⟩
  | .hbm, ⟨31, _⟩ => ⟨S_, .f32⟩
  | .hbm, ⟨32, _⟩ => ⟨S4x4096x128, .f32⟩
  | .hbm, ⟨33, _⟩ => ⟨S4x1x128, .f32⟩
  | .hbm, ⟨34, _⟩ => ⟨S4x4096x128, .f32⟩
  | .hbm, ⟨35, _⟩ => ⟨S4x4096x128, .f32⟩
  | .hbm, ⟨36, _⟩ => ⟨S4x4096x128, .f32⟩
  | .hbm, ⟨37, _⟩ => ⟨S4x4096x128, .f32⟩
  | .hbm, ⟨38, _⟩ => ⟨S4x256x128, .f32⟩
  | .hbm, ⟨39, _⟩ => ⟨S256, .i32⟩
  | .hbm, ⟨40, _⟩ => ⟨S256x1, .i32⟩
  | .hbm, ⟨41, _⟩ => ⟨S_, .i32⟩
  | .hbm, ⟨42, _⟩ => ⟨S_, .i32⟩
  | .hbm, ⟨43, _⟩ => ⟨S256x1, .i32⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S256x1, .i32⟩
  | .hbm, ⟨50, _⟩ => ⟨S256x1, .i32⟩
  | .hbm, ⟨51, _⟩ => ⟨S_, .i32⟩
  | .hbm, ⟨52, _⟩ => ⟨S256x1, .i32⟩
  | .hbm, ⟨53, _⟩ => ⟨S256x1, .i1⟩
  | .hbm, ⟨54, _⟩ => ⟨S256x1, .i1⟩
  | .hbm, ⟨55, _⟩ => ⟨S_, .i32⟩
  | .hbm, ⟨56, _⟩ => ⟨S256x1, .i32⟩
  | .hbm, ⟨57, _⟩ => ⟨S256x1, .i32⟩
  | .hbm, ⟨58, _⟩ => ⟨S256x1, .i32⟩
  | .hbm, ⟨59, _⟩ => ⟨S128, .i32⟩
  | .hbm, ⟨60, _⟩ => ⟨S1x128, .i32⟩
  | .hbm, ⟨61, _⟩ => ⟨S_, .i32⟩
  | .hbm, ⟨62, _⟩ => ⟨S_, .i32⟩
  | .hbm, ⟨63, _⟩ => ⟨S1x128, .i32⟩
  | .hbm, ⟨64, _⟩ => ⟨S1x128, .i32⟩
  | .hbm, ⟨65, _⟩ => ⟨S1x128, .i32⟩
  | .hbm, ⟨66, _⟩ => ⟨S_, .i32⟩
  | .hbm, ⟨67, _⟩ => ⟨S1x128, .i32⟩
  | .hbm, ⟨68, _⟩ => ⟨S1x128, .i1⟩
  | .hbm, ⟨69, _⟩ => ⟨S1x128, .i32⟩
  | .hbm, ⟨70, _⟩ => ⟨S1x128, .i32⟩
  | .hbm, ⟨71, _⟩ => ⟨S_, .i32⟩
  | .hbm, ⟨72, _⟩ => ⟨S1x128, .i32⟩
  | .hbm, ⟨73, _⟩ => ⟨S1x128, .i1⟩
  | .hbm, ⟨74, _⟩ => ⟨S1x128, .i1⟩
  | .hbm, ⟨75, _⟩ => ⟨S_, .i32⟩
  | .hbm, ⟨76, _⟩ => ⟨S1x128, .i32⟩
  | .hbm, ⟨77, _⟩ => ⟨S1x128, .i32⟩
  | .hbm, ⟨78, _⟩ => ⟨S1x128, .i32⟩
  | .hbm, ⟨79, _⟩ => ⟨S256x128, .i32⟩
  | .hbm, ⟨80, _⟩ => ⟨S256x128, .i32⟩
  | .hbm, ⟨81, _⟩ => ⟨S256x128, .i1⟩
  | .hbm, ⟨82, _⟩ => ⟨S1x256x128, .i1⟩
  | .hbm, ⟨83, _⟩ => ⟨S_, .f32⟩
  | .hbm, ⟨84, _⟩ => ⟨S_, .f32⟩
  | .hbm, ⟨85, _⟩ => ⟨S4x256x128, .i1⟩
  | .hbm, ⟨86, _⟩ => ⟨S4x256x128, .f32⟩
  | .hbm, ⟨87, _⟩ => ⟨S4x256x128, .f32⟩
  | _, _ => ⟨S4x4096x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c_0 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_cst_1 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v27 : Ref sig .tc := ⟨.hbm, 87, rfl⟩

abbrev nD : Nat := 1
abbrev τ : Topo := Topo.v7x

variable {F : FTy → Type} [FloatOps F]
-- ==== Proof.Frames.lean ====
/- The frames: every program runs to its end, leaves its arguments as they were and every semaphore at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

noncomputable section

namespace Cert.Proof

open Idealize.ShloMosaic Idealize.SL.Sem

/-- The attention kernel as written. -/
theorem frame_Kernel : Cert.quiescent_Kernel := fun m g _ => Cert.Kernel.Gen.frame m g

/-- The attention kernel over the extended reals. -/
theorem frame_KernelIdeal : Cert.quiescent_KernelIdeal := fun m g _ => Cert.KernelIdeal.Gen.frame m g

/-- The attention reference. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The output projection and feed-forward kernel as written. -/
theorem frame_Kernel2 : Cert.quiescent_Kernel2 := fun m g _ => Cert.Kernel2.Gen.frame m g

/-- The output projection and feed-forward kernel over the extended reals. -/
theorem frame_Kernel2Ideal : Cert.quiescent_Kernel2Ideal := fun m g _ => Cert.Kernel2Ideal.Gen.frame m g

/-- The output projection and feed-forward reference. -/
theorem frame_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The input projection kernel as written. -/
theorem frame_Kernel3 : Cert.quiescent_Kernel3 := fun m g _ => Cert.Kernel3.Gen.frame m g

/-- The input projection kernel over the extended reals. -/
theorem frame_Kernel3Ideal : Cert.quiescent_Kernel3Ideal := fun m g _ => Cert.Kernel3Ideal.Gen.frame m g

/-- The input projection reference. -/
theorem frame_Reference3Ideal : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run m g)

/-- The gated linear attention kernel as written. -/
theorem frame_Kernel4 : Cert.quiescent_Kernel4 := fun m g _ => Cert.Kernel4.Gen.frame m g

/-- The gated linear attention kernel over the extended reals. -/
theorem frame_Kernel4Ideal : Cert.quiescent_Kernel4Ideal := fun m g _ => Cert.Kernel4Ideal.Gen.frame m g

/-- The gated linear attention reference. -/
theorem frame_Reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The constant `log2 e` of the attention kernel, named the reciprocal of `log 2`. -/
theorem preserves_Kernel : Cert.preserves_Kernel_KernelIdeal :=
  IdealRules.named_const.statement Cert.KernelIdeal.κ "log2e" .f32 0x3FB8AA3B#32 (((Real.log 2)⁻¹ : ℝ) : EReal) rfl

/-- The output projection and feed-forward kernel names no constant. -/
theorem preserves_Kernel2 : Cert.preserves_Kernel2_Kernel2Ideal := trivial

/-- The scale of the queries in the input projection, named the reciprocal of `8 log 2`. -/
theorem preserves_Kernel3 : Cert.preserves_Kernel3_Kernel3Ideal :=
  IdealRules.named_const.statement Cert.Kernel3Ideal.κ "q_scale" .f32 0x3E38AA3B#32 (((8 * (Real.log 2))⁻¹ : ℝ) : EReal) rfl

/-- The gated linear attention kernel names no constant. -/
theorem preserves_Kernel4 : Cert.preserves_Kernel4_Kernel4Ideal := trivial

end Cert.Proof

end
-- ==== Proof.Consts.lean ====
/- The float constants of the kernels and references, as extended reals. -/
module

public import Idealize.ShloMosaic.Lib.IdealHost
public import Idealize.ShloMosaic.Lib.Pointwise
public import Idealize.ShloMosaic.Lib.WordCmp

@[expose] public section

noncomputable section

open Idealize.ShloMosaic

namespace Cert.Consts

theorem bits_64 : Ideal.ofBits .f32 0x42800000#32 = ((64 : ℝ) : EReal) := by
  simp [Ideal.ofBits, Ideal.ieee, -EReal.coe_mul]; norm_num

theorem bits_inv_64 : Ideal.ofBits .f32 0x3C800000#32 = ((1 / 64 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_8 : Ideal.ofBits .f32 0x41000000#32 = ((8 : ℝ) : EReal) := by
  simp [Ideal.ofBits, Ideal.ieee, -EReal.coe_mul]; norm_num

theorem bits_inv_8 : Ideal.ofBits .f32 0x3E000000#32 = ((1 / 8 : ℝ) : EReal) := by
  simp [Ideal.ofBits, Ideal.ieee, -EReal.coe_mul]; norm_num

theorem bits_1_bf16 : Ideal.ofBits .bf16 0x3F80#16 = ((1 : ℝ) : EReal) := by
  simp

theorem bits_inf : Ideal.ofBits .f32 0x7F800000#32 = ⊤ := by
  simp [Ideal.ofBits, Ideal.ieee]

/-- Over 64 is times its reciprocal. -/
theorem div_64 (x : EReal) : Ideal.div x (Ideal.ofBits .f32 0x42800000#32) = x * Ideal.ofBits .f32 0x3C800000#32 := by
  rw [bits_64, bits_inv_64, Ideal.div_coe (by norm_num)]

/-- The attention's scale, as the reference takes it at run time. -/
theorem scale : Ideal.div (Ideal.ofBits .f32 0x3E000000#32) (Ideal.log (Ideal.ofBits .f32 0x40000000#32))
    = (((8 * Real.log 2)⁻¹ : ℝ) : EReal) := by
  have h2 : ¬ (2 : ℝ) ≤ 0 := by norm_num
  rw [bits_2, bits_inv_8, Ideal.log_coe, if_neg h2, Ideal.div_coe (Real.log_pos (by norm_num)).ne', ← EReal.coe_mul]
  congr 1
  have : Real.log 2 ≠ 0 := (Real.log_pos (by norm_num)).ne'
  field_simp

/-- Choosing by a lane's number being below 64. -/
theorem select_lane {α : Type} (n : ℕ) (hn : n < 128) (a b : α) :
    Scalar.select (IntOp.cmpi CmpIPredicate.slt (BitVec.ofNat 32 n) 64#32) a b = if n < 64 then a else b := by
  rw [show (64#32 : BitVec 32) = BitVec.ofNat 32 64 from rfl, WordCmp.cmpi_slt_ofNat (by omega) (by omega), WordCmp.select_decide]

/-- A sum over the lanes below 64. -/
theorem sum_low (f : Fin 128 → EReal) : (∑ x : Fin 128, if x.val < 64 then f x else 0) = ∑ e : Fin 64, f ⟨e.val, by omega⟩ := by
  rw [show (∑ x : Fin 128, if x.val < 64 then f x else 0) = _ from
    Fin.sum_univ_add (a := 64) (b := 64) (fun x : Fin (64 + 64) => if x.val < 64 then f x else 0)]
  simp [Fin.castAdd, Fin.natAdd, Fin.castLE]

/-- A sum over the lanes from 64 on. -/
theorem sum_high (f : Fin 128 → EReal) : (∑ x : Fin 128, if x.val < 64 then 0 else f x) = ∑ e : Fin 64, f ⟨64 + e.val, by omega⟩ := by
  rw [show (∑ x : Fin 128, if x.val < 64 then 0 else f x) = _ from
    Fin.sum_univ_add (a := 64) (b := 64) (fun x : Fin (64 + 64) => if x.val < 64 then 0 else f x)]
  simp [Fin.castAdd, Fin.natAdd, Fin.castLE]

end Cert.Consts

end
-- ==== Proof.SbTile.lean ====
/- Stick-breaking attention: what one tile of 512 keys adds to the sums a query row carries. -/
module

public import proofs.«01_k».proof.Proof.Gen.KernelIdeal.Frame
public import proofs.«01_k».proof.Proof.Consts

@[expose] public section

set_option maxRecDepth 16384

noncomputable section

open Idealize.ShloMosaic Idealize.ShloMosaic.TcCoe Idealize.SL.Sem

namespace Cert.Sb

open Cert.KernelIdeal

/-- The logarithm (base 2) of the share a key takes, at its logit. -/
def lbeta (z : EReal) : EReal :=
  min z 0 - Ideal.log (1 + FloatOps.exp2 (F := Ideal) (φ := .f32) (0 - FloatOps.absf (F := Ideal) (φ := .f32) z))
    * Named.named (F := Ideal) (φ := .f32) κ "log2e" 0x3FB8AA3B#32

/-- The logarithm of what key `j` leaves, times the multiplier `w`; nothing when the key is masked. -/
def left (Z : Fin 512 → EReal) (M : Fin 512 → BitVec 1) (w : EReal) (j : Fin 512) : EReal :=
  Scalar.select (M j) ((lbeta (Z j) - Z j) * w) 0

/-- The carried sum after a tile: the four parts of the tile, from the last to the first. -/
def carried (Z : Fin 512 → EReal) (M : Fin 512 → BitVec 1) (c : Fin 128 → EReal) (mu : Fin 128 → Fin 256 → EReal) (l : Fin 128) : EReal :=
  c l + (∑ x : Fin 128, left Z M (mu x ⟨128 + l.val, by omega⟩) ⟨384 + x.val, by omega⟩)
    + (∑ x : Fin 128, left Z M (mu x ⟨128 + l.val, by omega⟩) ⟨256 + x.val, by omega⟩)
    + (∑ x : Fin 128, left Z M (mu x ⟨128 + l.val, by omega⟩) ⟨128 + x.val, by omega⟩)
    + ∑ x : Fin 128, left Z M (mu x ⟨128 + l.val, by omega⟩) ⟨x.val, by omega⟩

/-- A key's weight in a tile. -/
def weight (Z : Fin 512 → EReal) (M : Fin 512 → BitVec 1) (c : Fin 128 → EReal) (mu : Fin 128 → Fin 256 → EReal) (j : Fin 512) : EReal :=
  Scalar.select (M j) (FloatOps.exp2 (F := Ideal) (φ := .f32)
    (if h : j.val < 128 then
      lbeta (Z ⟨j.val, by omega⟩) + (∑ x : Fin 128, left Z M (mu x ⟨j.val, by omega⟩) ⟨x.val, by omega⟩)
        + (c ⟨j.val, h⟩ + (∑ x : Fin 128, left Z M (mu x ⟨128 + j.val, by omega⟩) ⟨384 + x.val, by omega⟩)
          + (∑ x : Fin 128, left Z M (mu x ⟨128 + j.val, by omega⟩) ⟨256 + x.val, by omega⟩)
          + ∑ x : Fin 128, left Z M (mu x ⟨128 + j.val, by omega⟩) ⟨128 + x.val, by omega⟩)
    else if h' : j.val - 128 < 128 then
      lbeta (Z ⟨128 + (j.val - 128), by omega⟩) + (∑ x : Fin 128, left Z M (mu x ⟨j.val - 128, by omega⟩) ⟨128 + x.val, by omega⟩)
        + (c ⟨j.val - 128, h'⟩ + (∑ x : Fin 128, left Z M (mu x ⟨128 + (j.val - 128), by omega⟩) ⟨384 + x.val, by omega⟩)
          + ∑ x : Fin 128, left Z M (mu x ⟨128 + (j.val - 128), by omega⟩) ⟨256 + x.val, by omega⟩)
    else if h'' : j.val - 128 - 128 < 128 then
      lbeta (Z ⟨256 + (j.val - 128 - 128), by omega⟩) + (∑ x : Fin 128, left Z M (mu x ⟨j.val - 128 - 128, by omega⟩) ⟨256 + x.val, by omega⟩)
        + (c ⟨j.val - 128 - 128, h''⟩ + ∑ x : Fin 128, left Z M (mu x ⟨128 + (j.val - 128 - 128), by omega⟩) ⟨384 + x.val, by omega⟩)
    else
      lbeta (Z ⟨384 + (j.val - 128 - 128 - 128), by omega⟩)
        + (∑ x : Fin 128, left Z M (mu x ⟨j.val - 128 - 128 - 128, by omega⟩) ⟨384 + x.val, by omega⟩)
        + c ⟨j.val - 128 - 128 - 128, by omega⟩)) 0

/-! ## The four parts as one sum over the keys after a key -/

section sums

variable (f : ℕ → EReal)

/-- The keys of one part of a tile, summed. -/
theorem sum_part (B : ℕ) : (∑ x : Fin 128, f (B + x.val)) = ∑ j ∈ Finset.Ico B (B + 128), f j := by
  rw [Finset.sum_Ico_eq_sum_range, Fin.sum_univ_eq_sum_range (fun x => f (B + x))]
  simp

/-- The keys of one part of a tile after its key `l`, summed. -/
theorem sum_part_after (B l : ℕ) (hl : l < 128) :
    (∑ x : Fin 128, if l < x.val then f (B + x.val) else 0) = ∑ j ∈ Finset.Ico (B + l + 1) (B + 128), f j := by
  rw [Fin.sum_univ_eq_sum_range (fun x => if l < x then f (B + x) else 0), ← Finset.sum_filter,
    show B + l + 1 = l + 1 + B by omega, show B + 128 = 128 + B by omega, ← Finset.sum_Ico_add' f (l + 1) 128 B]
  refine Finset.sum_congr (Finset.ext fun x => ?_) fun x _ => by rw [Nat.add_comm]
  simp only [Finset.mem_filter, Finset.mem_range, Finset.mem_Ico]
  omega

/-- Two neighbouring ranges of keys, the later one first. -/
theorem sum_join {a b e : ℕ} (h₁ : a ≤ b) (h₂ : b ≤ e) :
    (∑ j ∈ Finset.Ico b e, f j) + (∑ j ∈ Finset.Ico a b, f j) = ∑ j ∈ Finset.Ico a e, f j := by
  rw [add_comm, Finset.sum_Ico_consecutive f h₁ h₂]

variable (A : ℕ) (Z : Fin 512 → EReal) (M : Fin 512 → BitVec 1) (mu : Fin 128 → Fin 256 → EReal)
  (hf : ∀ j, Scalar.select (M j) (lbeta (Z j) - Z j) 0 = f (A + j.val))
  (hmu : ∀ (x : Fin 128) (y : Fin 256), mu x y = if 128 ≤ y.val ∨ y.val < x.val then 1 else 0)

include hf in
theorem left_one (j : Fin 512) : left Z M 1 j = f (A + j.val) := by
  rw [left, mul_one, hf]

include hf in
theorem left_if (p : Prop) [Decidable p] (j : Fin 512) : left Z M (if p then 1 else 0) j = if p then f (A + j.val) else 0 := by
  split
  · exact left_one f A Z M hf j
  · rw [left, mul_zero]
    unfold Scalar.select
    split <;> rfl

include hmu in
theorem mu_one (x : Fin 128) (y : Fin 256) (hy : 128 ≤ y.val) : mu x y = 1 := by rw [hmu, if_pos (Or.inl hy)]

include hmu in
theorem mu_low (x : Fin 128) (y : Fin 256) (hy : y.val < 128) : mu x y = if y.val < x.val then 1 else 0 := by
  rw [hmu]
  exact if_congr (by omega) rfl rfl

include hf hmu in
/-- One part of a tile, whole. -/
theorem part_whole (B : ℕ) (hB : B + 128 ≤ 512) (l : Fin 128) :
    (∑ x : Fin 128, left Z M (mu x ⟨128 + l.val, by omega⟩) ⟨B + x.val, by omega⟩) = ∑ j ∈ Finset.Ico (A + B) (A + B + 128), f j := by
  rw [← sum_part]
  refine Finset.sum_congr rfl fun x _ => ?_
  rw [mu_one mu hmu _ _ (Nat.le_add_right _ _), left_one f A Z M hf, Nat.add_assoc]

include hf hmu in
/-- One part of a tile, after its key `l`. -/
theorem part_after (B : ℕ) (hB : B + 128 ≤ 512) (l : Fin 128) :
    (∑ x : Fin 128, left Z M (mu x ⟨l.val, by omega⟩) ⟨B + x.val, by omega⟩) = ∑ j ∈ Finset.Ico (A + B + l.val + 1) (A + B + 128), f j := by
  rw [← sum_part_after f (A + B) l.val l.isLt]
  refine Finset.sum_congr rfl fun x _ => ?_
  rw [mu_low mu hmu _ _ l.isLt, left_if f A Z M hf, Nat.add_assoc]

include hf hmu in
theorem part0_whole (l : Fin 128) :
    (∑ x : Fin 128, left Z M (mu x ⟨128 + l.val, by omega⟩) ⟨x.val, by omega⟩) = ∑ j ∈ Finset.Ico A (A + 128), f j := by
  have h := part_whole f A Z M mu hf hmu 0 (by omega) l
  simp only [Nat.zero_add, Nat.add_zero] at h
  exact h

include hf hmu in
theorem part0_after (l : Fin 128) :
    (∑ x : Fin 128, left Z M (mu x ⟨l.val, by omega⟩) ⟨x.val, by omega⟩) = ∑ j ∈ Finset.Ico (A + l.val + 1) (A + 128), f j := by
  have h := part_after f A Z M mu hf hmu 0 (by omega) l
  simp only [Nat.zero_add, Nat.add_zero] at h
  exact h

variable (T : ℕ) (hT : A + 512 ≤ T) (c : Fin 128 → EReal) (hc : ∀ l, c l = ∑ j ∈ Finset.Ico (A + 512) T, f j)

include hT hf hc hmu in
/-- After the tile the carried sum is over the tile's keys too. -/
theorem carried_eq (l : Fin 128) : carried Z M c mu l = ∑ j ∈ Finset.Ico A T, f j := by
  rw [carried, hc, part_whole f A Z M mu hf hmu 384 (by omega), part_whole f A Z M mu hf hmu 256 (by omega),
    part_whole f A Z M mu hf hmu 128 (by omega), part0_whole f A Z M mu hf hmu,
    sum_join f (by omega : A + 384 ≤ A + 384 + 128) (by omega : A + 384 + 128 ≤ T),
    sum_join f (by omega : A + 256 ≤ A + 256 + 128) (by omega : A + 256 + 128 ≤ T),
    sum_join f (by omega : A + 128 ≤ A + 128 + 128) (by omega : A + 128 + 128 ≤ T),
    sum_join f (by omega : A ≤ A + 128) (by omega : A + 128 ≤ T)]

include hT hf hc hmu in
/-- A key's weight: its share times what every later key leaves. -/
theorem weight_eq (j : Fin 512) : weight Z M c mu j
    = Scalar.select (M j) (FloatOps.exp2 (F := Ideal) (φ := .f32) (lbeta (Z j) + ∑ i ∈ Finset.Ico (A + j.val + 1) T, f i)) 0 := by
  unfold weight
  congr 2
  by_cases h : j.val < 128
  · rw [dif_pos h, hc, part_whole f A Z M mu hf hmu 384 (by omega) ⟨j.val, h⟩, part_whole f A Z M mu hf hmu 256 (by omega) ⟨j.val, h⟩,
      part_whole f A Z M mu hf hmu 128 (by omega) ⟨j.val, h⟩, part0_after f A Z M mu hf hmu ⟨j.val, h⟩,
      sum_join f (by omega : A + 384 ≤ A + 384 + 128) (by omega : A + 384 + 128 ≤ T),
      sum_join f (by omega : A + 256 ≤ A + 256 + 128) (by omega : A + 256 + 128 ≤ T),
      sum_join f (by omega : A + 128 ≤ A + 128 + 128) (by omega : A + 128 + 128 ≤ T),
      add_assoc, Finset.sum_Ico_consecutive f (by show A + j.val + 1 ≤ A + 128; omega) (by omega)]
  rw [dif_neg h]
  by_cases h' : j.val - 128 < 128
  · have e : A + 128 + (j.val - 128) + 1 = A + j.val + 1 := by omega
    have e' : (⟨128 + (j.val - 128), by omega⟩ : Fin 512) = j := Fin.ext (by show 128 + (j.val - 128) = j.val; omega)
    rw [dif_pos h', hc, part_whole f A Z M mu hf hmu 384 (by omega) ⟨j.val - 128, h'⟩, part_whole f A Z M mu hf hmu 256 (by omega) ⟨j.val - 128, h'⟩,
      part_after f A Z M mu hf hmu 128 (by omega) ⟨j.val - 128, h'⟩, e, e',
      sum_join f (by omega : A + 384 ≤ A + 384 + 128) (by omega : A + 384 + 128 ≤ T),
      sum_join f (by omega : A + 256 ≤ A + 256 + 128) (by omega : A + 256 + 128 ≤ T),
      add_assoc, Finset.sum_Ico_consecutive f (by omega) (by omega)]
  rw [dif_neg h']
  by_cases h'' : j.val - 128 - 128 < 128
  · have e : A + 256 + (j.val - 128 - 128) + 1 = A + j.val + 1 := by omega
    have e' : (⟨256 + (j.val - 128 - 128), by omega⟩ : Fin 512) = j := Fin.ext (by show 256 + (j.val - 128 - 128) = j.val; omega)
    rw [dif_pos h'', hc, part_whole f A Z M mu hf hmu 384 (by omega) ⟨j.val - 128 - 128, h''⟩,
      part_after f A Z M mu hf hmu 256 (by omega) ⟨j.val - 128 - 128, h''⟩, e, e',
      sum_join f (by omega : A + 384 ≤ A + 384 + 128) (by omega : A + 384 + 128 ≤ T),
      add_assoc, Finset.sum_Ico_consecutive f (by omega) (by omega)]
  · have e : A + 384 + (j.val - 128 - 128 - 128) + 1 = A + j.val + 1 := by omega
    have e' : (⟨384 + (j.val - 128 - 128 - 128), by omega⟩ : Fin 512) = j := Fin.ext (by show 384 + (j.val - 128 - 128 - 128) = j.val; omega)
    rw [dif_neg h'', hc, part_after f A Z M mu hf hmu 384 (by omega) ⟨j.val - 128 - 128 - 128, by omega⟩, e, e',
      add_assoc, Finset.sum_Ico_consecutive f (by omega) (by omega)]

end sums

end Cert.Sb

end
-- ==== Proof.SbPay.lean ====
/- Stick-breaking attention: the stores of each key tile of the kernel's body, entry by entry. -/
module

public import proofs.«01_k».proof.Proof.SbTile

@[expose] public section

set_option maxRecDepth 16384

noncomputable section

open Idealize.ShloMosaic Idealize.ShloMosaic.TcCoe Idealize.SL.Sem

namespace Cert.Sb

open Cert.KernelIdeal Cert.KernelIdeal.Gen

/-- A product masked is its first factor masked. -/
theorem select_mul (m : BitVec 1) (a w : EReal) : Scalar.select m (a * w) 0 = Scalar.select m a 0 * w := by
  unfold Scalar.select
  split
  · rfl
  · rw [zero_mul]

theorem logit3_0 (q0 : FVec Ideal S2048x128 .bf16) (b0 : Ideal .f32) (k : FVec Ideal S512x128 .bf16) (r : Fin 512) (j : Fin 512) :
    ((k0_pay71 q0 b0 k) (ix2 r j) : EReal) = (∑ e : Fin 128, q0 (ix2 (⟨1536 + r.val, by omega⟩ : Fin 2048) e) * k (ix2 j e)) + b0 := by
  pointwise [k0_pay71]

theorem carried3_0 (q0 : FVec Ideal S2048x128 .bf16) (b0 : Ideal .f32) (k : FVec Ideal S512x128 .bf16) (M : IVec S512x512 1) (mu : FVec Ideal S128x256 .bf16) (c : FVec Ideal S1x512x128 .f32) (r : Fin 512) (l : Fin 128) :
    ((k0_pay98 (k0_pay79 mu M (k0_pay71 q0 b0 k) (k0_pay75 q0 b0 k)) (k0_pay80 mu M (k0_pay71 q0 b0 k) (k0_pay75 q0 b0 k)) (k0_pay81 mu M (k0_pay71 q0 b0 k) (k0_pay75 q0 b0 k)) (k0_pay88 mu M (k0_pay71 q0 b0 k) (k0_pay73 c) (k0_pay75 q0 b0 k))) (ix3 0 r l) : EReal)
      = carried (fun j => (k0_pay71 q0 b0 k) (ix2 r j)) (fun j => M (ix2 r j)) (fun l => c (ix3 0 r l)) (fun x l => mu (ix2 x l)) l := by
  pointwise [k0_pay73, k0_pay75, k0_pay76, k0_pay79, k0_pay80, k0_pay81, k0_pay82, k0_pay88, k0_pay90, k0_pay91, k0_pay98]
  rfl

theorem weight3_0 (q0 : FVec Ideal S2048x128 .bf16) (b0 : Ideal .f32) (k : FVec Ideal S512x128 .bf16) (M : IVec S512x512 1) (mu : FVec Ideal S128x256 .bf16) (c : FVec Ideal S1x512x128 .f32) (r : Fin 512) (j : Fin 512) :
    ((k0_pay92 M (k0_pay75 q0 b0 k) (k0_pay79 mu M (k0_pay71 q0 b0 k) (k0_pay75 q0 b0 k)) (k0_pay80 mu M (k0_pay71 q0 b0 k) (k0_pay75 q0 b0 k)) (k0_pay81 mu M (k0_pay71 q0 b0 k) (k0_pay75 q0 b0 k)) (k0_pay87 mu M (k0_pay71 q0 b0 k) (k0_pay73 c) (k0_pay75 q0 b0 k)) (k0_pay88 mu M (k0_pay71 q0 b0 k) (k0_pay73 c) (k0_pay75 q0 b0 k)) (k0_pay89 mu M (k0_pay71 q0 b0 k) (k0_pay73 c) (k0_pay75 q0 b0 k))) (ix2 r j) : EReal)
      = weight (fun j => (k0_pay71 q0 b0 k) (ix2 r j)) (fun j => M (ix2 r j)) (fun l => c (ix3 0 r l)) (fun x l => mu (ix2 x l)) j := by
  pointwise [k0_pay73, k0_pay75, k0_pay76, k0_pay79, k0_pay80, k0_pay81, k0_pay82, k0_pay87, k0_pay88, k0_pay89, k0_pay90, k0_pay91, k0_pay92]
  rfl

theorem summed3_0 (v : FVec Ideal S512x128 .bf16) (w : FVec Ideal S512x512 .bf16) (o : FVec Ideal S1x512x128 .f32) (r : Fin 512) (l : Fin 128) :
    ((k0_pay99 v w o) (ix3 0 r l) : EReal) = o (ix3 0 r l) + ∑ j : Fin 512, w (ix2 r j) * v (ix2 j l) := by
  pointwise [k0_pay99]

theorem logit3_1 (q1 : FVec Ideal S2048x128 .bf16) (b1 : Ideal .f32) (k : FVec Ideal S512x128 .bf16) (r : Fin 512) (j : Fin 512) :
    ((k0_pay72 q1 b1 k) (ix2 r j) : EReal) = (∑ e : Fin 128, q1 (ix2 (⟨1536 + r.val, by omega⟩ : Fin 2048) e) * k (ix2 j e)) + b1 := by
  pointwise [k0_pay72]

theorem carried3_1 (q1 : FVec Ideal S2048x128 .bf16) (b1 : Ideal .f32) (k : FVec Ideal S512x128 .bf16) (M : IVec S512x512 1) (mu : FVec Ideal S128x256 .bf16) (c : FVec Ideal S1x512x128 .f32) (r : Fin 512) (l : Fin 128) :
    ((k0_pay100 (k0_pay96 (k0_pay74 c) (k0_pay83 mu M (k0_pay72 q1 b1 k)) (k0_pay84 mu M (k0_pay72 q1 b1 k)) (k0_pay85 mu M (k0_pay72 q1 b1 k)) (k0_pay86 mu M (k0_pay72 q1 b1 k)))) (ix3 0 r l) : EReal)
      = carried (fun j => (k0_pay72 q1 b1 k) (ix2 r j)) (fun j => M (ix2 r j)) (fun l => c (ix3 0 r l)) (fun x l => mu (ix2 x l)) l := by
  pointwise [k0_pay74, k0_pay77, k0_pay78, k0_pay83, k0_pay84, k0_pay85, k0_pay86, k0_pay93, k0_pay94, k0_pay95, k0_pay96, k0_pay100]
  rfl

theorem weight3_1 (q1 : FVec Ideal S2048x128 .bf16) (b1 : Ideal .f32) (k : FVec Ideal S512x128 .bf16) (M : IVec S512x512 1) (mu : FVec Ideal S128x256 .bf16) (c : FVec Ideal S1x512x128 .f32) (r : Fin 512) (j : Fin 512) :
    ((k0_pay97 M (k0_pay74 c) (k0_pay77 (k0_pay72 q1 b1 k)) (k0_pay83 mu M (k0_pay72 q1 b1 k)) (k0_pay84 mu M (k0_pay72 q1 b1 k)) (k0_pay85 mu M (k0_pay72 q1 b1 k)) (k0_pay86 mu M (k0_pay72 q1 b1 k))) (ix2 r j) : EReal)
      = weight (fun j => (k0_pay72 q1 b1 k) (ix2 r j)) (fun j => M (ix2 r j)) (fun l => c (ix3 0 r l)) (fun x l => mu (ix2 x l)) j := by
  pointwise [k0_pay74, k0_pay77, k0_pay78, k0_pay83, k0_pay84, k0_pay85, k0_pay86, k0_pay93, k0_pay94, k0_pay95, k0_pay97]
  rfl

theorem summed3_1 (v : FVec Ideal S512x128 .bf16) (w : FVec Ideal S512x512 .bf16) (o : FVec Ideal S1x512x128 .f32) (r : Fin 512) (l : Fin 128) :
    ((k0_pay101 v w o) (ix3 0 r l) : EReal) = o (ix3 0 r l) + ∑ j : Fin 512, w (ix2 r j) * v (ix2 j l) := by
  pointwise [k0_pay101]

theorem logit2_0 (q0 : FVec Ideal S2048x128 .bf16) (b0 : Ideal .f32) (k : FVec Ideal S512x128 .bf16) (r : Fin 1024) (j : Fin 512) :
    ((k0_pay104 b0 k (k0_pay103 q0) (constant S1024x512 .f32 0x00000000#32)) (ix2 r j) : EReal) = (∑ e : Fin 128, q0 (ix2 (⟨1024 + r.val, by omega⟩ : Fin 2048) e) * k (ix2 j e)) + b0 := by
  pointwise [k0_pay103, k0_pay104]

theorem carried2_0 (q0 : FVec Ideal S2048x128 .bf16) (b0 : Ideal .f32) (k : FVec Ideal S512x128 .bf16) (M : IVec S1024x512 1) (mu : FVec Ideal S128x256 .bf16) (c : FVec Ideal S1x1024x128 .f32) (r : Fin 1024) (l : Fin 128) :
    ((k0_pay129 (k0_pay123 mu (k0_pay106 c) (k0_pay109 b0 k M (k0_pay103 q0) (constant S1024x512 .f32 0x00000000#32)))) (ix3 0 r l) : EReal)
      = carried (fun j => (k0_pay104 b0 k (k0_pay103 q0) (constant S1024x512 .f32 0x00000000#32)) (ix2 r j)) (fun j => M (ix2 r j)) (fun l => c (ix3 0 r l)) (fun x l => mu (ix2 x l)) l := by
  pointwise [k0_pay103, k0_pay106, k0_pay108, k0_pay109, k0_pay112, k0_pay113, k0_pay114, k0_pay115, k0_pay120, k0_pay121, k0_pay122, k0_pay123, k0_pay129]
  rfl

theorem weight2_0 (q0 : FVec Ideal S2048x128 .bf16) (b0 : Ideal .f32) (k : FVec Ideal S512x128 .bf16) (M : IVec S1024x512 1) (mu : FVec Ideal S128x256 .bf16) (c : FVec Ideal S1x1024x128 .f32) (r : Fin 1024) (j : Fin 512) :
    ((k0_pay124 mu M (k0_pay106 c) (k0_pay108 b0 k (k0_pay103 q0) (constant S1024x512 .f32 0x00000000#32)) (k0_pay109 b0 k M (k0_pay103 q0) (constant S1024x512 .f32 0x00000000#32))) (ix2 r j) : EReal)
      = weight (fun j => (k0_pay104 b0 k (k0_pay103 q0) (constant S1024x512 .f32 0x00000000#32)) (ix2 r j)) (fun j => M (ix2 r j)) (fun l => c (ix3 0 r l)) (fun x l => mu (ix2 x l)) j := by
  pointwise [k0_pay103, k0_pay106, k0_pay108, k0_pay109, k0_pay112, k0_pay113, k0_pay114, k0_pay115, k0_pay120, k0_pay121, k0_pay122, k0_pay124]
  rfl

theorem summed2_0 (v : FVec Ideal S512x128 .bf16) (w : FVec Ideal S1024x512 .bf16) (o : FVec Ideal S1x1024x128 .f32) (r : Fin 1024) (l : Fin 128) :
    ((k0_pay130 v w o) (ix3 0 r l) : EReal) = o (ix3 0 r l) + ∑ j : Fin 512, w (ix2 r j) * v (ix2 j l) := by
  pointwise [k0_pay130]

theorem logit2_1 (q1 : FVec Ideal S2048x128 .bf16) (b1 : Ideal .f32) (k : FVec Ideal S512x128 .bf16) (r : Fin 1024) (j : Fin 512) :
    ((k0_pay105 q1 b1 k) (ix2 r j) : EReal) = (∑ e : Fin 128, q1 (ix2 (⟨1024 + r.val, by omega⟩ : Fin 2048) e) * k (ix2 j e)) + b1 := by
  pointwise [k0_pay105]

theorem carried2_1 (q1 : FVec Ideal S2048x128 .bf16) (b1 : Ideal .f32) (k : FVec Ideal S512x128 .bf16) (M : IVec S1024x512 1) (mu : FVec Ideal S128x256 .bf16) (c : FVec Ideal S1x1024x128 .f32) (r : Fin 1024) (l : Fin 128) :
    ((k0_pay131 (k0_pay116 mu (k0_pay111 q1 b1 k M)) (k0_pay117 mu (k0_pay111 q1 b1 k M)) (k0_pay118 mu (k0_pay111 q1 b1 k M)) (k0_pay126 mu (k0_pay107 c) (k0_pay111 q1 b1 k M))) (ix3 0 r l) : EReal)
      = carried (fun j => (k0_pay105 q1 b1 k) (ix2 r j)) (fun j => M (ix2 r j)) (fun l => c (ix3 0 r l)) (fun x l => mu (ix2 x l)) l := by
  pointwise [k0_pay107, k0_pay110, k0_pay111, k0_pay116, k0_pay117, k0_pay118, k0_pay119, k0_pay126, k0_pay127, k0_pay128, k0_pay131]
  rfl

theorem summed2_1 (q1 : FVec Ideal S2048x128 .bf16) (b1 : Ideal .f32) (k : FVec Ideal S512x128 .bf16) (M : IVec S1024x512 1) (mu : FVec Ideal S128x256 .bf16) (c : FVec Ideal S1x1024x128 .f32) (v : FVec Ideal S512x128 .bf16) (o : FVec Ideal S1x1024x128 .f32) (r : Fin 1024) (l : Fin 128) :
    ((k0_pay134 (k0_pay132 o) (k0_pay133 v M (k0_pay110 q1 b1 k) (k0_pay116 mu (k0_pay111 q1 b1 k M)) (k0_pay117 mu (k0_pay111 q1 b1 k M)) (k0_pay118 mu (k0_pay111 q1 b1 k M)) (k0_pay125 mu (k0_pay107 c) (k0_pay110 q1 b1 k) (k0_pay111 q1 b1 k M)) (k0_pay126 mu (k0_pay107 c) (k0_pay111 q1 b1 k M)))) (ix3 0 r l) : EReal)
      = o (ix3 0 r l) + ∑ j : Fin 512, weight (fun j => (k0_pay105 q1 b1 k) (ix2 r j)) (fun j => M (ix2 r j)) (fun l => c (ix3 0 r l)) (fun x l => mu (ix2 x l)) j * v (ix2 j l) := by
  pointwise [k0_pay107, k0_pay110, k0_pay111, k0_pay116, k0_pay117, k0_pay118, k0_pay119, k0_pay125, k0_pay126, k0_pay127, k0_pay128, k0_pay132, k0_pay133, k0_pay134]
  exact congrArg (o (ix3 0 r l) + ·) (Finset.sum_congr rfl fun j _ => select_mul _ _ _)

theorem logit1_0 (q0 : FVec Ideal S2048x128 .bf16) (b0 : Ideal .f32) (k : FVec Ideal S512x128 .bf16) (r : Fin 1536) (j : Fin 512) :
    ((k0_pay136 q0 b0 k) (ix2 r j) : EReal) = (∑ e : Fin 128, q0 (ix2 (⟨512 + r.val, by omega⟩ : Fin 2048) e) * k (ix2 j e)) + b0 := by
  pointwise [k0_pay136]

theorem carried1_0 (q0 : FVec Ideal S2048x128 .bf16) (b0 : Ideal .f32) (k : FVec Ideal S512x128 .bf16) (M : IVec S1536x512 1) (mu : FVec Ideal S128x256 .bf16) (c : FVec Ideal S1x1536x128 .f32) (r : Fin 1536) (l : Fin 128) :
    ((k0_pay165 (k0_pay158 (k0_pay138 c) (k0_pay145 mu M (k0_pay136 q0 b0 k) (k0_pay140 q0 b0 k)) (k0_pay146 mu M (k0_pay136 q0 b0 k) (k0_pay140 q0 b0 k)) (k0_pay147 mu M (k0_pay136 q0 b0 k) (k0_pay140 q0 b0 k)) (k0_pay148 mu M (k0_pay136 q0 b0 k) (k0_pay140 q0 b0 k)))) (ix3 0 r l) : EReal)
      = carried (fun j => (k0_pay136 q0 b0 k) (ix2 r j)) (fun j => M (ix2 r j)) (fun l => c (ix3 0 r l)) (fun x l => mu (ix2 x l)) l := by
  pointwise [k0_pay138, k0_pay140, k0_pay141, k0_pay142, k0_pay145, k0_pay146, k0_pay147, k0_pay148, k0_pay155, k0_pay156, k0_pay157, k0_pay158, k0_pay165]
  rfl

theorem weight1_0 (q0 : FVec Ideal S2048x128 .bf16) (b0 : Ideal .f32) (k : FVec Ideal S512x128 .bf16) (M : IVec S1536x512 1) (mu : FVec Ideal S128x256 .bf16) (c : FVec Ideal S1x1536x128 .f32) (r : Fin 1536) (j : Fin 512) :
    ((k0_pay159 M (k0_pay138 c) (k0_pay141 (k0_pay136 q0 b0 k) (k0_pay140 q0 b0 k)) (k0_pay145 mu M (k0_pay136 q0 b0 k) (k0_pay140 q0 b0 k)) (k0_pay146 mu M (k0_pay136 q0 b0 k) (k0_pay140 q0 b0 k)) (k0_pay147 mu M (k0_pay136 q0 b0 k) (k0_pay140 q0 b0 k)) (k0_pay148 mu M (k0_pay136 q0 b0 k) (k0_pay140 q0 b0 k)) (k0_pay153 (k0_pay136 q0 b0 k) (k0_pay140 q0 b0 k)) (k0_pay154 mu M (k0_pay136 q0 b0 k) (k0_pay140 q0 b0 k))) (ix2 r j) : EReal)
      = weight (fun j => (k0_pay136 q0 b0 k) (ix2 r j)) (fun j => M (ix2 r j)) (fun l => c (ix3 0 r l)) (fun x l => mu (ix2 x l)) j := by
  pointwise [k0_pay138, k0_pay140, k0_pay141, k0_pay142, k0_pay145, k0_pay146, k0_pay147, k0_pay148, k0_pay153, k0_pay154, k0_pay155, k0_pay156, k0_pay157, k0_pay159]
  rfl

theorem summed1_0 (v : FVec Ideal S512x128 .bf16) (w : FVec Ideal S1536x512 .bf16) (o : FVec Ideal S1x1536x128 .f32) (r : Fin 1536) (l : Fin 128) :
    ((k0_pay166 v w o) (ix3 0 r l) : EReal) = o (ix3 0 r l) + ∑ j : Fin 512, w (ix2 r j) * v (ix2 j l) := by
  pointwise [k0_pay166]

theorem logit1_1 (q1 : FVec Ideal S2048x128 .bf16) (b1 : Ideal .f32) (k : FVec Ideal S512x128 .bf16) (r : Fin 1536) (j : Fin 512) :
    ((k0_pay137 q1 b1 k) (ix2 r j) : EReal) = (∑ e : Fin 128, q1 (ix2 (⟨512 + r.val, by omega⟩ : Fin 2048) e) * k (ix2 j e)) + b1 := by
  pointwise [k0_pay137]

theorem carried1_1 (q1 : FVec Ideal S2048x128 .bf16) (b1 : Ideal .f32) (k : FVec Ideal S512x128 .bf16) (M : IVec S1536x512 1) (mu : FVec Ideal S128x256 .bf16) (c : FVec Ideal S1x1536x128 .f32) (r : Fin 1536) (l : Fin 128) :
    ((k0_pay167 (k0_pay163 (k0_pay139 c) (k0_pay149 mu M (k0_pay137 q1 b1 k)) (k0_pay150 mu M (k0_pay137 q1 b1 k)) (k0_pay151 mu M (k0_pay137 q1 b1 k)) (k0_pay152 mu M (k0_pay137 q1 b1 k)))) (ix3 0 r l) : EReal)
      = carried (fun j => (k0_pay137 q1 b1 k) (ix2 r j)) (fun j => M (ix2 r j)) (fun l => c (ix3 0 r l)) (fun x l => mu (ix2 x l)) l := by
  pointwise [k0_pay139, k0_pay143, k0_pay144, k0_pay149, k0_pay150, k0_pay151, k0_pay152, k0_pay160, k0_pay161, k0_pay162, k0_pay163, k0_pay167]
  rfl

theorem weight1_1 (q1 : FVec Ideal S2048x128 .bf16) (b1 : Ideal .f32) (k : FVec Ideal S512x128 .bf16) (M : IVec S1536x512 1) (mu : FVec Ideal S128x256 .bf16) (c : FVec Ideal S1x1536x128 .f32) (r : Fin 1536) (j : Fin 512) :
    ((k0_pay164 M (k0_pay139 c) (k0_pay143 (k0_pay137 q1 b1 k)) (k0_pay149 mu M (k0_pay137 q1 b1 k)) (k0_pay150 mu M (k0_pay137 q1 b1 k)) (k0_pay151 mu M (k0_pay137 q1 b1 k)) (k0_pay152 mu M (k0_pay137 q1 b1 k))) (ix2 r j) : EReal)
      = weight (fun j => (k0_pay137 q1 b1 k) (ix2 r j)) (fun j => M (ix2 r j)) (fun l => c (ix3 0 r l)) (fun x l => mu (ix2 x l)) j := by
  pointwise [k0_pay139, k0_pay143, k0_pay144, k0_pay149, k0_pay150, k0_pay151, k0_pay152, k0_pay160, k0_pay161, k0_pay162, k0_pay164]
  rfl

theorem summed1_1 (v : FVec Ideal S512x128 .bf16) (w : FVec Ideal S1536x512 .bf16) (o : FVec Ideal S1x1536x128 .f32) (r : Fin 1536) (l : Fin 128) :
    ((k0_pay168 v w o) (ix3 0 r l) : EReal) = o (ix3 0 r l) + ∑ j : Fin 512, w (ix2 r j) * v (ix2 j l) := by
  pointwise [k0_pay168]

theorem logit0_0 (q0 : FVec Ideal S2048x128 .bf16) (b0 : Ideal .f32) (k : FVec Ideal S512x128 .bf16) (r : Fin 2048) (j : Fin 512) :
    ((k0_pay170 q0 b0 k) (ix2 r j) : EReal) = (∑ e : Fin 128, q0 (ix2 (⟨0 + r.val, by omega⟩ : Fin 2048) e) * k (ix2 j e)) + b0 := by
  pointwise [k0_pay170]

theorem carried0_0 (q0 : FVec Ideal S2048x128 .bf16) (b0 : Ideal .f32) (k : FVec Ideal S512x128 .bf16) (s p : BitVec 32) (n : IVec S2048x512 32) (mu : FVec Ideal S128x256 .bf16) (c : FVec Ideal S1x2048x128 .f32) (r : Fin 2048) (l : Fin 128) :
    ((k0_pay197 (k0_pay191 mu (k0_pay172 c) (k0_pay175 q0 b0 s k p n))) (ix3 0 r l) : EReal)
      = carried (fun j => (k0_pay170 q0 b0 k) (ix2 r j)) (fun j => (k0_pay169 s p n) (ix2 r j)) (fun l => c (ix3 0 r l)) (fun x l => mu (ix2 x l)) l := by
  pointwise [k0_pay172, k0_pay174, k0_pay175, k0_pay180, k0_pay181, k0_pay182, k0_pay183, k0_pay188, k0_pay189, k0_pay190, k0_pay191, k0_pay197]
  rfl

theorem weight0_0 (q0 : FVec Ideal S2048x128 .bf16) (b0 : Ideal .f32) (k : FVec Ideal S512x128 .bf16) (s p : BitVec 32) (n : IVec S2048x512 32) (mu : FVec Ideal S128x256 .bf16) (c : FVec Ideal S1x2048x128 .f32) (r : Fin 2048) (j : Fin 512) :
    ((k0_pay192 mu (k0_pay169 s p n) (k0_pay172 c) (k0_pay174 q0 b0 k) (k0_pay175 q0 b0 s k p n)) (ix2 r j) : EReal)
      = weight (fun j => (k0_pay170 q0 b0 k) (ix2 r j)) (fun j => (k0_pay169 s p n) (ix2 r j)) (fun l => c (ix3 0 r l)) (fun x l => mu (ix2 x l)) j := by
  pointwise [k0_pay172, k0_pay174, k0_pay175, k0_pay180, k0_pay181, k0_pay182, k0_pay183, k0_pay188, k0_pay189, k0_pay190, k0_pay192]
  rfl

theorem summed0_0 (v : FVec Ideal S512x128 .bf16) (w : FVec Ideal S2048x512 .bf16) (o : FVec Ideal S1x2048x128 .f32) (r : Fin 2048) (l : Fin 128) :
    ((k0_pay198 v w o) (ix3 0 r l) : EReal) = o (ix3 0 r l) + ∑ j : Fin 512, w (ix2 r j) * v (ix2 j l) := by
  pointwise [k0_pay198]

theorem logit0_1 (q1 : FVec Ideal S2048x128 .bf16) (b1 : Ideal .f32) (k : FVec Ideal S512x128 .bf16) (r : Fin 2048) (j : Fin 512) :
    ((k0_pay171 q1 b1 k) (ix2 r j) : EReal) = (∑ e : Fin 128, q1 (ix2 (⟨0 + r.val, by omega⟩ : Fin 2048) e) * k (ix2 j e)) + b1 := by
  pointwise [k0_pay171]

theorem carried0_1 (q1 : FVec Ideal S2048x128 .bf16) (b1 : Ideal .f32) (k : FVec Ideal S512x128 .bf16) (s p : BitVec 32) (n : IVec S2048x512 32) (mu : FVec Ideal S128x256 .bf16) (c : FVec Ideal S1x2048x128 .f32) (r : Fin 2048) (l : Fin 128) :
    ((k0_pay199 (k0_pay173 c) (k0_pay184 mu (k0_pay169 s p n) (k0_pay171 q1 b1 k) (k0_pay176 q1 b1 k) (k0_pay177 q1 b1 k)) (k0_pay185 mu (k0_pay169 s p n) (k0_pay171 q1 b1 k) (k0_pay176 q1 b1 k) (k0_pay177 q1 b1 k)) (k0_pay186 mu (k0_pay169 s p n) (k0_pay171 q1 b1 k) (k0_pay176 q1 b1 k) (k0_pay177 q1 b1 k)) (k0_pay187 mu (k0_pay169 s p n) (k0_pay171 q1 b1 k) (k0_pay176 q1 b1 k) (k0_pay177 q1 b1 k))) (ix3 0 r l) : EReal)
      = carried (fun j => (k0_pay171 q1 b1 k) (ix2 r j)) (fun j => (k0_pay169 s p n) (ix2 r j)) (fun l => c (ix3 0 r l)) (fun x l => mu (ix2 x l)) l := by
  pointwise [k0_pay173, k0_pay176, k0_pay177, k0_pay178, k0_pay179, k0_pay184, k0_pay185, k0_pay186, k0_pay187, k0_pay193, k0_pay194, k0_pay195, k0_pay199]
  rfl

theorem weight0_1 (q1 : FVec Ideal S2048x128 .bf16) (b1 : Ideal .f32) (k : FVec Ideal S512x128 .bf16) (s p : BitVec 32) (n : IVec S2048x512 32) (mu : FVec Ideal S128x256 .bf16) (c : FVec Ideal S1x2048x128 .f32) (r : Fin 2048) (j : Fin 512) :
    ((k0_pay196 (k0_pay169 s p n) (k0_pay173 c) (k0_pay178 (k0_pay176 q1 b1 k) (k0_pay177 q1 b1 k)) (k0_pay184 mu (k0_pay169 s p n) (k0_pay171 q1 b1 k) (k0_pay176 q1 b1 k) (k0_pay177 q1 b1 k)) (k0_pay185 mu (k0_pay169 s p n) (k0_pay171 q1 b1 k) (k0_pay176 q1 b1 k) (k0_pay177 q1 b1 k)) (k0_pay186 mu (k0_pay169 s p n) (k0_pay171 q1 b1 k) (k0_pay176 q1 b1 k) (k0_pay177 q1 b1 k)) (k0_pay187 mu (k0_pay169 s p n) (k0_pay171 q1 b1 k) (k0_pay176 q1 b1 k) (k0_pay177 q1 b1 k))) (ix2 r j) : EReal)
      = weight (fun j => (k0_pay171 q1 b1 k) (ix2 r j)) (fun j => (k0_pay169 s p n) (ix2 r j)) (fun l => c (ix3 0 r l)) (fun x l => mu (ix2 x l)) j := by
  pointwise [k0_pay173, k0_pay176, k0_pay177, k0_pay178, k0_pay179, k0_pay184, k0_pay185, k0_pay186, k0_pay187, k0_pay193, k0_pay194, k0_pay195, k0_pay196]
  rfl

theorem summed0_1 (v : FVec Ideal S512x128 .bf16) (w : FVec Ideal S2048x512 .bf16) (o : FVec Ideal S1x2048x128 .f32) (r : Fin 2048) (l : Fin 128) :
    ((k0_pay200 v w o) (ix3 0 r l) : EReal) = o (ix3 0 r l) + ∑ j : Fin 512, w (ix2 r j) * v (ix2 j l) := by
  pointwise [k0_pay200]

theorem logitu_0 (q0 : FVec Ideal S2048x128 .bf16) (b0 : Ideal .f32) (k : FVec Ideal S512x128 .bf16) (r : Fin 2048) (j : Fin 512) :
    ((k0_pay1 q0 b0 k) (ix2 r j) : EReal) = (∑ e : Fin 128, q0 (ix2 (⟨0 + r.val, by omega⟩ : Fin 2048) e) * k (ix2 j e)) + b0 := by
  pointwise [k0_pay1]

theorem carriedu_0 (q0 : FVec Ideal S2048x128 .bf16) (b0 : Ideal .f32) (k : FVec Ideal S512x128 .bf16) (mu : FVec Ideal S128x256 .bf16) (c : FVec Ideal S1x2048x128 .f32) (r : Fin 2048) (l : Fin 128) :
    ((k0_pay27 (k0_pay21 mu (k0_pay3 c) (k0_pay6 q0 b0 k))) (ix3 0 r l) : EReal)
      = carried (fun j => (k0_pay1 q0 b0 k) (ix2 r j)) (fun _ => 1#1) (fun l => c (ix3 0 r l)) (fun x l => mu (ix2 x l)) l := by
  pointwise [k0_pay3, k0_pay5, k0_pay6, k0_pay10, k0_pay11, k0_pay12, k0_pay13, k0_pay18, k0_pay19, k0_pay20, k0_pay21, k0_pay27]
  rfl

theorem weightu_0 (q0 : FVec Ideal S2048x128 .bf16) (b0 : Ideal .f32) (k : FVec Ideal S512x128 .bf16) (mu : FVec Ideal S128x256 .bf16) (c : FVec Ideal S1x2048x128 .f32) (r : Fin 2048) (j : Fin 512) :
    ((k0_pay22 mu (k0_pay3 c) (k0_pay5 q0 b0 k) (k0_pay6 q0 b0 k)) (ix2 r j) : EReal)
      = weight (fun j => (k0_pay1 q0 b0 k) (ix2 r j)) (fun _ => 1#1) (fun l => c (ix3 0 r l)) (fun x l => mu (ix2 x l)) j := by
  pointwise [k0_pay3, k0_pay5, k0_pay6, k0_pay10, k0_pay11, k0_pay12, k0_pay13, k0_pay18, k0_pay19, k0_pay20, k0_pay22]
  rfl

theorem summedu_0 (v : FVec Ideal S512x128 .bf16) (w : FVec Ideal S2048x512 .bf16) (o : FVec Ideal S1x2048x128 .f32) (r : Fin 2048) (l : Fin 128) :
    ((k0_pay28 v w o) (ix3 0 r l) : EReal) = o (ix3 0 r l) + ∑ j : Fin 512, w (ix2 r j) * v (ix2 j l) := by
  pointwise [k0_pay28]

theorem logitu_1 (q1 : FVec Ideal S2048x128 .bf16) (b1 : Ideal .f32) (k : FVec Ideal S512x128 .bf16) (r : Fin 2048) (j : Fin 512) :
    ((k0_pay2 q1 b1 k) (ix2 r j) : EReal) = (∑ e : Fin 128, q1 (ix2 (⟨0 + r.val, by omega⟩ : Fin 2048) e) * k (ix2 j e)) + b1 := by
  pointwise [k0_pay2]

theorem carriedu_1 (q1 : FVec Ideal S2048x128 .bf16) (b1 : Ideal .f32) (k : FVec Ideal S512x128 .bf16) (mu : FVec Ideal S128x256 .bf16) (c : FVec Ideal S1x2048x128 .f32) (r : Fin 2048) (l : Fin 128) :
    ((k0_pay29 (k0_pay4 c) (k0_pay14 mu (k0_pay2 q1 b1 k) (k0_pay7 q1 b1 k)) (k0_pay15 mu (k0_pay2 q1 b1 k) (k0_pay7 q1 b1 k)) (k0_pay16 mu (k0_pay2 q1 b1 k) (k0_pay7 q1 b1 k)) (k0_pay17 mu (k0_pay2 q1 b1 k) (k0_pay7 q1 b1 k))) (ix3 0 r l) : EReal)
      = carried (fun j => (k0_pay2 q1 b1 k) (ix2 r j)) (fun _ => 1#1) (fun l => c (ix3 0 r l)) (fun x l => mu (ix2 x l)) l := by
  pointwise [k0_pay4, k0_pay7, k0_pay8, k0_pay9, k0_pay14, k0_pay15, k0_pay16, k0_pay17, k0_pay23, k0_pay24, k0_pay25, k0_pay29]
  rfl

theorem weightu_1 (q1 : FVec Ideal S2048x128 .bf16) (b1 : Ideal .f32) (k : FVec Ideal S512x128 .bf16) (mu : FVec Ideal S128x256 .bf16) (c : FVec Ideal S1x2048x128 .f32) (r : Fin 2048) (j : Fin 512) :
    ((k0_pay26 (k0_pay4 c) (k0_pay8 (k0_pay2 q1 b1 k) (k0_pay7 q1 b1 k)) (k0_pay14 mu (k0_pay2 q1 b1 k) (k0_pay7 q1 b1 k)) (k0_pay15 mu (k0_pay2 q1 b1 k) (k0_pay7 q1 b1 k)) (k0_pay16 mu (k0_pay2 q1 b1 k) (k0_pay7 q1 b1 k)) (k0_pay17 mu (k0_pay2 q1 b1 k) (k0_pay7 q1 b1 k))) (ix2 r j) : EReal)
      = weight (fun j => (k0_pay2 q1 b1 k) (ix2 r j)) (fun _ => 1#1) (fun l => c (ix3 0 r l)) (fun x l => mu (ix2 x l)) j := by
  pointwise [k0_pay4, k0_pay7, k0_pay8, k0_pay9, k0_pay14, k0_pay15, k0_pay16, k0_pay17, k0_pay23, k0_pay24, k0_pay25, k0_pay26]
  rfl

theorem summedu_1 (v : FVec Ideal S512x128 .bf16) (w : FVec Ideal S2048x512 .bf16) (o : FVec Ideal S1x2048x128 .f32) (r : Fin 2048) (l : Fin 128) :
    ((k0_pay201 v w o) (ix3 0 r l) : EReal) = o (ix3 0 r l) + ∑ j : Fin 512, w (ix2 r j) * v (ix2 j l) := by
  pointwise [k0_pay201]

end Cert.Sb

end
-- ==== Proof.SbStep.lean ====
/- Stick-breaking attention: the sums a query row carries over the keys, and the step of one tile of keys. -/
module

public import proofs.«01_k».proof.Proof.SbPay

@[expose] public section

set_option maxRecDepth 16384

noncomputable section

open Idealize.ShloMosaic Idealize.ShloMosaic.TcCoe Idealize.SL.Sem

namespace Cert.Sb

open Cert.KernelIdeal Cert.KernelIdeal.Gen

section state

/- The queries (one copy for each of the two heads of a pair), the keys, the values, the two biases, and the
   position of the first query. -/
variable (q : Fin 2 → FVec Ideal S2048x128 .bf16) (kb vb : FVec Ideal S4096x128 .bf16) (b : Fin 2 → EReal) (Q : ℕ)

/-- The logit (base 2) of query row `r` and key `j`. -/
def logit (h : Fin 2) (r : Fin 2048) (j : ℕ) : EReal :=
  if hj : j < 4096 then (∑ e : Fin 128, q h (ix2 r e) * kb (ix2 (⟨j, hj⟩ : Fin 4096) e)) + b h else 0

/-- The logarithm of what key `j` leaves to the keys before it. -/
def rest (h : Fin 2) (r : Fin 2048) (j : ℕ) : EReal :=
  if j < Q + r.val then lbeta (logit q kb b h r j) - logit q kb b h r j else 0

/-- The weight of key `j`. -/
def att (h : Fin 2) (r : Fin 2048) (j : ℕ) : EReal :=
  if j < Q + r.val then
    FloatOps.exp2 (F := Ideal) (φ := .f32) (lbeta (logit q kb b h r j) + ∑ i ∈ Finset.Ico (j + 1) 4096, rest q kb b Q h r i)
  else 0

/-- Lane `l` of the value of key `j`. -/
def val (l : Fin 128) (j : ℕ) : EReal := if hj : j < 4096 then vb (ix2 (⟨j, hj⟩ : Fin 4096) l) else 0

/-- What a row carries once the keys from `A` on are done. -/
def sumC (h : Fin 2) (r : Fin 2048) (A : ℕ) : EReal := ∑ j ∈ Finset.Ico A 4096, rest q kb b Q h r j

/-- The weighted values of the keys from `A` on. -/
def sumO (h : Fin 2) (r : Fin 2048) (l : Fin 128) (A : ℕ) : EReal := ∑ j ∈ Finset.Ico A 4096, att q kb b Q h r j * val vb l j

/-- The two scratch arrays once the keys from `A` on are done. -/
def Inv (A : ℕ) (cc oc : FVec Ideal S2x2048x128 .f32) : Prop :=
  ∀ (h : Fin 2) (r : Fin 2048) (l : Fin 128), cc (ix3 h r l) = sumC q kb b Q h r A ∧ oc (ix3 h r l) = sumO q kb vb b Q h r l A

variable {q kb vb b Q}

/-- One tile, for one row. -/
theorem row_step {h : Fin 2} {r : Fin 2048} {l : Fin 128} (A : ℕ) (hA : A + 512 ≤ 4096)
    {Z : Fin 512 → EReal} {M : Fin 512 → BitVec 1} {c : Fin 128 → EReal} {mu : Fin 128 → Fin 256 → EReal} {o : EReal} {v : Fin 512 → EReal}
    (hmu : ∀ (x : Fin 128) (y : Fin 256), mu x y = if 128 ≤ y.val ∨ y.val < x.val then 1 else 0)
    (hZ : ∀ j, Z j = logit q kb b h r (A + j.val)) (hM : ∀ j, M j = if A + j.val < Q + r.val then 1#1 else 0#1)
    (hc : ∀ l, c l = sumC q kb b Q h r (A + 512)) (ho : o = sumO q kb vb b Q h r l (A + 512)) (hv : ∀ j, v j = val vb l (A + j.val)) :
    carried Z M c mu l = sumC q kb b Q h r A ∧ o + (∑ j : Fin 512, weight Z M c mu j * v j) = sumO q kb vb b Q h r l A := by
  have hf : ∀ j, Scalar.select (M j) (lbeta (Z j) - Z j) 0 = rest q kb b Q h r (A + j.val) := fun j => by
    rw [hM, hZ, rest]
    split <;> rfl
  have hw : ∀ j, weight Z M c mu j = att q kb b Q h r (A + j.val) := fun j => by
    rw [weight_eq (rest q kb b Q h r) A Z M mu hf hmu 4096 hA c hc, hM, hZ, att]
    split <;> rfl
  refine ⟨carried_eq (rest q kb b Q h r) A Z M mu hf hmu 4096 hA c hc l, ?_⟩
  rw [ho, Finset.sum_congr rfl fun j _ => by rw [hw, hv], sumO, sumO,
    Fin.sum_univ_eq_sum_range (fun j => att q kb b Q h r (A + j) * val vb l (A + j)) 512, add_comm,
    ← Finset.sum_Ico_consecutive _ (by omega : A ≤ A + 512) hA]
  congr 1
  rw [Finset.sum_Ico_eq_sum_range, Nat.add_sub_cancel_left]

/-- A row none of whose keys is in the tile keeps its sums. -/
theorem row_skip {h : Fin 2} {r : Fin 2048} {l : Fin 128} (A : ℕ) (hA : A + 512 ≤ 4096) (hr : Q + r.val ≤ A) :
    sumC q kb b Q h r (A + 512) = sumC q kb b Q h r A ∧ sumO q kb vb b Q h r l (A + 512) = sumO q kb vb b Q h r l A := by
  have h0 : (∑ j ∈ Finset.Ico A (A + 512), rest q kb b Q h r j) = 0 :=
    Finset.sum_eq_zero fun j hj => if_neg (by rw [Finset.mem_Ico] at hj; omega)
  have h1 : (∑ j ∈ Finset.Ico A (A + 512), att q kb b Q h r j * val vb l j) = 0 :=
    Finset.sum_eq_zero fun j hj => by rw [att, if_neg (by rw [Finset.mem_Ico] at hj; omega), zero_mul]
  constructor
  · rw [sumC, sumC, ← Finset.sum_Ico_consecutive _ (by omega : A ≤ A + 512) hA, h0, zero_add]
  · rw [sumO, sumO, ← Finset.sum_Ico_consecutive _ (by omega : A ≤ A + 512) hA, h1, zero_add]

/-- A row has no key at or past its own position. -/
theorem row_start {h : Fin 2} {r : Fin 2048} {l : Fin 128} (A : ℕ) (hr : Q + r.val ≤ A) :
    sumC q kb b Q h r A = 0 ∧ sumO q kb vb b Q h r l A = 0 :=
  ⟨Finset.sum_eq_zero fun j hj => if_neg (by rw [Finset.mem_Ico] at hj; omega),
   Finset.sum_eq_zero fun j hj => by rw [att, if_neg (by rw [Finset.mem_Ico] at hj; omega), zero_mul]⟩

/-- One tile, whose stores reach the rows from `o` on. -/
theorem tile_step (A : ℕ) (hA : A + 512 ≤ 4096) (o : ℕ) (ho : ∀ r < o, Q + r ≤ A)
    {cL oL cN oN : FVec Ideal S2x2048x128 .f32} (hI : Inv q kb vb b Q (A + 512) cL oL)
    (Z : Fin 2 → Fin 2048 → Fin 512 → EReal) (M : Fin 2048 → Fin 512 → BitVec 1)
    {mu : Fin 128 → Fin 256 → EReal} {v : Fin 512 → Fin 128 → EReal}
    (hmu : ∀ (x : Fin 128) (y : Fin 256), mu x y = if 128 ≤ y.val ∨ y.val < x.val then 1 else 0)
    (hZ : ∀ h r j, o ≤ r.val → Z h r j = logit q kb b h r (A + j.val))
    (hM : ∀ r j, o ≤ r.val → M r j = if A + j.val < Q + r.val then 1#1 else 0#1)
    (hv : ∀ j l, v j l = val vb l (A + j.val))
    (hcN : ∀ h r l, o ≤ r.val → cN (ix3 h r l) = carried (Z h r) (M r) (fun l => cL (ix3 h r l)) mu l)
    (hoN : ∀ h r l, o ≤ r.val →
      oN (ix3 h r l) = oL (ix3 h r l) + ∑ j : Fin 512, weight (Z h r) (M r) (fun l => cL (ix3 h r l)) mu j * v j l)
    (hcS : ∀ h r l, r.val < o → cN (ix3 h r l) = cL (ix3 h r l))
    (hoS : ∀ h r l, r.val < o → oN (ix3 h r l) = oL (ix3 h r l)) :
    Inv q kb vb b Q A cN oN := fun h r l => by
  by_cases hr : o ≤ r.val
  · rw [hcN h r l hr, hoN h r l hr]
    exact row_step A hA hmu (fun j => hZ h r j hr) (fun j => hM r j hr) (fun l => (hI h r l).1) (hI h r l).2 fun j => hv j l
  · have hr' : r.val < o := by omega
    rw [hcS h r l hr', hoS h r l hr', (hI h r l).1, (hI h r l).2]
    exact row_skip A hA (ho r hr')

end state

/-! ## The masks -/

/-- A bit that says of two small words which is less. -/
theorem slt_bit (a c : ℕ) (ha : a < 2 ^ 31) (hc : c < 2 ^ 31) :
    IntOp.cmpi .slt (BitVec.ofNat 32 a) (BitVec.ofNat 32 c) = if a < c then 1#1 else 0#1 := by
  rw [WordCmp.cmpi_slt_ofNat ha hc, WordCmp.ofBool_decide_eq_ite]

/-- The mask of the tile on the diagonal: a key before the query. -/
theorem mask3 (n : ℕ) (hn : n < 2) (r j : Fin 512) :
    k0_pay70 (BitVec.ofNat 32 n) (ix2 r j) = if n * 2048 + 1536 + j.val < n * 2048 + (1536 + r.val) then 1#1 else 0#1 := by
  rw [← slt_bit _ _ (by omega) (by omega)]
  pointwise [k0_pay70]
  rw [show (4#32) = BitVec.ofNat 32 4 from rfl, show (3#32) = BitVec.ofNat 32 3 from rfl, show (512#32) = BitVec.ofNat 32 512 from rfl,
    show (2048#32) = BitVec.ofNat 32 2048 from rfl, show (1536#32) = BitVec.ofNat 32 1536 from rfl]
  simp only [Scalar.muli, Scalar.addi, WordCmp.muli_ofNat, WordCmp.addi_ofNat]
  congr 2 <;> omega

theorem mask2 (n : ℕ) (hn : n < 2) (r : Fin 1024) (j : Fin 512) :
    k0_pay102 (BitVec.ofNat 32 n) (ix2 r j) = if n * 2048 + 1024 + j.val < n * 2048 + (1024 + r.val) then 1#1 else 0#1 := by
  rw [← slt_bit _ _ (by omega) (by omega)]
  pointwise [k0_pay102]
  rw [show (4#32) = BitVec.ofNat 32 4 from rfl, show (2#32) = BitVec.ofNat 32 2 from rfl, show (512#32) = BitVec.ofNat 32 512 from rfl,
    show (2048#32) = BitVec.ofNat 32 2048 from rfl, show (1024#32) = BitVec.ofNat 32 1024 from rfl]
  simp only [Scalar.muli, Scalar.addi, WordCmp.muli_ofNat, WordCmp.addi_ofNat]
  congr 2 <;> omega

theorem mask1 (n : ℕ) (hn : n < 2) (r : Fin 1536) (j : Fin 512) :
    k0_pay135 (BitVec.ofNat 32 n) (ix2 r j) = if n * 2048 + 512 + j.val < n * 2048 + (512 + r.val) then 1#1 else 0#1 := by
  rw [← slt_bit _ _ (by omega) (by omega)]
  pointwise [k0_pay135]
  rw [show (4#32) = BitVec.ofNat 32 4 from rfl, show (1#32) = BitVec.ofNat 32 1 from rfl, show (512#32) = BitVec.ofNat 32 512 from rfl,
    show (2048#32) = BitVec.ofNat 32 2048 from rfl]
  simp only [Scalar.muli, Scalar.addi, WordCmp.muli_ofNat, WordCmp.addi_ofNat]
  congr 2 <;> omega

theorem mask0 (n : ℕ) (hn : n < 2) (r : Fin 2048) (j : Fin 512) :
    k0_pay169 (Scalar.muli (Scalar.addi (Scalar.muli (BitVec.ofNat 32 n) 4#32) 0#32) 512#32)
      (Scalar.addi (Scalar.muli (BitVec.ofNat 32 n) 2048#32) 0#32) (iota .tc S2048x512 32 [0] iota_S2048x512_d0_w32) (ix2 r j)
      = if n * 2048 + j.val < n * 2048 + r.val then 1#1 else 0#1 := by
  rw [← slt_bit _ _ (by omega) (by omega)]
  pointwise [k0_pay169]
  rw [show (4#32) = BitVec.ofNat 32 4 from rfl, show (0#32) = BitVec.ofNat 32 0 from rfl, show (512#32) = BitVec.ofNat 32 512 from rfl,
    show (2048#32) = BitVec.ofNat 32 2048 from rfl]
  simp only [Scalar.muli, Scalar.addi, WordCmp.muli_ofNat, WordCmp.addi_ofNat]
  congr 2 <;> omega

/-- The same of a block of rows stored over part of a scratch array. -/
theorem canon_rows (h o R : ℕ) (hR : o + R ≤ 2048) (inb : ∀ a, (![h, o, 0] : Fin 3 → ℕ) a + (![1, R, 128] : Fin 3 → ℕ) a ≤ S2x2048x128.size a)
    (w : FVec Ideal (Rect.unit (s := S2x2048x128) ![h, o, 0] ![1, R, 128] inb).shape .f32) (L : List (View.Piece (Elt Ideal) S2x2048x128 .f32))
    (h' : Fin 2) (r : Fin 2048) (l : Fin 128) :
    View.canon (⟨Rect.unit ![h, o, 0] ![1, R, 128] inb, w⟩ :: L) (ix3 h' r l)
      = if hr : h'.val = h ∧ o ≤ r.val ∧ r.val < o + R then w (ix3 (0 : Fin 1) (⟨r.val - o, by omega⟩ : Fin R) l) else View.canon L (ix3 h' r l) := by
  split
  · rename_i hr
    have e : (Rect.unit (s := S2x2048x128) ![h, o, 0] ![1, R, 128] inb).emb (ix3 (0 : Fin 1) (⟨r.val - o, by omega⟩ : Fin R) l) = ix3 h' r l :=
      funext fun a => Fin.ext (by
        fin_cases a
        · show h + 1 * 0 = h'.val; omega
        · show o + 1 * (r.val - o) = r.val; omega
        · show 0 + 1 * l.val = l.val; omega)
    rw [← e]
    exact View.canon_cons_emb _ w L _
  · rename_i hr
    refine View.canon_cons_of_not_mem _ L fun hm => hr ?_
    rw [Rect.mem_set_unit] at hm
    have h0 : h ≤ h'.val ∧ h'.val < h + 1 := hm 0
    have h1 : o ≤ r.val ∧ r.val < o + R := hm 1
    omega

/-- A load of a block of rows. -/
theorem ld_rows (h o R : ℕ) (hh : h < 2) (hR : o + R ≤ 2048) (inb : ∀ a, (![h, o, 0] : Fin 3 → ℕ) a + (![1, R, 128] : Fin 3 → ℕ) a ≤ S2x2048x128.size a)
    (v : View sig .tc .vmem S2x2048x128 .f32) (L : List (View.Piece (Elt Ideal) S2x2048x128 .f32)) (r : Fin R) (l : Fin 128) :
    v.readCov L (Rect.unit (s := S2x2048x128) ![h, o, 0] ![1, R, 128] inb).toLoadRect (ix3 (0 : Fin 1) r l)
      = View.canon L (ix3 (⟨h, hh⟩ : Fin 2) (⟨o + r.val, by omega⟩ : Fin 2048) l) := by
  rw [View.readCov_eq_canon']
  refine congrArg (View.canon L) (funext fun a => Fin.ext ?_)
  fin_cases a
  · show h + 1 * 0 = h; omega
  · show o + 1 * r.val = o + r.val; omega
  · show 0 + 1 * l.val = l.val; omega

end Cert.Sb

end
-- ==== Proof.SbTiles.lean ====
/- Stick-breaking attention: the step of each tile of keys of the kernel's body, on the scratch arrays' contents. -/
module

public import proofs.«01_k».proof.Proof.SbStep

@[expose] public section

set_option maxRecDepth 16384

noncomputable section

open Idealize.ShloMosaic Idealize.ShloMosaic.TcCoe Idealize.SL.Sem

namespace Cert.Sb

open Cert.KernelIdeal Cert.KernelIdeal.Gen

/-- The head's own of two. -/
def two {α : Type} (x y : α) : Fin 2 → α
  | 0 => x
  | 1 => y

/-- A tile's logits are those of its keys. -/
theorem tile_logit {q : Fin 2 → FVec Ideal S2048x128 .bf16} {kb : FVec Ideal S4096x128 .bf16} {b : Fin 2 → EReal} {A : ℕ} (hA : A + 512 ≤ 4096)
    {kt : FVec Ideal S512x128 .bf16} (hk : ∀ (j : Fin 512) (e : Fin 128) (j' : Fin 4096), j'.val = A + j.val → kt (ix2 j e) = kb (ix2 j' e))
    (h : Fin 2) (r : Fin 2048) (j : Fin 512) :
    (∑ e : Fin 128, q h (ix2 r e) * kt (ix2 j e)) + b h = logit q kb b h r (A + j.val) := by
  rw [logit, dif_pos (by omega)]
  exact congrArg (· + b h) (Finset.sum_congr rfl fun e _ => congrArg (q h (ix2 r e) * ·) (hk j e _ rfl))

/-- A tile's values are those of its keys. -/
theorem tile_val {vb : FVec Ideal S4096x128 .bf16} {A : ℕ} (hA : A + 512 ≤ 4096)
    {vt : FVec Ideal S512x128 .bf16} (hv : ∀ (j : Fin 512) (e : Fin 128) (j' : Fin 4096), j'.val = A + j.val → vt (ix2 j e) = vb (ix2 j' e))
    (j : Fin 512) (l : Fin 128) : (vt (ix2 j l) : EReal) = val vb l (A + j.val) := by
  rw [val, dif_pos (by omega)]
  exact hv j l _ rfl

/-- A sum of weighted values, by equal weights. -/
theorem summed_of {x o : EReal} {w W v : Fin 512 → EReal} (h : x = o + ∑ j : Fin 512, w j * v j) (hw : ∀ j, w j = W j) :
    x = o + ∑ j : Fin 512, W j * v j := by
  rw [h]
  exact congrArg (o + ·) (Finset.sum_congr rfl fun j _ => congrArg (· * v j) (hw j))

/-- The stores of one tile, over what the earlier ones left. -/
theorem pieces_step {q : Fin 2 → FVec Ideal S2048x128 .bf16} {kb vb : FVec Ideal S4096x128 .bf16} {b : Fin 2 → EReal} {Q : ℕ}
    (A o R : ℕ) (hA : A + 512 ≤ 4096) (hoR : o + R = 2048) (ho : ∀ r < o, Q + r ≤ A)
    {L2 L3 : List (View.Piece (Elt Ideal) S2x2048x128 .f32)} (hI : Inv q kb vb b Q (A + 512) (View.canon L2) (View.canon L3))
    (v11 v12 : View sig .tc .vmem S2x2048x128 .f32)
    (in0 : ∀ a, (![0, o, 0] : Fin 3 → ℕ) a + (![1, R, 128] : Fin 3 → ℕ) a ≤ S2x2048x128.size a)
    (in1 : ∀ a, (![1, o, 0] : Fin 3 → ℕ) a + (![1, R, 128] : Fin 3 → ℕ) a ≤ S2x2048x128.size a)
    (w0c w0o : FVec Ideal (Rect.unit (s := S2x2048x128) ![0, o, 0] ![1, R, 128] in0).shape .f32)
    (w1c w1o : FVec Ideal (Rect.unit (s := S2x2048x128) ![1, o, 0] ![1, R, 128] in1).shape .f32)
    (Z : Fin 2 → Fin R → Fin 512 → EReal) (M : Fin R → Fin 512 → BitVec 1) {mu : Fin 128 → Fin 256 → EReal} {v : Fin 512 → Fin 128 → EReal}
    (hmu : ∀ (x : Fin 128) (y : Fin 256), mu x y = if 128 ≤ y.val ∨ y.val < x.val then 1 else 0)
    (hZ : ∀ (h : Fin 2) (r : Fin R) (r' : Fin 2048) (j : Fin 512), r'.val = o + r.val → Z h r j = logit q kb b h r' (A + j.val))
    (hM : ∀ (r : Fin R) (j : Fin 512), M r j = if A + j.val < Q + (o + r.val) then 1#1 else 0#1)
    (hv : ∀ j l, v j l = val vb l (A + j.val))
    (h0c : ∀ (r : Fin R) (l : Fin 128), w0c (ix3 (0 : Fin 1) r l)
      = carried (Z 0 r) (M r) (fun l => v11.readCov L2 (Rect.unit (s := S2x2048x128) ![0, o, 0] ![1, R, 128] in0).toLoadRect (ix3 (0 : Fin 1) r l)) mu l)
    (h1c : ∀ (r : Fin R) (l : Fin 128), w1c (ix3 (0 : Fin 1) r l)
      = carried (Z 1 r) (M r) (fun l => v11.readCov L2 (Rect.unit (s := S2x2048x128) ![1, o, 0] ![1, R, 128] in1).toLoadRect (ix3 (0 : Fin 1) r l)) mu l)
    (h0o : ∀ (r : Fin R) (l : Fin 128), w0o (ix3 (0 : Fin 1) r l)
      = v12.readCov L3 (Rect.unit (s := S2x2048x128) ![0, o, 0] ![1, R, 128] in0).toLoadRect (ix3 (0 : Fin 1) r l)
        + ∑ j : Fin 512, weight (Z 0 r) (M r) (fun l => v11.readCov L2 (Rect.unit (s := S2x2048x128) ![0, o, 0] ![1, R, 128] in0).toLoadRect (ix3 (0 : Fin 1) r l)) mu j * v j l)
    (h1o : ∀ (r : Fin R) (l : Fin 128), w1o (ix3 (0 : Fin 1) r l)
      = v12.readCov (⟨Rect.unit (s := S2x2048x128) ![0, o, 0] ![1, R, 128] in0, w0o⟩ :: L3) (Rect.unit (s := S2x2048x128) ![1, o, 0] ![1, R, 128] in1).toLoadRect (ix3 (0 : Fin 1) r l)
        + ∑ j : Fin 512, weight (Z 1 r) (M r) (fun l => v11.readCov L2 (Rect.unit (s := S2x2048x128) ![1, o, 0] ![1, R, 128] in1).toLoadRect (ix3 (0 : Fin 1) r l)) mu j * v j l) :
    Inv q kb vb b Q A
      (View.canon (⟨Rect.unit (s := S2x2048x128) ![1, o, 0] ![1, R, 128] in1, w1c⟩ :: ⟨Rect.unit (s := S2x2048x128) ![0, o, 0] ![1, R, 128] in0, w0c⟩ :: L2))
      (View.canon (⟨Rect.unit (s := S2x2048x128) ![1, o, 0] ![1, R, 128] in1, w1o⟩ :: ⟨Rect.unit (s := S2x2048x128) ![0, o, 0] ![1, R, 128] in0, w0o⟩ :: L3)) := by
  intro h r l
  rw [canon_rows 1 o R (by omega) in1, canon_rows 1 o R (by omega) in1]
  by_cases hr : o ≤ r.val
  · have hrR : r.val - o < R := by omega
    have er : (⟨o + (r.val - o), by omega⟩ : Fin 2048) = r := Fin.ext (by show o + (r.val - o) = r.val; omega)
    match h with
    | 0 =>
      rw [dif_neg (by rintro ⟨h, -⟩; exact absurd h (by decide)), dif_neg (by rintro ⟨h, -⟩; exact absurd h (by decide)),
        canon_rows 0 o R (by omega) in0, canon_rows 0 o R (by omega) in0, dif_pos ⟨rfl, hr, by omega⟩, dif_pos ⟨rfl, hr, by omega⟩, h0c, h0o]
      refine row_step A hA hmu (fun j => hZ 0 _ r j (by show r.val = o + (r.val - o); omega)) (fun j => (hM _ j).trans ?_) (fun l => ?_) ?_ fun j => hv j l
      · rw [show o + (r.val - o) = r.val by omega]
      · rw [ld_rows 0 o R (by omega) (by omega) in0]
        exact (congrArg (fun x => View.canon L2 (ix3 (0 : Fin 2) x l)) er).trans (hI 0 r l).1
      · rw [ld_rows 0 o R (by omega) (by omega) in0]
        exact (congrArg (fun x => View.canon L3 (ix3 (0 : Fin 2) x l)) er).trans (hI 0 r l).2
    | 1 =>
      rw [dif_pos ⟨rfl, hr, by omega⟩, dif_pos ⟨rfl, hr, by omega⟩, h1c, h1o]
      refine row_step A hA hmu (fun j => hZ 1 _ r j (by show r.val = o + (r.val - o); omega)) (fun j => (hM _ j).trans ?_) (fun l => ?_) ?_ fun j => hv j l
      · rw [show o + (r.val - o) = r.val by omega]
      · rw [ld_rows 1 o R (by omega) (by omega) in1]
        exact (congrArg (fun x => View.canon L2 (ix3 (1 : Fin 2) x l)) er).trans (hI 1 r l).1
      · rw [ld_rows 1 o R (by omega) (by omega) in1, canon_rows 0 o R (by omega) in0, dif_neg (by rintro ⟨h, -⟩; exact absurd h (by decide : ¬ (1 = 0)))]
        exact (congrArg (fun x => View.canon L3 (ix3 (1 : Fin 2) x l)) er).trans (hI 1 r l).2
  · rw [dif_neg (fun h => hr h.2.1), dif_neg (fun h => hr h.2.1), canon_rows 0 o R (by omega) in0, canon_rows 0 o R (by omega) in0,
      dif_neg (fun h => hr h.2.1), dif_neg (fun h => hr h.2.1), (hI h r l).1, (hI h r l).2]
    exact row_skip A hA (ho r.val (by omega))

/-- The same, where the second head's sum is loaded before the first head's is stored. -/
theorem pieces_step_of {q : Fin 2 → FVec Ideal S2048x128 .bf16} {kb vb : FVec Ideal S4096x128 .bf16} {b : Fin 2 → EReal} {Q : ℕ}
    (A o R : ℕ) (hA : A + 512 ≤ 4096) (hoR : o + R = 2048) (ho : ∀ r < o, Q + r ≤ A)
    {L2 L3 : List (View.Piece (Elt Ideal) S2x2048x128 .f32)} (hI : Inv q kb vb b Q (A + 512) (View.canon L2) (View.canon L3))
    (v11 v12 : View sig .tc .vmem S2x2048x128 .f32)
    (in0 : ∀ a, (![0, o, 0] : Fin 3 → ℕ) a + (![1, R, 128] : Fin 3 → ℕ) a ≤ S2x2048x128.size a)
    (in1 : ∀ a, (![1, o, 0] : Fin 3 → ℕ) a + (![1, R, 128] : Fin 3 → ℕ) a ≤ S2x2048x128.size a)
    (w0c w0o : FVec Ideal (Rect.unit (s := S2x2048x128) ![0, o, 0] ![1, R, 128] in0).shape .f32)
    (w1c w1o : FVec Ideal (Rect.unit (s := S2x2048x128) ![1, o, 0] ![1, R, 128] in1).shape .f32)
    (Z : Fin 2 → Fin R → Fin 512 → EReal) (M : Fin R → Fin 512 → BitVec 1) {mu : Fin 128 → Fin 256 → EReal} {v : Fin 512 → Fin 128 → EReal}
    (hmu : ∀ (x : Fin 128) (y : Fin 256), mu x y = if 128 ≤ y.val ∨ y.val < x.val then 1 else 0)
    (hZ : ∀ (h : Fin 2) (r : Fin R) (r' : Fin 2048) (j : Fin 512), r'.val = o + r.val → Z h r j = logit q kb b h r' (A + j.val))
    (hM : ∀ (r : Fin R) (j : Fin 512), M r j = if A + j.val < Q + (o + r.val) then 1#1 else 0#1)
    (hv : ∀ j l, v j l = val vb l (A + j.val))
    (h0c : ∀ (r : Fin R) (l : Fin 128), w0c (ix3 (0 : Fin 1) r l)
      = carried (Z 0 r) (M r) (fun l => v11.readCov L2 (Rect.unit (s := S2x2048x128) ![0, o, 0] ![1, R, 128] in0).toLoadRect (ix3 (0 : Fin 1) r l)) mu l)
    (h1c : ∀ (r : Fin R) (l : Fin 128), w1c (ix3 (0 : Fin 1) r l)
      = carried (Z 1 r) (M r) (fun l => v11.readCov L2 (Rect.unit (s := S2x2048x128) ![1, o, 0] ![1, R, 128] in1).toLoadRect (ix3 (0 : Fin 1) r l)) mu l)
    (h0o : ∀ (r : Fin R) (l : Fin 128), w0o (ix3 (0 : Fin 1) r l)
      = v12.readCov L3 (Rect.unit (s := S2x2048x128) ![0, o, 0] ![1, R, 128] in0).toLoadRect (ix3 (0 : Fin 1) r l)
        + ∑ j : Fin 512, weight (Z 0 r) (M r) (fun l => v11.readCov L2 (Rect.unit (s := S2x2048x128) ![0, o, 0] ![1, R, 128] in0).toLoadRect (ix3 (0 : Fin 1) r l)) mu j * v j l)
    (h1o : ∀ (r : Fin R) (l : Fin 128), w1o (ix3 (0 : Fin 1) r l)
      = v12.readCov L3 (Rect.unit (s := S2x2048x128) ![1, o, 0] ![1, R, 128] in1).toLoadRect (ix3 (0 : Fin 1) r l)
        + ∑ j : Fin 512, weight (Z 1 r) (M r) (fun l => v11.readCov L2 (Rect.unit (s := S2x2048x128) ![1, o, 0] ![1, R, 128] in1).toLoadRect (ix3 (0 : Fin 1) r l)) mu j * v j l) :
    Inv q kb vb b Q A
      (View.canon (⟨Rect.unit (s := S2x2048x128) ![1, o, 0] ![1, R, 128] in1, w1c⟩ :: ⟨Rect.unit (s := S2x2048x128) ![0, o, 0] ![1, R, 128] in0, w0c⟩ :: L2))
      (View.canon (⟨Rect.unit (s := S2x2048x128) ![1, o, 0] ![1, R, 128] in1, w1o⟩ :: ⟨Rect.unit (s := S2x2048x128) ![0, o, 0] ![1, R, 128] in0, w0o⟩ :: L3)) := by
  refine pieces_step A o R hA hoR ho hI v11 v12 in0 in1 w0c w0o w1c w1o Z M hmu hZ hM hv h0c h1c h0o fun r l => (h1o r l).trans ?_
  rw [ld_rows 1 o R (by omega) (by omega) in1, ld_rows 1 o R (by omega) (by omega) in1, canon_rows 0 o R (by omega) in0,
    dif_neg (by rintro ⟨h, -⟩; exact absurd h (by decide : ¬ (1 = 0)))]

set_option maxHeartbeats 400000 in
/-- The step of the last of the four tiles of keys against the queries' own block. -/
theorem step3 (n : ℕ) (hn : n < 2) {q0 q1 : FVec Ideal S2048x128 .bf16} {b0 b1 : Ideal .f32} {kb vb : FVec Ideal S4096x128 .bf16}
    (kt vt : FVec Ideal S512x128 .bf16) (mu : FVec Ideal S128x256 .bf16)
    (hmu : ∀ (x : Fin 128) (y : Fin 256), (mu (ix2 x y) : EReal) = if 128 ≤ y.val ∨ y.val < x.val then 1 else 0)
    (hk : ∀ (j : Fin 512) (e : Fin 128) (j' : Fin 4096), j'.val = (n * 2048 + 1536) + j.val → kt (ix2 j e) = kb (ix2 j' e))
    (hv : ∀ (j : Fin 512) (e : Fin 128) (j' : Fin 4096), j'.val = (n * 2048 + 1536) + j.val → vt (ix2 j e) = vb (ix2 j' e))
    (v11 v12 : View sig .tc .vmem S2x2048x128 .f32) {L2 L3 : List (View.Piece (Elt Ideal) S2x2048x128 .f32)}
    (hI : Inv (two q0 q1) kb vb (two b0 b1) (n * 2048) ((n * 2048 + 1536) + 512) (View.canon L2) (View.canon L3))
    (in0 : ∀ a, (![0, 1536, 0] : Fin 3 → ℕ) a + S1x512x128.size a ≤ S2x2048x128.size a)
    (in1 : ∀ a, (![1, 1536, 0] : Fin 3 → ℕ) a + S1x512x128.size a ≤ S2x2048x128.size a) :
    Inv (two q0 q1) kb vb (two b0 b1) (n * 2048) (n * 2048 + 1536)
      (View.canon (⟨(Rect.unit (s := S2x2048x128) ![1, 1536, 0] S1x512x128.size in1), (k0_pay100 (k0_pay96 (k0_pay74 (v11.readCov L2 (Rect.unit (s := S2x2048x128) ![1, 1536, 0] S1x512x128.size in1).toLoadRect)) (k0_pay83 mu (k0_pay70 (BitVec.ofNat 32 n)) (k0_pay72 q1 b1 kt)) (k0_pay84 mu (k0_pay70 (BitVec.ofNat 32 n)) (k0_pay72 q1 b1 kt)) (k0_pay85 mu (k0_pay70 (BitVec.ofNat 32 n)) (k0_pay72 q1 b1 kt)) (k0_pay86 mu (k0_pay70 (BitVec.ofNat 32 n)) (k0_pay72 q1 b1 kt))))⟩ :: ⟨(Rect.unit (s := S2x2048x128) ![0, 1536, 0] S1x512x128.size in0), (k0_pay98 (k0_pay79 mu (k0_pay70 (BitVec.ofNat 32 n)) (k0_pay71 q0 b0 kt) (k0_pay75 q0 b0 kt)) (k0_pay80 mu (k0_pay70 (BitVec.ofNat 32 n)) (k0_pay71 q0 b0 kt) (k0_pay75 q0 b0 kt)) (k0_pay81 mu (k0_pay70 (BitVec.ofNat 32 n)) (k0_pay71 q0 b0 kt) (k0_pay75 q0 b0 kt)) (k0_pay88 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)))⟩ :: L2))
      (View.canon (⟨(Rect.unit (s := S2x2048x128) ![1, 1536, 0] S1x512x128.size in1), (k0_pay101 vt (k0_pay97 (k0_pay70 (BitVec.ofNat 32 n)) (k0_pay74 (v11.readCov L2 (Rect.unit (s := S2x2048x128) ![1, 1536, 0] S1x512x128.size in1).toLoadRect)) (k0_pay77 (k0_pay72 q1 b1 kt)) (k0_pay83 mu (k0_pay70 (BitVec.ofNat 32 n)) (k0_pay72 q1 b1 kt)) (k0_pay84 mu (k0_pay70 (BitVec.ofNat 32 n)) (k0_pay72 q1 b1 kt)) (k0_pay85 mu (k0_pay70 (BitVec.ofNat 32 n)) (k0_pay72 q1 b1 kt)) (k0_pay86 mu (k0_pay70 (BitVec.ofNat 32 n)) (k0_pay72 q1 b1 kt))) (v12.readCov (⟨(Rect.unit (s := S2x2048x128) ![0, 1536, 0] S1x512x128.size in0), (k0_pay99 vt (k0_pay92 (k0_pay70 (BitVec.ofNat 32 n)) (k0_pay75 q0 b0 kt) (k0_pay79 mu (k0_pay70 (BitVec.ofNat 32 n)) (k0_pay71 q0 b0 kt) (k0_pay75 q0 b0 kt)) (k0_pay80 mu (k0_pay70 (BitVec.ofNat 32 n)) (k0_pay71 q0 b0 kt) (k0_pay75 q0 b0 kt)) (k0_pay81 mu (k0_pay70 (BitVec.ofNat 32 n)) (k0_pay71 q0 b0 kt) (k0_pay75 q0 b0 kt)) (k0_pay87 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay88 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay89 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt))) (v12.readCov L3 (Rect.unit (s := S2x2048x128) ![0, 1536, 0] S1x512x128.size in0).toLoadRect))⟩ :: L3) (Rect.unit (s := S2x2048x128) ![1, 1536, 0] S1x512x128.size in1).toLoadRect))⟩ :: ⟨(Rect.unit (s := S2x2048x128) ![0, 1536, 0] S1x512x128.size in0), (k0_pay99 vt (k0_pay92 (k0_pay70 (BitVec.ofNat 32 n)) (k0_pay75 q0 b0 kt) (k0_pay79 mu (k0_pay70 (BitVec.ofNat 32 n)) (k0_pay71 q0 b0 kt) (k0_pay75 q0 b0 kt)) (k0_pay80 mu (k0_pay70 (BitVec.ofNat 32 n)) (k0_pay71 q0 b0 kt) (k0_pay75 q0 b0 kt)) (k0_pay81 mu (k0_pay70 (BitVec.ofNat 32 n)) (k0_pay71 q0 b0 kt) (k0_pay75 q0 b0 kt)) (k0_pay87 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay88 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay89 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt))) (v12.readCov L3 (Rect.unit (s := S2x2048x128) ![0, 1536, 0] S1x512x128.size in0).toLoadRect))⟩ :: L3)) := by
  refine pieces_step (n * 2048 + 1536) 1536 512 (by omega) rfl (fun r hr => by omega) hI v11 v12 in0 in1 _ _ _ _
    (two (fun r j => (k0_pay71 q0 b0 kt) (ix2 r j)) (fun r j => (k0_pay72 q1 b1 kt) (ix2 r j))) (fun r j => (k0_pay70 (BitVec.ofNat 32 n)) (ix2 r j)) (mu := fun x y => mu (ix2 x y)) (v := fun j l => vt (ix2 j l)) hmu
    ?_ (fun r j => mask3 n hn r j) (tile_val (by omega) hv) ?_ ?_ ?_ ?_
  · refine fun h r r' j hr => ?_
    obtain ⟨r', hr'⟩ := r'
    obtain rfl : r' = 1536 + r.val := hr
    match h with
    | 0 => exact (logit3_0 q0 b0 kt r j).trans (tile_logit (q := two q0 q1) (b := two b0 b1) (by omega) hk 0 _ j)
    | 1 => exact (logit3_1 q1 b1 kt r j).trans (tile_logit (q := two q0 q1) (b := two b0 b1) (by omega) hk 1 _ j)
  · exact fun r l => carried3_0 q0 b0 kt (k0_pay70 (BitVec.ofNat 32 n)) mu (v11.readCov L2 (Rect.unit (s := S2x2048x128) ![0, 1536, 0] S1x512x128.size in0).toLoadRect) r l
  · exact fun r l => carried3_1 q1 b1 kt (k0_pay70 (BitVec.ofNat 32 n)) mu (v11.readCov L2 (Rect.unit (s := S2x2048x128) ![1, 1536, 0] S1x512x128.size in1).toLoadRect) r l
  · intro r l
    have h1 := summed3_0 vt (k0_pay92 (k0_pay70 (BitVec.ofNat 32 n)) (k0_pay75 q0 b0 kt) (k0_pay79 mu (k0_pay70 (BitVec.ofNat 32 n)) (k0_pay71 q0 b0 kt) (k0_pay75 q0 b0 kt)) (k0_pay80 mu (k0_pay70 (BitVec.ofNat 32 n)) (k0_pay71 q0 b0 kt) (k0_pay75 q0 b0 kt)) (k0_pay81 mu (k0_pay70 (BitVec.ofNat 32 n)) (k0_pay71 q0 b0 kt) (k0_pay75 q0 b0 kt)) (k0_pay87 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay88 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay89 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt))) (v12.readCov L3 (Rect.unit (s := S2x2048x128) ![0, 1536, 0] S1x512x128.size in0).toLoadRect) r l
    have h2 := fun j => weight3_0 q0 b0 kt (k0_pay70 (BitVec.ofNat 32 n)) mu (v11.readCov L2 (Rect.unit (s := S2x2048x128) ![0, 1536, 0] S1x512x128.size in0).toLoadRect) r j
    have h3 := summed_of h1 h2
    exact h3
  · intro r l
    have h1 := summed3_1 vt (k0_pay97 (k0_pay70 (BitVec.ofNat 32 n)) (k0_pay74 (v11.readCov L2 (Rect.unit (s := S2x2048x128) ![1, 1536, 0] S1x512x128.size in1).toLoadRect)) (k0_pay77 (k0_pay72 q1 b1 kt)) (k0_pay83 mu (k0_pay70 (BitVec.ofNat 32 n)) (k0_pay72 q1 b1 kt)) (k0_pay84 mu (k0_pay70 (BitVec.ofNat 32 n)) (k0_pay72 q1 b1 kt)) (k0_pay85 mu (k0_pay70 (BitVec.ofNat 32 n)) (k0_pay72 q1 b1 kt)) (k0_pay86 mu (k0_pay70 (BitVec.ofNat 32 n)) (k0_pay72 q1 b1 kt))) (v12.readCov (⟨(Rect.unit (s := S2x2048x128) ![0, 1536, 0] S1x512x128.size in0), (k0_pay99 vt (k0_pay92 (k0_pay70 (BitVec.ofNat 32 n)) (k0_pay75 q0 b0 kt) (k0_pay79 mu (k0_pay70 (BitVec.ofNat 32 n)) (k0_pay71 q0 b0 kt) (k0_pay75 q0 b0 kt)) (k0_pay80 mu (k0_pay70 (BitVec.ofNat 32 n)) (k0_pay71 q0 b0 kt) (k0_pay75 q0 b0 kt)) (k0_pay81 mu (k0_pay70 (BitVec.ofNat 32 n)) (k0_pay71 q0 b0 kt) (k0_pay75 q0 b0 kt)) (k0_pay87 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay88 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt)) (k0_pay89 mu (k0_pay70 (BitVec.ofNat 32 n)) (k0_pay71 q0 b0 kt) (k0_pay73 (v11.readCov L2 (Rect.unit (s := S2x2048x128) ![0, 1536, 0] S1x512x128.size in0).toLoadRect)) (k0_pay75 q0 b0 kt))) (v12.readCov L3 (Rect.unit (s := S2x2048x128) ![0, 1536, 0] S1x512x128.size in0).toLoadRect))⟩ :: L3) (Rect.unit (s := S2x2048x128) ![1, 1536, 0] S1x512x128.size in1).toLoadRect) r l
    have h2 := fun j => weight3_1 q1 b1 kt (k0_pay70 (BitVec.ofNat 32 n)) mu (v11.readCov L2 (Rect.unit (s := S2x2048x128) ![1, 1536, 0] S1x512x128.size in1).toLoadRect) r j
    have h3 := summed_of h1 h2
    exact h3

set_option maxHeartbeats 400000 in
/-- The step of the third of the four tiles against the queries' own block. -/
theorem step2 (n : ℕ) (hn : n < 2) {q0 q1 : FVec Ideal S2048x128 .bf16} {b0 b1 : Ideal .f32} {kb vb : FVec Ideal S4096x128 .bf16}
    (kt vt : FVec Ideal S512x128 .bf16) (mu : FVec Ideal S128x256 .bf16)
    (hmu : ∀ (x : Fin 128) (y : Fin 256), (mu (ix2 x y) : EReal) = if 128 ≤ y.val ∨ y.val < x.val then 1 else 0)
    (hk : ∀ (j : Fin 512) (e : Fin 128) (j' : Fin 4096), j'.val = (n * 2048 + 1024) + j.val → kt (ix2 j e) = kb (ix2 j' e))
    (hv : ∀ (j : Fin 512) (e : Fin 128) (j' : Fin 4096), j'.val = (n * 2048 + 1024) + j.val → vt (ix2 j e) = vb (ix2 j' e))
    (v11 v12 : View sig .tc .vmem S2x2048x128 .f32) {L2 L3 : List (View.Piece (Elt Ideal) S2x2048x128 .f32)}
    (hI : Inv (two q0 q1) kb vb (two b0 b1) (n * 2048) ((n * 2048 + 1024) + 512) (View.canon L2) (View.canon L3))
    (in0 : ∀ a, (![0, 1024, 0] : Fin 3 → ℕ) a + S1x1024x128.size a ≤ S2x2048x128.size a)
    (in1 : ∀ a, (![1, 1024, 0] : Fin 3 → ℕ) a + S1x1024x128.size a ≤ S2x2048x128.size a) :
    Inv (two q0 q1) kb vb (two b0 b1) (n * 2048) (n * 2048 + 1024)
      (View.canon (⟨(Rect.unit (s := S2x2048x128) ![1, 1024, 0] S1x1024x128.size in1), (k0_pay131 (k0_pay116 mu (k0_pay111 q1 b1 kt (k0_pay102 (BitVec.ofNat 32 n)))) (k0_pay117 mu (k0_pay111 q1 b1 kt (k0_pay102 (BitVec.ofNat 32 n)))) (k0_pay118 mu (k0_pay111 q1 b1 kt (k0_pay102 (BitVec.ofNat 32 n)))) (k0_pay126 mu (k0_pay107 (v11.readCov L2 (Rect.unit (s := S2x2048x128) ![1, 1024, 0] S1x1024x128.size in1).toLoadRect)) (k0_pay111 q1 b1 kt (k0_pay102 (BitVec.ofNat 32 n)))))⟩ :: ⟨(Rect.unit (s := S2x2048x128) ![0, 1024, 0] S1x1024x128.size in0), (k0_pay129 (k0_pay123 mu (k0_pay106 (v11.readCov L2 (Rect.unit (s := S2x2048x128) ![0, 1024, 0] S1x1024x128.size in0).toLoadRect)) (k0_pay109 b0 kt (k0_pay102 (BitVec.ofNat 32 n)) (k0_pay103 q0) (constant S1024x512 .f32 0x00000000#32))))⟩ :: L2))
      (View.canon (⟨(Rect.unit (s := S2x2048x128) ![1, 1024, 0] S1x1024x128.size in1), (k0_pay134 (k0_pay132 (v12.readCov (⟨(Rect.unit (s := S2x2048x128) ![0, 1024, 0] S1x1024x128.size in0), (k0_pay130 vt (k0_pay124 mu (k0_pay102 (BitVec.ofNat 32 n)) (k0_pay106 (v11.readCov L2 (Rect.unit (s := S2x2048x128) ![0, 1024, 0] S1x1024x128.size in0).toLoadRect)) (k0_pay108 b0 kt (k0_pay103 q0) (constant S1024x512 .f32 0x00000000#32)) (k0_pay109 b0 kt (k0_pay102 (BitVec.ofNat 32 n)) (k0_pay103 q0) (constant S1024x512 .f32 0x00000000#32))) (v12.readCov L3 (Rect.unit (s := S2x2048x128) ![0, 1024, 0] S1x1024x128.size in0).toLoadRect))⟩ :: L3) (Rect.unit (s := S2x2048x128) ![1, 1024, 0] S1x1024x128.size in1).toLoadRect)) (k0_pay133 vt (k0_pay102 (BitVec.ofNat 32 n)) (k0_pay110 q1 b1 kt) (k0_pay116 mu (k0_pay111 q1 b1 kt (k0_pay102 (BitVec.ofNat 32 n)))) (k0_pay117 mu (k0_pay111 q1 b1 kt (k0_pay102 (BitVec.ofNat 32 n)))) (k0_pay118 mu (k0_pay111 q1 b1 kt (k0_pay102 (BitVec.ofNat 32 n)))) (k0_pay125 mu (k0_pay107 (v11.readCov L2 (Rect.unit (s := S2x2048x128) ![1, 1024, 0] S1x1024x128.size in1).toLoadRect)) (k0_pay110 q1 b1 kt) (k0_pay111 q1 b1 kt (k0_pay102 (BitVec.ofNat 32 n)))) (k0_pay126 mu (k0_pay107 (v11.readCov L2 (Rect.unit (s := S2x2048x128) ![1, 1024, 0] S1x1024x128.size in1).toLoadRect)) (k0_pay111 q1 b1 kt (k0_pay102 (BitVec.ofNat 32 n))))))⟩ :: ⟨(Rect.unit (s := S2x2048x128) ![0, 1024, 0] S1x1024x128.size in0), (k0_pay130 vt (k0_pay124 mu (k0_pay102 (BitVec.ofNat 32 n)) (k0_pay106 (v11.readCov L2 (Rect.unit (s := S2x2048x128) ![0, 1024, 0] S1x1024x128.size in0).toLoadRect)) (k0_pay108 b0 kt (k0_pay103 q0) (constant S1024x512 .f32 0x00000000#32)) (k0_pay109 b0 kt (k0_pay102 (BitVec.ofNat 32 n)) (k0_pay103 q0) (constant S1024x512 .f32 0x00000000#32))) (v12.readCov L3 (Rect.unit (s := S2x2048x128) ![0, 1024, 0] S1x1024x128.size in0).toLoadRect))⟩ :: L3)) := by
  refine pieces_step (n * 2048 + 1024) 1024 1024 (by omega) rfl (fun r hr => by omega) hI v11 v12 in0 in1 _ _ _ _
    (two (fun r j => (k0_pay104 b0 kt (k0_pay103 q0) (constant S1024x512 .f32 0x00000000#32)) (ix2 r j)) (fun r j => (k0_pay105 q1 b1 kt) (ix2 r j))) (fun r j => (k0_pay102 (BitVec.ofNat 32 n)) (ix2 r j)) (mu := fun x y => mu (ix2 x y)) (v := fun j l => vt (ix2 j l)) hmu
    ?_ (fun r j => mask2 n hn r j) (tile_val (by omega) hv) ?_ ?_ ?_ ?_
  · refine fun h r r' j hr => ?_
    obtain ⟨r', hr'⟩ := r'
    obtain rfl : r' = 1024 + r.val := hr
    match h with
    | 0 => exact (logit2_0 q0 b0 kt r j).trans (tile_logit (q := two q0 q1) (b := two b0 b1) (by omega) hk 0 _ j)
    | 1 => exact (logit2_1 q1 b1 kt r j).trans (tile_logit (q := two q0 q1) (b := two b0 b1) (by omega) hk 1 _ j)
  · exact fun r l => carried2_0 q0 b0 kt (k0_pay102 (BitVec.ofNat 32 n)) mu (v11.readCov L2 (Rect.unit (s := S2x2048x128) ![0, 1024, 0] S1x1024x128.size in0).toLoadRect) r l
  · exact fun r l => carried2_1 q1 b1 kt (k0_pay102 (BitVec.ofNat 32 n)) mu (v11.readCov L2 (Rect.unit (s := S2x2048x128) ![1, 1024, 0] S1x1024x128.size in1).toLoadRect) r l
  · intro r l
    have h1 := summed2_0 vt (k0_pay124 mu (k0_pay102 (BitVec.ofNat 32 n)) (k0_pay106 (v11.readCov L2 (Rect.unit (s := S2x2048x128) ![0, 1024, 0] S1x1024x128.size in0).toLoadRect)) (k0_pay108 b0 kt (k0_pay103 q0) (constant S1024x512 .f32 0x00000000#32)) (k0_pay109 b0 kt (k0_pay102 (BitVec.ofNat 32 n)) (k0_pay103 q0) (constant S1024x512 .f32 0x00000000#32))) (v12.readCov L3 (Rect.unit (s := S2x2048x128) ![0, 1024, 0] S1x1024x128.size in0).toLoadRect) r l
    have h2 := fun j => weight2_0 q0 b0 kt (k0_pay102 (BitVec.ofNat 32 n)) mu (v11.readCov L2 (Rect.unit (s := S2x2048x128) ![0, 1024, 0] S1x1024x128.size in0).toLoadRect) r j
    have h3 := summed_of h1 h2
    exact h3
  · intro r l
    have h1 := summed2_1 q1 b1 kt (k0_pay102 (BitVec.ofNat 32 n)) mu (v11.readCov L2 (Rect.unit (s := S2x2048x128) ![1, 1024, 0] S1x1024x128.size in1).toLoadRect) vt (v12.readCov (⟨(Rect.unit (s := S2x2048x128) ![0, 1024, 0] S1x1024x128.size in0), (k0_pay130 vt (k0_pay124 mu (k0_pay102 (BitVec.ofNat 32 n)) (k0_pay106 (v11.readCov L2 (Rect.unit (s := S2x2048x128) ![0, 1024, 0] S1x1024x128.size in0).toLoadRect)) (k0_pay108 b0 kt (k0_pay103 q0) (constant S1024x512 .f32 0x00000000#32)) (k0_pay109 b0 kt (k0_pay102 (BitVec.ofNat 32 n)) (k0_pay103 q0) (constant S1024x512 .f32 0x00000000#32))) (v12.readCov L3 (Rect.unit (s := S2x2048x128) ![0, 1024, 0] S1x1024x128.size in0).toLoadRect))⟩ :: L3) (Rect.unit (s := S2x2048x128) ![1, 1024, 0] S1x1024x128.size in1).toLoadRect) r l
    exact h1

set_option maxHeartbeats 400000 in
/-- The step of the second of the four tiles against the queries' own block. -/
theorem step1 (n : ℕ) (hn : n < 2) {q0 q1 : FVec Ideal S2048x128 .bf16} {b0 b1 : Ideal .f32} {kb vb : FVec Ideal S4096x128 .bf16}
    (kt vt : FVec Ideal S512x128 .bf16) (mu : FVec Ideal S128x256 .bf16)
    (hmu : ∀ (x : Fin 128) (y : Fin 256), (mu (ix2 x y) : EReal) = if 128 ≤ y.val ∨ y.val < x.val then 1 else 0)
    (hk : ∀ (j : Fin 512) (e : Fin 128) (j' : Fin 4096), j'.val = (n * 2048 + 512) + j.val → kt (ix2 j e) = kb (ix2 j' e))
    (hv : ∀ (j : Fin 512) (e : Fin 128) (j' : Fin 4096), j'.val = (n * 2048 + 512) + j.val → vt (ix2 j e) = vb (ix2 j' e))
    (v11 v12 : View sig .tc .vmem S2x2048x128 .f32) {L2 L3 : List (View.Piece (Elt Ideal) S2x2048x128 .f32)}
    (hI : Inv (two q0 q1) kb vb (two b0 b1) (n * 2048) ((n * 2048 + 512) + 512) (View.canon L2) (View.canon L3))
    (in0 : ∀ a, (![0, 512, 0] : Fin 3 → ℕ) a + S1x1536x128.size a ≤ S2x2048x128.size a)
    (in1 : ∀ a, (![1, 512, 0] : Fin 3 → ℕ) a + S1x1536x128.size a ≤ S2x2048x128.size a) :
    Inv (two q0 q1) kb vb (two b0 b1) (n * 2048) (n * 2048 + 512)
      (View.canon (⟨(Rect.unit (s := S2x2048x128) ![1, 512, 0] S1x1536x128.size in1), (k0_pay167 (k0_pay163 (k0_pay139 (v11.readCov L2 (Rect.unit (s := S2x2048x128) ![1, 512, 0] S1x1536x128.size in1).toLoadRect)) (k0_pay149 mu (k0_pay135 (BitVec.ofNat 32 n)) (k0_pay137 q1 b1 kt)) (k0_pay150 mu (k0_pay135 (BitVec.ofNat 32 n)) (k0_pay137 q1 b1 kt)) (k0_pay151 mu (k0_pay135 (BitVec.ofNat 32 n)) (k0_pay137 q1 b1 kt)) (k0_pay152 mu (k0_pay135 (BitVec.ofNat 32 n)) (k0_pay137 q1 b1 kt))))⟩ :: ⟨(Rect.unit (s := S2x2048x128) ![0, 512, 0] S1x1536x128.size in0), (k0_pay165 (k0_pay158 (k0_pay138 (v11.readCov L2 (Rect.unit (s := S2x2048x128) ![0, 512, 0] S1x1536x128.size in0).toLoadRect)) (k0_pay145 mu (k0_pay135 (BitVec.ofNat 32 n)) (k0_pay136 q0 b0 kt) (k0_pay140 q0 b0 kt)) (k0_pay146 mu (k0_pay135 (BitVec.ofNat 32 n)) (k0_pay136 q0 b0 kt) (k0_pay140 q0 b0 kt)) (k0_pay147 mu (k0_pay135 (BitVec.ofNat 32 n)) (k0_pay136 q0 b0 kt) (k0_pay140 q0 b0 kt)) (k0_pay148 mu (k0_pay135 (BitVec.ofNat 32 n)) (k0_pay136 q0 b0 kt) (k0_pay140 q0 b0 kt))))⟩ :: L2))
      (View.canon (⟨(Rect.unit (s := S2x2048x128) ![1, 512, 0] S1x1536x128.size in1), (k0_pay168 vt (k0_pay164 (k0_pay135 (BitVec.ofNat 32 n)) (k0_pay139 (v11.readCov L2 (Rect.unit (s := S2x2048x128) ![1, 512, 0] S1x1536x128.size in1).toLoadRect)) (k0_pay143 (k0_pay137 q1 b1 kt)) (k0_pay149 mu (k0_pay135 (BitVec.ofNat 32 n)) (k0_pay137 q1 b1 kt)) (k0_pay150 mu (k0_pay135 (BitVec.ofNat 32 n)) (k0_pay137 q1 b1 kt)) (k0_pay151 mu (k0_pay135 (BitVec.ofNat 32 n)) (k0_pay137 q1 b1 kt)) (k0_pay152 mu (k0_pay135 (BitVec.ofNat 32 n)) (k0_pay137 q1 b1 kt))) (v12.readCov (⟨(Rect.unit (s := S2x2048x128) ![0, 512, 0] S1x1536x128.size in0), (k0_pay166 vt (k0_pay159 (k0_pay135 (BitVec.ofNat 32 n)) (k0_pay138 (v11.readCov L2 (Rect.unit (s := S2x2048x128) ![0, 512, 0] S1x1536x128.size in0).toLoadRect)) (k0_pay141 (k0_pay136 q0 b0 kt) (k0_pay140 q0 b0 kt)) (k0_pay145 mu (k0_pay135 (BitVec.ofNat 32 n)) (k0_pay136 q0 b0 kt) (k0_pay140 q0 b0 kt)) (k0_pay146 mu (k0_pay135 (BitVec.ofNat 32 n)) (k0_pay136 q0 b0 kt) (k0_pay140 q0 b0 kt)) (k0_pay147 mu (k0_pay135 (BitVec.ofNat 32 n)) (k0_pay136 q0 b0 kt) (k0_pay140 q0 b0 kt)) (k0_pay148 mu (k0_pay135 (BitVec.ofNat 32 n)) (k0_pay136 q0 b0 kt) (k0_pay140 q0 b0 kt)) (k0_pay153 (k0_pay136 q0 b0 kt) (k0_pay140 q0 b0 kt)) (k0_pay154 mu (k0_pay135 (BitVec.ofNat 32 n)) (k0_pay136 q0 b0 kt) (k0_pay140 q0 b0 kt))) (v12.readCov L3 (Rect.unit (s := S2x2048x128) ![0, 512, 0] S1x1536x128.size in0).toLoadRect))⟩ :: L3) (Rect.unit (s := S2x2048x128) ![1, 512, 0] S1x1536x128.size in1).toLoadRect))⟩ :: ⟨(Rect.unit (s := S2x2048x128) ![0, 512, 0] S1x1536x128.size in0), (k0_pay166 vt (k0_pay159 (k0_pay135 (BitVec.ofNat 32 n)) (k0_pay138 (v11.readCov L2 (Rect.unit (s := S2x2048x128) ![0, 512, 0] S1x1536x128.size in0).toLoadRect)) (k0_pay141 (k0_pay136 q0 b0 kt) (k0_pay140 q0 b0 kt)) (k0_pay145 mu (k0_pay135 (BitVec.ofNat 32 n)) (k0_pay136 q0 b0 kt) (k0_pay140 q0 b0 kt)) (k0_pay146 mu (k0_pay135 (BitVec.ofNat 32 n)) (k0_pay136 q0 b0 kt) (k0_pay140 q0 b0 kt)) (k0_pay147 mu (k0_pay135 (BitVec.ofNat 32 n)) (k0_pay136 q0 b0 kt) (k0_pay140 q0 b0 kt)) (k0_pay148 mu (k0_pay135 (BitVec.ofNat 32 n)) (k0_pay136 q0 b0 kt) (k0_pay140 q0 b0 kt)) (k0_pay153 (k0_pay136 q0 b0 kt) (k0_pay140 q0 b0 kt)) (k0_pay154 mu (k0_pay135 (BitVec.ofNat 32 n)) (k0_pay136 q0 b0 kt) (k0_pay140 q0 b0 kt))) (v12.readCov L3 (Rect.unit (s := S2x2048x128) ![0, 512, 0] S1x1536x128.size in0).toLoadRect))⟩ :: L3)) := by
  refine pieces_step (n * 2048 + 512) 512 1536 (by omega) rfl (fun r hr => by omega) hI v11 v12 in0 in1 _ _ _ _
    (two (fun r j => (k0_pay136 q0 b0 kt) (ix2 r j)) (fun r j => (k0_pay137 q1 b1 kt) (ix2 r j))) (fun r j => (k0_pay135 (BitVec.ofNat 32 n)) (ix2 r j)) (mu := fun x y => mu (ix2 x y)) (v := fun j l => vt (ix2 j l)) hmu
    ?_ (fun r j => mask1 n hn r j) (tile_val (by omega) hv) ?_ ?_ ?_ ?_
  · refine fun h r r' j hr => ?_
    obtain ⟨r', hr'⟩ := r'
    obtain rfl : r' = 512 + r.val := hr
    match h with
    | 0 => exact (logit1_0 q0 b0 kt r j).trans (tile_logit (q := two q0 q1) (b := two b0 b1) (by omega) hk 0 _ j)
    | 1 => exact (logit1_1 q1 b1 kt r j).trans (tile_logit (q := two q0 q1) (b := two b0 b1) (by omega) hk 1 _ j)
  · exact fun r l => carried1_0 q0 b0 kt (k0_pay135 (BitVec.ofNat 32 n)) mu (v11.readCov L2 (Rect.unit (s := S2x2048x128) ![0, 512, 0] S1x1536x128.size in0).toLoadRect) r l
  · exact fun r l => carried1_1 q1 b1 kt (k0_pay135 (BitVec.ofNat 32 n)) mu (v11.readCov L2 (Rect.unit (s := S2x2048x128) ![1, 512, 0] S1x1536x128.size in1).toLoadRect) r l
  · intro r l
    have h1 := summed1_0 vt (k0_pay159 (k0_pay135 (BitVec.ofNat 32 n)) (k0_pay138 (v11.readCov L2 (Rect.unit (s := S2x2048x128) ![0, 512, 0] S1x1536x128.size in0).toLoadRect)) (k0_pay141 (k0_pay136 q0 b0 kt) (k0_pay140 q0 b0 kt)) (k0_pay145 mu (k0_pay135 (BitVec.ofNat 32 n)) (k0_pay136 q0 b0 kt) (k0_pay140 q0 b0 kt)) (k0_pay146 mu (k0_pay135 (BitVec.ofNat 32 n)) (k0_pay136 q0 b0 kt) (k0_pay140 q0 b0 kt)) (k0_pay147 mu (k0_pay135 (BitVec.ofNat 32 n)) (k0_pay136 q0 b0 kt) (k0_pay140 q0 b0 kt)) (k0_pay148 mu (k0_pay135 (BitVec.ofNat 32 n)) (k0_pay136 q0 b0 kt) (k0_pay140 q0 b0 kt)) (k0_pay153 (k0_pay136 q0 b0 kt) (k0_pay140 q0 b0 kt)) (k0_pay154 mu (k0_pay135 (BitVec.ofNat 32 n)) (k0_pay136 q0 b0 kt) (k0_pay140 q0 b0 kt))) (v12.readCov L3 (Rect.unit (s := S2x2048x128) ![0, 512, 0] S1x1536x128.size in0).toLoadRect) r l
    have h2 := fun j => weight1_0 q0 b0 kt (k0_pay135 (BitVec.ofNat 32 n)) mu (v11.readCov L2 (Rect.unit (s := S2x2048x128) ![0, 512, 0] S1x1536x128.size in0).toLoadRect) r j
    have h3 := summed_of h1 h2
    exact h3
  · intro r l
    have h1 := summed1_1 vt (k0_pay164 (k0_pay135 (BitVec.ofNat 32 n)) (k0_pay139 (v11.readCov L2 (Rect.unit (s := S2x2048x128) ![1, 512, 0] S1x1536x128.size in1).toLoadRect)) (k0_pay143 (k0_pay137 q1 b1 kt)) (k0_pay149 mu (k0_pay135 (BitVec.ofNat 32 n)) (k0_pay137 q1 b1 kt)) (k0_pay150 mu (k0_pay135 (BitVec.ofNat 32 n)) (k0_pay137 q1 b1 kt)) (k0_pay151 mu (k0_pay135 (BitVec.ofNat 32 n)) (k0_pay137 q1 b1 kt)) (k0_pay152 mu (k0_pay135 (BitVec.ofNat 32 n)) (k0_pay137 q1 b1 kt))) (v12.readCov (⟨(Rect.unit (s := S2x2048x128) ![0, 512, 0] S1x1536x128.size in0), (k0_pay166 vt (k0_pay159 (k0_pay135 (BitVec.ofNat 32 n)) (k0_pay138 (v11.readCov L2 (Rect.unit (s := S2x2048x128) ![0, 512, 0] S1x1536x128.size in0).toLoadRect)) (k0_pay141 (k0_pay136 q0 b0 kt) (k0_pay140 q0 b0 kt)) (k0_pay145 mu (k0_pay135 (BitVec.ofNat 32 n)) (k0_pay136 q0 b0 kt) (k0_pay140 q0 b0 kt)) (k0_pay146 mu (k0_pay135 (BitVec.ofNat 32 n)) (k0_pay136 q0 b0 kt) (k0_pay140 q0 b0 kt)) (k0_pay147 mu (k0_pay135 (BitVec.ofNat 32 n)) (k0_pay136 q0 b0 kt) (k0_pay140 q0 b0 kt)) (k0_pay148 mu (k0_pay135 (BitVec.ofNat 32 n)) (k0_pay136 q0 b0 kt) (k0_pay140 q0 b0 kt)) (k0_pay153 (k0_pay136 q0 b0 kt) (k0_pay140 q0 b0 kt)) (k0_pay154 mu (k0_pay135 (BitVec.ofNat 32 n)) (k0_pay136 q0 b0 kt) (k0_pay140 q0 b0 kt))) (v12.readCov L3 (Rect.unit (s := S2x2048x128) ![0, 512, 0] S1x1536x128.size in0).toLoadRect))⟩ :: L3) (Rect.unit (s := S2x2048x128) ![1, 512, 0] S1x1536x128.size in1).toLoadRect) r l
    have h2 := fun j => weight1_1 q1 b1 kt (k0_pay135 (BitVec.ofNat 32 n)) mu (v11.readCov L2 (Rect.unit (s := S2x2048x128) ![1, 512, 0] S1x1536x128.size in1).toLoadRect) r j
    have h3 := summed_of h1 h2
    exact h3

set_option maxHeartbeats 400000 in
/-- The step of the first of the four tiles against the queries' own block. -/
theorem step0 (n : ℕ) (hn : n < 2) {q0 q1 : FVec Ideal S2048x128 .bf16} {b0 b1 : Ideal .f32} {kb vb : FVec Ideal S4096x128 .bf16}
    (kt vt : FVec Ideal S512x128 .bf16) (mu : FVec Ideal S128x256 .bf16)
    (hmu : ∀ (x : Fin 128) (y : Fin 256), (mu (ix2 x y) : EReal) = if 128 ≤ y.val ∨ y.val < x.val then 1 else 0)
    (hk : ∀ (j : Fin 512) (e : Fin 128) (j' : Fin 4096), j'.val = (n * 2048) + j.val → kt (ix2 j e) = kb (ix2 j' e))
    (hv : ∀ (j : Fin 512) (e : Fin 128) (j' : Fin 4096), j'.val = (n * 2048) + j.val → vt (ix2 j e) = vb (ix2 j' e))
    (v11 v12 : View sig .tc .vmem S2x2048x128 .f32) {L2 L3 : List (View.Piece (Elt Ideal) S2x2048x128 .f32)}
    (hI : Inv (two q0 q1) kb vb (two b0 b1) (n * 2048) ((n * 2048) + 512) (View.canon L2) (View.canon L3))
    (in0 : ∀ a, (![0, 0, 0] : Fin 3 → ℕ) a + S1x2048x128.size a ≤ S2x2048x128.size a)
    (in1 : ∀ a, (![1, 0, 0] : Fin 3 → ℕ) a + S1x2048x128.size a ≤ S2x2048x128.size a) :
    Inv (two q0 q1) kb vb (two b0 b1) (n * 2048) (n * 2048)
      (View.canon (⟨(Rect.unit (s := S2x2048x128) ![1, 0, 0] S1x2048x128.size in1), (k0_pay199 (k0_pay173 (v11.readCov L2 (Rect.unit (s := S2x2048x128) ![1, 0, 0] S1x2048x128.size in1).toLoadRect)) (k0_pay184 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay185 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay186 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay187 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)))⟩ :: ⟨(Rect.unit (s := S2x2048x128) ![0, 0, 0] S1x2048x128.size in0), (k0_pay197 (k0_pay191 mu (k0_pay172 (v11.readCov L2 (Rect.unit (s := S2x2048x128) ![0, 0, 0] S1x2048x128.size in0).toLoadRect)) (k0_pay175 q0 b0 (Scalar.muli (Scalar.addi (Scalar.muli (BitVec.ofNat 32 n) 4#32) 0#32) 512#32) kt (Scalar.addi (Scalar.muli (BitVec.ofNat 32 n) 2048#32) 0#32) (iota .tc S2048x512 32 [0] iota_S2048x512_d0_w32))))⟩ :: L2))
      (View.canon (⟨(Rect.unit (s := S2x2048x128) ![1, 0, 0] S1x2048x128.size in1), (k0_pay200 vt (k0_pay196 (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay173 (v11.readCov L2 (Rect.unit (s := S2x2048x128) ![1, 0, 0] S1x2048x128.size in1).toLoadRect)) (k0_pay178 (k0_pay176 q1 b1 kt) (k0_pay177 q1 b1 kt)) (k0_pay184 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay185 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay186 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay187 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt))) (v12.readCov (⟨(Rect.unit (s := S2x2048x128) ![0, 0, 0] S1x2048x128.size in0), (k0_pay198 vt (k0_pay192 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay172 (v11.readCov L2 (Rect.unit (s := S2x2048x128) ![0, 0, 0] S1x2048x128.size in0).toLoadRect)) (k0_pay174 q0 b0 kt) (k0_pay175 q0 b0 (Scalar.muli (Scalar.addi (Scalar.muli (BitVec.ofNat 32 n) 4#32) 0#32) 512#32) kt (Scalar.addi (Scalar.muli (BitVec.ofNat 32 n) 2048#32) 0#32) (iota .tc S2048x512 32 [0] iota_S2048x512_d0_w32))) (v12.readCov L3 (Rect.unit (s := S2x2048x128) ![0, 0, 0] S1x2048x128.size in0).toLoadRect))⟩ :: L3) (Rect.unit (s := S2x2048x128) ![1, 0, 0] S1x2048x128.size in1).toLoadRect))⟩ :: ⟨(Rect.unit (s := S2x2048x128) ![0, 0, 0] S1x2048x128.size in0), (k0_pay198 vt (k0_pay192 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay172 (v11.readCov L2 (Rect.unit (s := S2x2048x128) ![0, 0, 0] S1x2048x128.size in0).toLoadRect)) (k0_pay174 q0 b0 kt) (k0_pay175 q0 b0 (Scalar.muli (Scalar.addi (Scalar.muli (BitVec.ofNat 32 n) 4#32) 0#32) 512#32) kt (Scalar.addi (Scalar.muli (BitVec.ofNat 32 n) 2048#32) 0#32) (iota .tc S2048x512 32 [0] iota_S2048x512_d0_w32))) (v12.readCov L3 (Rect.unit (s := S2x2048x128) ![0, 0, 0] S1x2048x128.size in0).toLoadRect))⟩ :: L3)) := by
  refine pieces_step (n * 2048) 0 2048 (by omega) rfl (fun r hr => by omega) hI v11 v12 in0 in1 _ _ _ _
    (two (fun r j => (k0_pay170 q0 b0 kt) (ix2 r j)) (fun r j => (k0_pay171 q1 b1 kt) (ix2 r j))) (fun r j => k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32) (ix2 r j)) (mu := fun x y => mu (ix2 x y)) (v := fun j l => vt (ix2 j l)) hmu
    ?_ (fun r j => (mask0 n hn r j).trans (by rw [Nat.zero_add])) (tile_val (by omega) hv) ?_ ?_ ?_ ?_
  · refine fun h r r' j hr => ?_
    obtain ⟨r', hr'⟩ := r'
    obtain rfl : r' = 0 + r.val := hr
    match h with
    | 0 => exact (logit0_0 q0 b0 kt r j).trans (tile_logit (q := two q0 q1) (b := two b0 b1) (by omega) hk 0 _ j)
    | 1 => exact (logit0_1 q1 b1 kt r j).trans (tile_logit (q := two q0 q1) (b := two b0 b1) (by omega) hk 1 _ j)
  · exact fun r l => carried0_0 q0 b0 kt (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32) mu (v11.readCov L2 (Rect.unit (s := S2x2048x128) ![0, 0, 0] S1x2048x128.size in0).toLoadRect) r l
  · exact fun r l => carried0_1 q1 b1 kt (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32) mu (v11.readCov L2 (Rect.unit (s := S2x2048x128) ![1, 0, 0] S1x2048x128.size in1).toLoadRect) r l
  · intro r l
    have h1 := summed0_0 vt (k0_pay192 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay172 (v11.readCov L2 (Rect.unit (s := S2x2048x128) ![0, 0, 0] S1x2048x128.size in0).toLoadRect)) (k0_pay174 q0 b0 kt) (k0_pay175 q0 b0 (Scalar.muli (Scalar.addi (Scalar.muli (BitVec.ofNat 32 n) 4#32) 0#32) 512#32) kt (Scalar.addi (Scalar.muli (BitVec.ofNat 32 n) 2048#32) 0#32) (iota .tc S2048x512 32 [0] iota_S2048x512_d0_w32))) (v12.readCov L3 (Rect.unit (s := S2x2048x128) ![0, 0, 0] S1x2048x128.size in0).toLoadRect) r l
    have h2 := fun j => weight0_0 q0 b0 kt (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32) mu (v11.readCov L2 (Rect.unit (s := S2x2048x128) ![0, 0, 0] S1x2048x128.size in0).toLoadRect) r j
    have h3 := summed_of h1 h2
    exact h3
  · intro r l
    have h1 := summed0_1 vt (k0_pay196 (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay173 (v11.readCov L2 (Rect.unit (s := S2x2048x128) ![1, 0, 0] S1x2048x128.size in1).toLoadRect)) (k0_pay178 (k0_pay176 q1 b1 kt) (k0_pay177 q1 b1 kt)) (k0_pay184 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay185 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay186 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt)) (k0_pay187 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay171 q1 b1 kt) (k0_pay176 q1 b1 kt) (k0_pay177 q1 b1 kt))) (v12.readCov (⟨(Rect.unit (s := S2x2048x128) ![0, 0, 0] S1x2048x128.size in0), (k0_pay198 vt (k0_pay192 mu (k0_pay169 (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32)) (k0_pay172 (v11.readCov L2 (Rect.unit (s := S2x2048x128) ![0, 0, 0] S1x2048x128.size in0).toLoadRect)) (k0_pay174 q0 b0 kt) (k0_pay175 q0 b0 (Scalar.muli (Scalar.addi (Scalar.muli (BitVec.ofNat 32 n) 4#32) 0#32) 512#32) kt (Scalar.addi (Scalar.muli (BitVec.ofNat 32 n) 2048#32) 0#32) (iota .tc S2048x512 32 [0] iota_S2048x512_d0_w32))) (v12.readCov L3 (Rect.unit (s := S2x2048x128) ![0, 0, 0] S1x2048x128.size in0).toLoadRect))⟩ :: L3) (Rect.unit (s := S2x2048x128) ![1, 0, 0] S1x2048x128.size in1).toLoadRect) r l
    have h2 := fun j => weight0_1 q1 b1 kt (Scalar.muli (Scalar.addi (Scalar.muli (BitVec.ofNat 32 n) 4#32) 0#32) 512#32) (Scalar.addi (Scalar.muli (BitVec.ofNat 32 n) 2048#32) 0#32) (iota .tc S2048x512 32 [0] iota_S2048x512_d0_w32) mu (v11.readCov L2 (Rect.unit (s := S2x2048x128) ![1, 0, 0] S1x2048x128.size in1).toLoadRect) r j
    have h3 := summed_of h1 h2
    exact h3

set_option maxHeartbeats 400000 in
/-- The step of a tile of keys all before the queries. -/
theorem stepu (A Q : ℕ) (hA : A + 512 ≤ Q) (hQ : Q ≤ 4096) {q0 q1 : FVec Ideal S2048x128 .bf16} {b0 b1 : Ideal .f32} {kb vb : FVec Ideal S4096x128 .bf16}
    (kt vt : FVec Ideal S512x128 .bf16) (mu : FVec Ideal S128x256 .bf16)
    (hmu : ∀ (x : Fin 128) (y : Fin 256), (mu (ix2 x y) : EReal) = if 128 ≤ y.val ∨ y.val < x.val then 1 else 0)
    (hk : ∀ (j : Fin 512) (e : Fin 128) (j' : Fin 4096), j'.val = A + j.val → kt (ix2 j e) = kb (ix2 j' e))
    (hv : ∀ (j : Fin 512) (e : Fin 128) (j' : Fin 4096), j'.val = A + j.val → vt (ix2 j e) = vb (ix2 j' e))
    (v11 v12 : View sig .tc .vmem S2x2048x128 .f32) {L2 L3 : List (View.Piece (Elt Ideal) S2x2048x128 .f32)}
    (hI : Inv (two q0 q1) kb vb (two b0 b1) Q (A + 512) (View.canon L2) (View.canon L3))
    (in0 : ∀ a, (![0, 0, 0] : Fin 3 → ℕ) a + S1x2048x128.size a ≤ S2x2048x128.size a)
    (in1 : ∀ a, (![1, 0, 0] : Fin 3 → ℕ) a + S1x2048x128.size a ≤ S2x2048x128.size a) :
    Inv (two q0 q1) kb vb (two b0 b1) Q A
      (View.canon (⟨(Rect.unit (s := S2x2048x128) ![1, 0, 0] S1x2048x128.size in1), (k0_pay29 (k0_pay4 (v11.readCov L2 (Rect.unit (s := S2x2048x128) ![1, 0, 0] S1x2048x128.size in1).toLoadRect)) (k0_pay14 mu (k0_pay2 q1 b1 kt) (k0_pay7 q1 b1 kt)) (k0_pay15 mu (k0_pay2 q1 b1 kt) (k0_pay7 q1 b1 kt)) (k0_pay16 mu (k0_pay2 q1 b1 kt) (k0_pay7 q1 b1 kt)) (k0_pay17 mu (k0_pay2 q1 b1 kt) (k0_pay7 q1 b1 kt)))⟩ :: ⟨(Rect.unit (s := S2x2048x128) ![0, 0, 0] S1x2048x128.size in0), (k0_pay27 (k0_pay21 mu (k0_pay3 (v11.readCov L2 (Rect.unit (s := S2x2048x128) ![0, 0, 0] S1x2048x128.size in0).toLoadRect)) (k0_pay6 q0 b0 kt)))⟩ :: L2))
      (View.canon (⟨(Rect.unit (s := S2x2048x128) ![1, 0, 0] S1x2048x128.size in1), (k0_pay201 vt (k0_pay26 (k0_pay4 (v11.readCov L2 (Rect.unit (s := S2x2048x128) ![1, 0, 0] S1x2048x128.size in1).toLoadRect)) (k0_pay8 (k0_pay2 q1 b1 kt) (k0_pay7 q1 b1 kt)) (k0_pay14 mu (k0_pay2 q1 b1 kt) (k0_pay7 q1 b1 kt)) (k0_pay15 mu (k0_pay2 q1 b1 kt) (k0_pay7 q1 b1 kt)) (k0_pay16 mu (k0_pay2 q1 b1 kt) (k0_pay7 q1 b1 kt)) (k0_pay17 mu (k0_pay2 q1 b1 kt) (k0_pay7 q1 b1 kt))) (v12.readCov L3 (Rect.unit (s := S2x2048x128) ![1, 0, 0] S1x2048x128.size in1).toLoadRect))⟩ :: ⟨(Rect.unit (s := S2x2048x128) ![0, 0, 0] S1x2048x128.size in0), (k0_pay28 vt (k0_pay22 mu (k0_pay3 (v11.readCov L2 (Rect.unit (s := S2x2048x128) ![0, 0, 0] S1x2048x128.size in0).toLoadRect)) (k0_pay5 q0 b0 kt) (k0_pay6 q0 b0 kt)) (v12.readCov L3 (Rect.unit (s := S2x2048x128) ![0, 0, 0] S1x2048x128.size in0).toLoadRect))⟩ :: L3)) := by
  refine pieces_step_of A 0 2048 (by omega) rfl (fun r hr => absurd hr (Nat.not_lt_zero r)) hI v11 v12 in0 in1 _ _ _ _
    (two (fun r j => (k0_pay1 q0 b0 kt) (ix2 r j)) (fun r j => (k0_pay2 q1 b1 kt) (ix2 r j))) (fun _ _ => 1#1) (mu := fun x y => mu (ix2 x y)) (v := fun j l => vt (ix2 j l)) hmu
    ?_ (fun r j => (if_pos (by omega)).symm) (tile_val (by omega) hv) ?_ ?_ ?_ ?_
  · refine fun h r r' j hr => ?_
    obtain ⟨r', hr'⟩ := r'
    obtain rfl : r' = 0 + r.val := hr
    match h with
    | 0 => exact (logitu_0 q0 b0 kt r j).trans (tile_logit (q := two q0 q1) (b := two b0 b1) (by omega) hk 0 _ j)
    | 1 => exact (logitu_1 q1 b1 kt r j).trans (tile_logit (q := two q0 q1) (b := two b0 b1) (by omega) hk 1 _ j)
  · exact fun r l => carriedu_0 q0 b0 kt mu (v11.readCov L2 (Rect.unit (s := S2x2048x128) ![0, 0, 0] S1x2048x128.size in0).toLoadRect) r l
  · exact fun r l => carriedu_1 q1 b1 kt mu (v11.readCov L2 (Rect.unit (s := S2x2048x128) ![1, 0, 0] S1x2048x128.size in1).toLoadRect) r l
  · intro r l
    have h1 := summedu_0 vt (k0_pay22 mu (k0_pay3 (v11.readCov L2 (Rect.unit (s := S2x2048x128) ![0, 0, 0] S1x2048x128.size in0).toLoadRect)) (k0_pay5 q0 b0 kt) (k0_pay6 q0 b0 kt)) (v12.readCov L3 (Rect.unit (s := S2x2048x128) ![0, 0, 0] S1x2048x128.size in0).toLoadRect) r l
    have h2 := fun j => weightu_0 q0 b0 kt mu (v11.readCov L2 (Rect.unit (s := S2x2048x128) ![0, 0, 0] S1x2048x128.size in0).toLoadRect) r j
    have h3 := summed_of h1 h2
    exact h3
  · intro r l
    have h1 := summedu_1 vt (k0_pay26 (k0_pay4 (v11.readCov L2 (Rect.unit (s := S2x2048x128) ![1, 0, 0] S1x2048x128.size in1).toLoadRect)) (k0_pay8 (k0_pay2 q1 b1 kt) (k0_pay7 q1 b1 kt)) (k0_pay14 mu (k0_pay2 q1 b1 kt) (k0_pay7 q1 b1 kt)) (k0_pay15 mu (k0_pay2 q1 b1 kt) (k0_pay7 q1 b1 kt)) (k0_pay16 mu (k0_pay2 q1 b1 kt) (k0_pay7 q1 b1 kt)) (k0_pay17 mu (k0_pay2 q1 b1 kt) (k0_pay7 q1 b1 kt))) (v12.readCov L3 (Rect.unit (s := S2x2048x128) ![1, 0, 0] S1x2048x128.size in1).toLoadRect) r l
    have h2 := fun j => weightu_1 q1 b1 kt mu (v11.readCov L2 (Rect.unit (s := S2x2048x128) ![1, 0, 0] S1x2048x128.size in1).toLoadRect) r j
    have h3 := summed_of h1 h2
    exact h3

end Cert.Sb

end
-- ==== Proof.SbLoop.lean ====
/- Stick-breaking attention: the loop over the tiles of keys that lie before every query of a block. -/
module

public import proofs.«01_k».proof.Proof.SbTiles

@[expose] public section

set_option maxRecDepth 16384

noncomputable section

open Idealize.ShloMosaic Idealize.ShloMosaic.TcCoe Idealize.SL.Sem

namespace Cert.Sb

open Cert.KernelIdeal Cert.KernelIdeal.Gen

/-! ## The numbers of trips, and the tiles they read -/

theorem trips_zero (i : grid0.Coords) (h : (i 2).val = 0) : (k0_t1_loop i).trips = 0 := by
  unfold k0_t1_loop
  simp only [h]
  decide

theorem trips_one (i : grid0.Coords) (h : (i 2).val = 1) : (k0_t1_loop i).trips = 4 := by
  unfold k0_t1_loop
  simp only [h]
  decide

theorem trips_rest (i : grid0.Coords) (h : (i 2).val = 0 ∨ (i 2).val = 1) : (k0_t2_loop i).trips = 0 := by
  unfold k0_t2_loop
  rcases h with h | h <;> simp only [h] <;> decide

/-- The loop goes from the last tile to the first. -/
theorem off4 (i : grid0.Coords) (h : (i 2).val = 1) (k : Fin (k0_t1_loop i).trips) : k0_off4 i k = ![(3 - k.val) * 512, 0] := by
  have hk : k.val < 4 := trips_one i h ▸ k.isLt
  unfold k0_off4
  simp only [h]
  generalize k.val = n at hk
  interval_cases n <;> rfl

/-- A tile on the diagonal, by its place. -/
theorem off3 (i : grid0.Coords) (n : ℕ) (h : (i 2).val = n) (hn : n < 2) (d : ℕ) (hd : d < 4) :
    k0_off3 i (BitVec.ofNat 32 d) = ![n * 2048 + d * 512, 0] := by
  unfold k0_off3
  simp only [h]
  interval_cases n <;> interval_cases d <;> rfl

/-- A load of 512 keys. -/
theorem ld_keys (v : View sig .tc .vmem S4096x128 .bf16) (X : BufTy.Contents (Elt Ideal) v.ty) {off : Fin 2 → ℕ} (o : ℕ) (ho : off = ![o, 0])
    (inb : ∀ a, off a + S512x128.size a ≤ S4096x128.size a) (j : Fin 512) (e : Fin 128) (j' : Fin 4096) (hj : j'.val = o + j.val) :
    View.readAt (Elt Ideal) v (Rect.unit (s := S4096x128) off S512x128.size inb).toLoadRect X (ix2 j e) = View.read (Elt Ideal) v X (ix2 j' e) := by
  subst ho
  rw [View.readAt_apply]
  refine congrArg (View.read (Elt Ideal) v X) (funext fun a => Fin.ext ?_)
  fin_cases a
  · show o + 1 * j.val = j'.val; omega
  · show 0 + 1 * e.val = e.val; omega

/-! ## One trip, and all of them -/

section trips

variable  (c : Dev nD)  (i : grid0.Coords) (arg3 : Memref sig .tc .smem S8 .f32) (harg3 : arg3.IsWhole) (arg4 : Memref sig .tc .vmem S2048x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S2x2048x128 .f32) (harg11 : arg11.IsWhole) (arg12 : Memref sig .tc .vmem S2x2048x128 .f32) (harg12 : arg12.IsWhole) (w : BitVec 32) (q0 : Vec Ideal S2048x128 .bf16) (q1 : FVec Ideal S2048x128 .bf16) (b0 : Ideal .f32) (b1 : Ideal .f32) (mu : FVec Ideal S128x256 .bf16) (X9 : BufTy.Contents (Elt Ideal) arg9.view.ty) (X10 : BufTy.Contents (Elt Ideal) arg10.view.ty)

set_option maxHeartbeats 4000000 in
/-- What one trip stores. -/
theorem trip_pieces (k : Fin (k0_t1_loop i).trips) (f11 : BufTy.Contents (Elt Ideal) arg11.view.ty) (f12 : BufTy.Contents (Elt Ideal) arg12.view.ty) :
    ∀ kt vt : FVec Ideal S512x128 .bf16,
      kt = View.readAt (Elt Ideal) arg9.view (Rect.unit (s := S4096x128) (k0_off4 i k) S512x128.size (Facts₀.k0_off4_inb i k)).toLoadRect X9 →
      vt = View.readAt (Elt Ideal) arg10.view (Rect.unit (s := S4096x128) (k0_off4 i k) S512x128.size (Facts₀.k0_off4_inb i k)).toLoadRect X10 →
      tripL_k0_t1 (F := Ideal) Variants.none c none i arg3 harg3 arg4 harg4 arg5 harg5 arg6 harg6 arg7 harg7 arg8 harg8 arg9 harg9 arg10 harg10 arg11 harg11 arg12 harg12 w q0 q1 b0 b1 mu X9 X10 k f11 f12
        = ([⟨(Rect.unit (s := S2x2048x128) ![1, 0, 0] S1x2048x128.size inb_S2x2048x128_S1x2048x128_1_0_0), (k0_pay29 (k0_pay4 (View.readAt (Elt Ideal) arg11.view (Rect.unit (s := S2x2048x128) ![1, 0, 0] S1x2048x128.size inb_S2x2048x128_S1x2048x128_1_0_0).toLoadRect f11)) (k0_pay14 mu (k0_pay2 q1 b1 kt) (k0_pay7 q1 b1 kt)) (k0_pay15 mu (k0_pay2 q1 b1 kt) (k0_pay7 q1 b1 kt)) (k0_pay16 mu (k0_pay2 q1 b1 kt) (k0_pay7 q1 b1 kt)) (k0_pay17 mu (k0_pay2 q1 b1 kt) (k0_pay7 q1 b1 kt)))⟩, ⟨(Rect.unit (s := S2x2048x128) ![0, 0, 0] S1x2048x128.size inb_S2x2048x128_S1x2048x128_0_0_0), (k0_pay27 (k0_pay21 mu (k0_pay3 (View.readAt (Elt Ideal) arg11.view (Rect.unit (s := S2x2048x128) ![0, 0, 0] S1x2048x128.size inb_S2x2048x128_S1x2048x128_0_0_0).toLoadRect f11)) (k0_pay6 q0 b0 kt)))⟩],
           [⟨(Rect.unit (s := S2x2048x128) ![1, 0, 0] S1x2048x128.size inb_S2x2048x128_S1x2048x128_1_0_0), (k0_pay201 vt (k0_pay26 (k0_pay4 (View.readAt (Elt Ideal) arg11.view (Rect.unit (s := S2x2048x128) ![1, 0, 0] S1x2048x128.size inb_S2x2048x128_S1x2048x128_1_0_0).toLoadRect f11)) (k0_pay8 (k0_pay2 q1 b1 kt) (k0_pay7 q1 b1 kt)) (k0_pay14 mu (k0_pay2 q1 b1 kt) (k0_pay7 q1 b1 kt)) (k0_pay15 mu (k0_pay2 q1 b1 kt) (k0_pay7 q1 b1 kt)) (k0_pay16 mu (k0_pay2 q1 b1 kt) (k0_pay7 q1 b1 kt)) (k0_pay17 mu (k0_pay2 q1 b1 kt) (k0_pay7 q1 b1 kt))) (View.readAt (Elt Ideal) arg12.view (Rect.unit (s := S2x2048x128) ![1, 0, 0] S1x2048x128.size inb_S2x2048x128_S1x2048x128_1_0_0).toLoadRect f12))⟩, ⟨(Rect.unit (s := S2x2048x128) ![0, 0, 0] S1x2048x128.size inb_S2x2048x128_S1x2048x128_0_0_0), (k0_pay28 vt (k0_pay22 mu (k0_pay3 (View.readAt (Elt Ideal) arg11.view (Rect.unit (s := S2x2048x128) ![0, 0, 0] S1x2048x128.size inb_S2x2048x128_S1x2048x128_0_0_0).toLoadRect f11)) (k0_pay5 q0 b0 kt) (k0_pay6 q0 b0 kt)) (View.readAt (Elt Ideal) arg12.view (Rect.unit (s := S2x2048x128) ![0, 0, 0] S1x2048x128.size inb_S2x2048x128_S1x2048x128_0_0_0).toLoadRect f12))⟩]) := by
  rintro _ _ rfl rfl
  unfold tripL_k0_t1 trip_k0_t1
  rfl

/-- The scratch arrays after the loop's first `k` trips: the keys from the `k`-th tile before the block's own are done. -/
theorem loop_inv (h1 : (i 2).val = 1)
    (hmu : ∀ (x : Fin 128) (y : Fin 256), (mu (ix2 x y) : EReal) = if 128 ≤ y.val ∨ y.val < x.val then 1 else 0)
    {L2 L3 : List (View.Piece (Elt Ideal) S2x2048x128 .f32)}
    (hI : Inv (two q0 q1) (View.read (Elt Ideal) arg9.view X9) (View.read (Elt Ideal) arg10.view X10) (two b0 b1) 2048 2048 (View.canon L2) (View.canon L3)) :
    ∀ k, k ≤ 4 → Inv (two q0 q1) (View.read (Elt Ideal) arg9.view X9) (View.read (Elt Ideal) arg10.view X10) (two b0 b1) 2048 (2048 - 512 * k)
      (View.canon ((pb_k0_t1 (F := Ideal) Variants.none c none i arg3 harg3 arg4 harg4 arg5 harg5 arg6 harg6 arg7 harg7 arg8 harg8 arg9 harg9 arg10 harg10 arg11 harg11 arg12 harg12 w q0 q1 b0 b1 mu X9 X10 (arg11.view.writes (Elt Ideal) arg11.view.junk L2) (arg12.view.writes (Elt Ideal) arg12.view.junk L3) k).1 ++ L2)) (View.canon ((pb_k0_t1 (F := Ideal) Variants.none c none i arg3 harg3 arg4 harg4 arg5 harg5 arg6 harg6 arg7 harg7 arg8 harg8 arg9 harg9 arg10 harg10 arg11 harg11 arg12 harg12 w q0 q1 b0 b1 mu X9 X10 (arg11.view.writes (Elt Ideal) arg11.view.junk L2) (arg12.view.writes (Elt Ideal) arg12.view.junk L3) k).2 ++ L3)) := by
  intro k
  induction k with
  | zero => exact fun _ => hI
  | succ k ih =>
    intro hk
    have hI' := ih (by omega)
    have hkt : k < (k0_t1_loop i).trips := by rw [trips_one i h1]; omega
    rw [show k + 1 = (⟨k, hkt⟩ : Fin (k0_t1_loop i).trips).val + 1 from rfl, pb_k0_t1_succ,
      trip_pieces c i arg3 harg3 arg4 harg4 arg5 harg5 arg6 harg6 arg7 harg7 arg8 harg8 arg9 harg9 arg10 harg10 arg11 harg11 arg12 harg12 w q0 q1 b0 b1 mu X9 X10 ⟨k, hkt⟩ _ _ _ _ rfl rfl, ← View.writes_append, ← View.writes_append]
    rw [show 2048 - 512 * k = 2048 - 512 * (k + 1) + 512 by omega] at hI'
    have ho := off4 i h1 ⟨k, hkt⟩
    rw [show (3 - k) * 512 = 2048 - 512 * (k + 1) by omega] at ho
    exact stepu (2048 - 512 * (k + 1)) 2048 (by omega) (by omega) _ _ mu hmu
      (fun j e j' hj => ld_keys arg9.view X9 _ ho _ j e j' hj) (fun j e j' hj => ld_keys arg10.view X10 _ ho _ j e j' hj)
      arg11.view arg12.view hI' _ _

end trips

end Cert.Sb

end
-- ==== Proof.SbRun.lean ====
/- Stick-breaking attention: the scratch arrays of the kernel's body after the four tiles of a block's own keys. -/
module

public import proofs.«01_k».proof.Proof.SbLoop

@[expose] public section

set_option maxRecDepth 16384

noncomputable section

open Idealize.ShloMosaic Idealize.ShloMosaic.TcCoe Idealize.SL.Sem

namespace Cert.Sb

open Cert.KernelIdeal Cert.KernelIdeal.Gen

/-- The scratch arrays as they are first filled: no key is done, and no query of the block has a key past the block. -/
theorem inv_start (q : Fin 2 → FVec Ideal S2048x128 .bf16) (kb vb : FVec Ideal S4096x128 .bf16) (b : Fin 2 → EReal) (Q A : ℕ) (hA : Q + 2048 ≤ A)
    (in0 : ∀ a, (![0, 0, 0] : Fin 3 → ℕ) a + S2x2048x128.size a ≤ S2x2048x128.size a) :
    Inv q kb vb b Q A (View.canon (Val := Elt Ideal) (e := .f32) [⟨Rect.unit (s := S2x2048x128) ![0, 0, 0] S2x2048x128.size in0, k0_pay68 (F := Ideal)⟩])
      (View.canon (Val := Elt Ideal) (e := .f32) [⟨Rect.unit (s := S2x2048x128) ![0, 0, 0] S2x2048x128.size in0, k0_pay69 (F := Ideal)⟩]) := by
  have h0 : (![0, 0, 0] : Fin 3 → ℕ) = fun _ => 0 := by funext a; fin_cases a <;> rfl
  rw [View.canon_cons_unit_zero (S := S2x2048x128) h0, View.canon_cons_unit_zero (S := S2x2048x128) h0]
  intro h r l
  have hs := row_start (q := q) (kb := kb) (vb := vb) (b := b) (Q := Q) (h := h) (r := r) (l := l) A (by omega)
  rw [hs.1, hs.2]
  constructor
  · pointwise [k0_pay68]
  · pointwise [k0_pay69]

section

variable (c : Dev nD) (i : grid0.Coords) (arg3 : Memref sig .tc .smem S8 .f32) (harg3 : arg3.IsWhole) (arg4 : Memref sig .tc .vmem S2048x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S2x2048x128 .f32) (harg11 : arg11.IsWhole) (arg12 : Memref sig .tc .vmem S2x2048x128 .f32) (harg12 : arg12.IsWhole)
  (x0 : Vec Ideal S8 .f32) (x1 : Vec Ideal S2048x128 .bf16) (x2 x3 : Vec Ideal S4096x128 .f32) (x4 : Vec Ideal S128x256 .bf16)

set_option maxHeartbeats 2000000 in
/-- The scratch arrays after the four tiles of the block's own keys. -/
theorem invA
    (hmu : ∀ (x : Fin 128) (y : Fin 256), ((kernelRun0_A.sl.r_6 (F := Ideal) c arg7 harg7 x4) (ix2 x y) : EReal) = if 128 ≤ y.val ∨ y.val < x.val then 1 else 0) :
    Inv (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) ((i 2).val * 2048) ((i 2).val * 2048) (View.canon (kernelRun0_A.sl.HS2_9 (F := Ideal) c i arg3 harg3 arg4 harg4 arg5 harg5 arg7 harg7 arg9 arg11 x0 x1 x2 x4)) (View.canon (kernelRun0_A.sl.HS3_9 (F := Ideal) c i arg3 harg3 arg4 harg4 arg5 harg5 arg6 harg6 arg7 harg7 arg9 arg10 arg11 arg12 x0 x1 x2 x3 x4)) := by
  have hn : (i 2).val < 2 := (i 2).isLt
  have I1 : Inv (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) ((i 2).val * 2048) ((i 2).val * 2048 + 1536 + 512) (View.canon (kernelRun0_A.sl.HS2_1 (F := Ideal))) (View.canon (kernelRun0_A.sl.HS3_1 (F := Ideal))) :=
    inv_start _ _ _ _ _ _ (by omega) _
  have I3 : Inv (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) ((i 2).val * 2048) ((i 2).val * 2048 + 1536) (View.canon (kernelRun0_A.sl.HS2_3 (F := Ideal) c i arg3 harg3 arg4 harg4 arg5 harg5 arg7 harg7 arg9 arg11 x0 x1 x2 x4)) (View.canon (kernelRun0_A.sl.HS3_3 (F := Ideal) c i arg3 harg3 arg4 harg4 arg5 harg5 arg6 harg6 arg7 harg7 arg9 arg10 arg11 arg12 x0 x1 x2 x3 x4)) :=
    step3 (i 2).val hn _ _ _ hmu
      (fun j e j' hj => ld_keys arg9.view (arg9.view.writes (Elt Ideal) arg9.view.junk (kernelRun0_A.sl.HS0_1 (F := Ideal) c arg5 harg5 x2)) _ (off3 i _ rfl hn 3 (by omega)) _ j e j' hj)
      (fun j e j' hj => ld_keys arg10.view (arg10.view.writes (Elt Ideal) arg10.view.junk (kernelRun0_A.sl.HS1_1 (F := Ideal) c arg6 harg6 x3)) _ (off3 i _ rfl hn 3 (by omega)) _ j e j' hj)
      arg11.view arg12.view I1 _ _
  have I5 : Inv (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) ((i 2).val * 2048) ((i 2).val * 2048 + 1024) (View.canon (kernelRun0_A.sl.HS2_5 (F := Ideal) c i arg3 harg3 arg4 harg4 arg5 harg5 arg7 harg7 arg9 arg11 x0 x1 x2 x4)) (View.canon (kernelRun0_A.sl.HS3_5 (F := Ideal) c i arg3 harg3 arg4 harg4 arg5 harg5 arg6 harg6 arg7 harg7 arg9 arg10 arg11 arg12 x0 x1 x2 x3 x4)) :=
    step2 (i 2).val hn _ _ _ hmu
      (fun j e j' hj => ld_keys arg9.view (arg9.view.writes (Elt Ideal) arg9.view.junk (kernelRun0_A.sl.HS0_1 (F := Ideal) c arg5 harg5 x2)) _ (off3 i _ rfl hn 2 (by omega)) _ j e j' hj)
      (fun j e j' hj => ld_keys arg10.view (arg10.view.writes (Elt Ideal) arg10.view.junk (kernelRun0_A.sl.HS1_1 (F := Ideal) c arg6 harg6 x3)) _ (off3 i _ rfl hn 2 (by omega)) _ j e j' hj)
      arg11.view arg12.view I3 _ _
  have I7 : Inv (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) ((i 2).val * 2048) ((i 2).val * 2048 + 512) (View.canon (kernelRun0_A.sl.HS2_7 (F := Ideal) c i arg3 harg3 arg4 harg4 arg5 harg5 arg7 harg7 arg9 arg11 x0 x1 x2 x4)) (View.canon (kernelRun0_A.sl.HS3_7 (F := Ideal) c i arg3 harg3 arg4 harg4 arg5 harg5 arg6 harg6 arg7 harg7 arg9 arg10 arg11 arg12 x0 x1 x2 x3 x4)) :=
    step1 (i 2).val hn _ _ _ hmu
      (fun j e j' hj => ld_keys arg9.view (arg9.view.writes (Elt Ideal) arg9.view.junk (kernelRun0_A.sl.HS0_1 (F := Ideal) c arg5 harg5 x2)) _ (off3 i _ rfl hn 1 (by omega)) _ j e j' hj)
      (fun j e j' hj => ld_keys arg10.view (arg10.view.writes (Elt Ideal) arg10.view.junk (kernelRun0_A.sl.HS1_1 (F := Ideal) c arg6 harg6 x3)) _ (off3 i _ rfl hn 1 (by omega)) _ j e j' hj)
      arg11.view arg12.view I5 _ _
  have I9 : Inv (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) ((i 2).val * 2048) ((i 2).val * 2048) (View.canon (kernelRun0_A.sl.HS2_9 (F := Ideal) c i arg3 harg3 arg4 harg4 arg5 harg5 arg7 harg7 arg9 arg11 x0 x1 x2 x4)) (View.canon (kernelRun0_A.sl.HS3_9 (F := Ideal) c i arg3 harg3 arg4 harg4 arg5 harg5 arg6 harg6 arg7 harg7 arg9 arg10 arg11 arg12 x0 x1 x2 x3 x4)) :=
    step0 (i 2).val hn _ _ _ hmu
      (fun j e j' hj => ld_keys arg9.view (arg9.view.writes (Elt Ideal) arg9.view.junk (kernelRun0_A.sl.HS0_1 (F := Ideal) c arg5 harg5 x2)) _ (off3 i _ rfl hn 0 (by omega)) _ j e j' hj)
      (fun j e j' hj => ld_keys arg10.view (arg10.view.writes (Elt Ideal) arg10.view.junk (kernelRun0_A.sl.HS1_1 (F := Ideal) c arg6 harg6 x3)) _ (off3 i _ rfl hn 0 (by omega)) _ j e j' hj)
      arg11.view arg12.view I7 _ _
  exact I9

set_option maxHeartbeats 2000000 in
/-- The scratch arrays after the four tiles of the block's own keys. -/
theorem invB (xs0 xs1 : Vec Ideal S4096x128 .bf16)
    (hmu : ∀ (x : Fin 128) (y : Fin 256), ((kernelRun0_B.sl.r_6 (F := Ideal) c arg7 harg7 x4) (ix2 x y) : EReal) = if 128 ≤ y.val ∨ y.val < x.val then 1 else 0) :
    Inv (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) ((i 2).val * 2048) ((i 2).val * 2048) (View.canon (kernelRun0_B.sl.HS2_9 (F := Ideal) c i arg3 harg3 arg4 harg4 arg7 harg7 arg9 harg9 arg11 x0 x1 x4 xs0)) (View.canon (kernelRun0_B.sl.HS3_9 (F := Ideal) c i arg3 harg3 arg4 harg4 arg7 harg7 arg9 harg9 arg10 harg10 arg11 arg12 x0 x1 x4 xs0 xs1)) := by
  have hn : (i 2).val < 2 := (i 2).isLt
  have I1 : Inv (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) ((i 2).val * 2048) ((i 2).val * 2048 + 1536 + 512) (View.canon (kernelRun0_B.sl.HS2_1 (F := Ideal))) (View.canon (kernelRun0_B.sl.HS3_1 (F := Ideal))) :=
    inv_start _ _ _ _ _ _ (by omega) _
  have I3 : Inv (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) ((i 2).val * 2048) ((i 2).val * 2048 + 1536) (View.canon (kernelRun0_B.sl.HS2_3 (F := Ideal) c i arg3 harg3 arg4 harg4 arg7 harg7 arg9 harg9 arg11 x0 x1 x4 xs0)) (View.canon (kernelRun0_B.sl.HS3_3 (F := Ideal) c i arg3 harg3 arg4 harg4 arg7 harg7 arg9 harg9 arg10 harg10 arg11 arg12 x0 x1 x4 xs0 xs1)) :=
    step3 (i 2).val hn _ _ _ hmu
      (fun j e j' hj => ld_keys arg9.view (harg9.unread xs0) _ (off3 i _ rfl hn 3 (by omega)) _ j e j' hj)
      (fun j e j' hj => ld_keys arg10.view (harg10.unread xs1) _ (off3 i _ rfl hn 3 (by omega)) _ j e j' hj)
      arg11.view arg12.view I1 _ _
  have I5 : Inv (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) ((i 2).val * 2048) ((i 2).val * 2048 + 1024) (View.canon (kernelRun0_B.sl.HS2_5 (F := Ideal) c i arg3 harg3 arg4 harg4 arg7 harg7 arg9 harg9 arg11 x0 x1 x4 xs0)) (View.canon (kernelRun0_B.sl.HS3_5 (F := Ideal) c i arg3 harg3 arg4 harg4 arg7 harg7 arg9 harg9 arg10 harg10 arg11 arg12 x0 x1 x4 xs0 xs1)) :=
    step2 (i 2).val hn _ _ _ hmu
      (fun j e j' hj => ld_keys arg9.view (harg9.unread xs0) _ (off3 i _ rfl hn 2 (by omega)) _ j e j' hj)
      (fun j e j' hj => ld_keys arg10.view (harg10.unread xs1) _ (off3 i _ rfl hn 2 (by omega)) _ j e j' hj)
      arg11.view arg12.view I3 _ _
  have I7 : Inv (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) ((i 2).val * 2048) ((i 2).val * 2048 + 512) (View.canon (kernelRun0_B.sl.HS2_7 (F := Ideal) c i arg3 harg3 arg4 harg4 arg7 harg7 arg9 harg9 arg11 x0 x1 x4 xs0)) (View.canon (kernelRun0_B.sl.HS3_7 (F := Ideal) c i arg3 harg3 arg4 harg4 arg7 harg7 arg9 harg9 arg10 harg10 arg11 arg12 x0 x1 x4 xs0 xs1)) :=
    step1 (i 2).val hn _ _ _ hmu
      (fun j e j' hj => ld_keys arg9.view (harg9.unread xs0) _ (off3 i _ rfl hn 1 (by omega)) _ j e j' hj)
      (fun j e j' hj => ld_keys arg10.view (harg10.unread xs1) _ (off3 i _ rfl hn 1 (by omega)) _ j e j' hj)
      arg11.view arg12.view I5 _ _
  have I9 : Inv (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) ((i 2).val * 2048) ((i 2).val * 2048) (View.canon (kernelRun0_B.sl.HS2_9 (F := Ideal) c i arg3 harg3 arg4 harg4 arg7 harg7 arg9 harg9 arg11 x0 x1 x4 xs0)) (View.canon (kernelRun0_B.sl.HS3_9 (F := Ideal) c i arg3 harg3 arg4 harg4 arg7 harg7 arg9 harg9 arg10 harg10 arg11 arg12 x0 x1 x4 xs0 xs1)) :=
    step0 (i 2).val hn _ _ _ hmu
      (fun j e j' hj => ld_keys arg9.view (harg9.unread xs0) _ (off3 i _ rfl hn 0 (by omega)) _ j e j' hj)
      (fun j e j' hj => ld_keys arg10.view (harg10.unread xs1) _ (off3 i _ rfl hn 0 (by omega)) _ j e j' hj)
      arg11.view arg12.view I7 _ _
  exact I9

end

end Cert.Sb

end
-- ==== Proof.SbOut.lean ====
/- Stick-breaking attention: the block the kernel's body writes, as sums over the keys. -/
module

public import proofs.«01_k».proof.Proof.SbRun

@[expose] public section

set_option maxRecDepth 16384

noncomputable section

open Idealize.ShloMosaic Idealize.ShloMosaic.TcCoe Idealize.SL.Sem

namespace Cert.Sb

open Cert.KernelIdeal Cert.KernelIdeal.Gen

/-- The two heads' output rows put side by side in the lanes of one block. -/
theorem out_lanes {q : Fin 2 → FVec Ideal S2048x128 .bf16} {kb vb : FVec Ideal S4096x128 .bf16} {b : Fin 2 → EReal} {Q : ℕ} (v : View sig .tc .vmem S2x2048x128 .f32)
    {L3 : List (View.Piece (Elt Ideal) S2x2048x128 .f32)} (hI : ∀ (h : Fin 2) (r : Fin 2048) (l : Fin 128), (View.canon L3 (ix3 h r l) : EReal) = sumO q kb vb b Q h r l 0)
    (in0 : ∀ a, (![0, 0, 0] : Fin 3 → ℕ) a + S1x2048x128.size a ≤ S2x2048x128.size a) (in1 : ∀ a, (![1, 0, 0] : Fin 3 → ℕ) a + S1x2048x128.size a ≤ S2x2048x128.size a)
    (r : Fin 2048) (l : Fin 128) :
    (k0_pay203 (F := Ideal) k0_pay61 (v.readCov L3 (Rect.unit (s := S2x2048x128) ![0, 0, 0] S1x2048x128.size in0).toLoadRect)
        (v.readCov L3 (Rect.unit (s := S2x2048x128) ![1, 0, 0] S1x2048x128.size in1).toLoadRect) (ix2 r l) : EReal)
      = if l.val < 64 then sumO q kb vb b Q 0 r l 0 else sumO q kb vb b Q 1 r l 0 := by
  have h0 := (ld_rows 0 0 2048 (by omega) (by omega) in0 v L3 r l).trans (hI _ _ _)
  have h1 := (ld_rows 1 0 2048 (by omega) (by omega) in1 v L3 r l).trans (hI _ _ _)
  have e : (⟨0 + r.val, by omega⟩ : Fin 2048) = r := Fin.ext (by show 0 + r.val = r.val; omega)
  rw [e] at h0 h1
  generalize v.readCov L3 (Rect.unit (s := S2x2048x128) ![0, 0, 0] S1x2048x128.size in0).toLoadRect = y0 at h0 ⊢
  generalize v.readCov L3 (Rect.unit (s := S2x2048x128) ![1, 0, 0] S1x2048x128.size in1).toLoadRect = y1 at h1 ⊢
  have h0' : (y0 (ix3 (0 : Fin 1) r l) : EReal) = sumO q kb vb b Q 0 r l 0 := h0
  have h1' : (y1 (ix3 (0 : Fin 1) r l) : EReal) = sumO q kb vb b Q 1 r l 0 := h1
  rw [← h0', ← h1']
  pointwise [k0_pay203, k0_pay61]
  exact Consts.select_lane l.val l.isLt _ _

/-- What the staging of the keys leaves: the keys themselves. -/
theorem staged (v : View sig .tc .vmem S4096x128 .bf16) (x : FVec Ideal S4096x128 .f32) (inb : ∀ a, (![0, 0] : Fin 2 → ℕ) a + S4096x128.size a ≤ S4096x128.size a)
    (y : FVec Ideal S4096x128 .bf16) (hy : ∀ j e, (y (ix2 j e) : EReal) = x (ix2 j e)) :
    View.read (Elt Ideal) v (v.writes (Elt Ideal) v.junk [⟨Rect.unit (s := S4096x128) ![0, 0] S4096x128.size inb, y⟩]) = (x : S4096x128.Idx → EReal) := by
  have h0 : (![0, 0] : Fin 2 → ℕ) = fun _ => 0 := by funext a; fin_cases a <;> rfl
  rw [View.read_writes_junk_eq_canon, View.canon_cons_unit_zero (S := S4096x128) h0]
  funext x
  rw [eq_ix2 x]
  exact hy _ _

/-- A load of a whole two-dimensional array reads the array. -/
theorem ld_whole {e : EltTy} {a b : ℕ} {m : Memref sig .tc .vmem ⟨_, ![a, b]⟩ e} (hm : m.IsWhole) (X : Vec Ideal ⟨_, ![a, b]⟩ e)
    (inb : ∀ d, (![0, 0] : Fin 2 → ℕ) d + (![a, b] : Fin 2 → ℕ) d ≤ (![a, b] : Fin 2 → ℕ) d) :
    View.readAt (Elt Ideal) m.view (Rect.unit (s := ⟨_, ![a, b]⟩) ![0, 0] ![a, b] inb).toLoadRect (hm.unread X) = X := by
  funext x
  rw [show View.readAt (Elt Ideal) m.view (Rect.unit (s := ⟨_, ![a, b]⟩) ![0, 0] ![a, b] inb).toLoadRect (hm.unread X) x = X ((Rect.unit (s := ⟨_, ![a, b]⟩) ![0, 0] ![a, b] inb).toLoadRect.idx x) from congrFun (hm.read_unread X) _]
  refine congrArg X (funext fun d => Fin.ext ?_)
  fin_cases d
  · show 0 + 1 * (x 0).val = (x 0).val; omega
  · show 0 + 1 * (x 1).val = (x 1).val; omega

section

variable (c : Dev nD) (i : grid0.Coords) (arg3 : Memref sig .tc .smem S8 .f32) (harg3 : arg3.IsWhole) (arg4 : Memref sig .tc .vmem S2048x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S2x2048x128 .f32) (harg11 : arg11.IsWhole) (arg12 : Memref sig .tc .vmem S2x2048x128 .f32) (harg12 : arg12.IsWhole)
  (x0 : Vec Ideal S8 .f32) (x1 : Vec Ideal S2048x128 .bf16) (x2 x3 : Vec Ideal S4096x128 .f32) (x4 : Vec Ideal S128x256 .bf16)

set_option maxHeartbeats 2000000 in
/-- The output scratch array when every key is done. -/
theorem doneA  (hi : (i 2).val = 0)
    (hmu : ∀ (x : Fin 128) (y : Fin 256), ((kernelRun0_A.sl.r_6 (F := Ideal) c arg7 harg7 x4) (ix2 x y) : EReal) = if 128 ≤ y.val ∨ y.val < x.val then 1 else 0) (n1 n2 : ℕ) (hn1 : n1 = 0) (hn2 : n2 = 0)
    (h : Fin 2) (r : Fin 2048) (l : Fin 128) :
    (View.canon ((pb_k0_t2 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_A.sl.r_2 (F := Ideal) c arg4 harg4 x1) (kernelRun0_A.sl.r_3 (F := Ideal) c arg4 harg4 x1) (kernelRun0_A.sl.r_4 (F := Ideal) c i arg3 harg3 x0) (kernelRun0_A.sl.r_5 (F := Ideal) c i arg3 harg3 x0) (kernelRun0_A.sl.r_6 (F := Ideal) c arg7 harg7 x4) (kernelRun0_A.sl.v656 i) (arg9.view.writes (Elt Ideal) arg9.view.junk (kernelRun0_A.sl.HS0_1 (F := Ideal) c arg5 harg5 x2)) (arg10.view.writes (Elt Ideal) arg10.view.junk (kernelRun0_A.sl.HS1_1 (F := Ideal) c arg6 harg6 x3)) (arg11.view.writes (Elt Ideal) arg11.view.junk ((pb_k0_t1 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_A.sl.r_2 (F := Ideal) c arg4 harg4 x1) (kernelRun0_A.sl.r_3 (F := Ideal) c arg4 harg4 x1) (kernelRun0_A.sl.r_4 (F := Ideal) c i arg3 harg3 x0) (kernelRun0_A.sl.r_5 (F := Ideal) c i arg3 harg3 x0) (kernelRun0_A.sl.r_6 (F := Ideal) c arg7 harg7 x4) (arg9.view.writes (Elt Ideal) arg9.view.junk (kernelRun0_A.sl.HS0_1 (F := Ideal) c arg5 harg5 x2)) (arg10.view.writes (Elt Ideal) arg10.view.junk (kernelRun0_A.sl.HS1_1 (F := Ideal) c arg6 harg6 x3)) (arg11.view.writes (Elt Ideal) arg11.view.junk (kernelRun0_A.sl.HS2_9 (F := Ideal) c i arg3 harg3 arg4 harg4 arg5 harg5 arg7 harg7 arg9 arg11 x0 x1 x2 x4)) (arg12.view.writes (Elt Ideal) arg12.view.junk (kernelRun0_A.sl.HS3_9 (F := Ideal) c i arg3 harg3 arg4 harg4 arg5 harg5 arg6 harg6 arg7 harg7 arg9 arg10 arg11 arg12 x0 x1 x2 x3 x4)) n1).1 ++ kernelRun0_A.sl.HS2_9 (F := Ideal) c i arg3 harg3 arg4 harg4 arg5 harg5 arg7 harg7 arg9 arg11 x0 x1 x2 x4)) (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_A.sl.r_2 (F := Ideal) c arg4 harg4 x1) (kernelRun0_A.sl.r_3 (F := Ideal) c arg4 harg4 x1) (kernelRun0_A.sl.r_4 (F := Ideal) c i arg3 harg3 x0) (kernelRun0_A.sl.r_5 (F := Ideal) c i arg3 harg3 x0) (kernelRun0_A.sl.r_6 (F := Ideal) c arg7 harg7 x4) (arg9.view.writes (Elt Ideal) arg9.view.junk (kernelRun0_A.sl.HS0_1 (F := Ideal) c arg5 harg5 x2)) (arg10.view.writes (Elt Ideal) arg10.view.junk (kernelRun0_A.sl.HS1_1 (F := Ideal) c arg6 harg6 x3)) (arg11.view.writes (Elt Ideal) arg11.view.junk (kernelRun0_A.sl.HS2_9 (F := Ideal) c i arg3 harg3 arg4 harg4 arg5 harg5 arg7 harg7 arg9 arg11 x0 x1 x2 x4)) (arg12.view.writes (Elt Ideal) arg12.view.junk (kernelRun0_A.sl.HS3_9 (F := Ideal) c i arg3 harg3 arg4 harg4 arg5 harg5 arg6 harg6 arg7 harg7 arg9 arg10 arg11 arg12 x0 x1 x2 x3 x4)) n1).2 ++ kernelRun0_A.sl.HS3_9 (F := Ideal) c i arg3 harg3 arg4 harg4 arg5 harg5 arg6 harg6 arg7 harg7 arg9 arg10 arg11 arg12 x0 x1 x2 x3 x4)) n2).2 ++ ((pb_k0_t1 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_A.sl.r_2 (F := Ideal) c arg4 harg4 x1) (kernelRun0_A.sl.r_3 (F := Ideal) c arg4 harg4 x1) (kernelRun0_A.sl.r_4 (F := Ideal) c i arg3 harg3 x0) (kernelRun0_A.sl.r_5 (F := Ideal) c i arg3 harg3 x0) (kernelRun0_A.sl.r_6 (F := Ideal) c arg7 harg7 x4) (arg9.view.writes (Elt Ideal) arg9.view.junk (kernelRun0_A.sl.HS0_1 (F := Ideal) c arg5 harg5 x2)) (arg10.view.writes (Elt Ideal) arg10.view.junk (kernelRun0_A.sl.HS1_1 (F := Ideal) c arg6 harg6 x3)) (arg11.view.writes (Elt Ideal) arg11.view.junk (kernelRun0_A.sl.HS2_9 (F := Ideal) c i arg3 harg3 arg4 harg4 arg5 harg5 arg7 harg7 arg9 arg11 x0 x1 x2 x4)) (arg12.view.writes (Elt Ideal) arg12.view.junk (kernelRun0_A.sl.HS3_9 (F := Ideal) c i arg3 harg3 arg4 harg4 arg5 harg5 arg6 harg6 arg7 harg7 arg9 arg10 arg11 arg12 x0 x1 x2 x3 x4)) n1).2 ++ kernelRun0_A.sl.HS3_9 (F := Ideal) c i arg3 harg3 arg4 harg4 arg5 harg5 arg6 harg6 arg7 harg7 arg9 arg10 arg11 arg12 x0 x1 x2 x3 x4)) (ix3 h r l) : EReal)
      = sumO (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) 0 h r l 0 := by
  subst hn1 hn2
  have I := invA c i arg3 harg3 arg4 harg4 arg5 harg5 arg6 harg6 arg7 harg7 arg9 arg10 arg11 arg12 x0 x1 x2 x3 x4 hmu
  rw [show (i 2).val * 2048 = 0 by omega] at I
  exact (I h r l).2

set_option maxHeartbeats 2000000 in
/-- The block the body writes. -/
theorem outA  (hc0 : cond0_0 i) (hi : (i 2).val = 0)
    (hmu : ∀ (x : Fin 128) (y : Fin 256), (k0_pay67 (F := Ideal) x4 (ix2 x y) : EReal) = if 128 ≤ y.val ∨ y.val < x.val then 1 else 0)
    (b : Fin 2 → EReal) (hb0 : (kernelRun0_A.sl.r_4 (F := Ideal) c i arg3 harg3 x0) = b 0) (hb1 : (kernelRun0_A.sl.r_5 (F := Ideal) c i arg3 harg3 x0) = b 1) (r : Fin 2048) (l : Fin 128) :
    (out0_A_5 (F := Ideal) c i arg3 harg3 arg4 harg4 arg5 harg5 arg6 harg6 arg7 harg7 arg8 harg8 arg9 harg9 arg10 harg10 arg11 harg11 arg12 harg12 hc0 x0 x1 x2 x3 x4 (ix2 r l) : EReal)
      = if l.val < 64 then sumO (two (k0_pay63 x1) (k0_pay64 x1)) x2 x3 b 0 0 r l 0
        else sumO (two (k0_pay63 x1) (k0_pay64 x1)) x2 x3 b 0 1 r l 0 := by
  have e2 : (kernelRun0_A.sl.r_2 (F := Ideal) c arg4 harg4 x1) = k0_pay63 (F := Ideal) x1 := by
    unfold kernelRun0_A.sl.r_2
    exact congrArg k0_pay63 (ld_whole harg4 x1 _)
  have e3 : (kernelRun0_A.sl.r_3 (F := Ideal) c arg4 harg4 x1) = k0_pay64 (F := Ideal) x1 := by
    unfold kernelRun0_A.sl.r_3
    exact congrArg k0_pay64 (ld_whole harg4 x1 _)
  have e6 : (kernelRun0_A.sl.r_6 (F := Ideal) c arg7 harg7 x4) = k0_pay67 (F := Ideal) x4 := by
    unfold kernelRun0_A.sl.r_6
    exact congrArg k0_pay67 (ld_whole harg7 x4 _)
  have e9 : View.read (Elt Ideal) arg9.view (arg9.view.writes (Elt Ideal) arg9.view.junk (kernelRun0_A.sl.HS0_1 (F := Ideal) c arg5 harg5 x2)) = x2 := by
    rw [show kernelRun0_A.sl.HS0_1 (F := Ideal) c arg5 harg5 x2 = ([⟨Rect.unit (s := S4096x128) ![0, 0] S4096x128.size inb_S4096x128_S4096x128_0_0, k0_pay59 (F := Ideal) x2⟩] : List (View.Piece (Elt Ideal) S4096x128 .bf16)) from congrArg (fun y : FVec Ideal S4096x128 .f32 => ([⟨Rect.unit (s := S4096x128) ![0, 0] S4096x128.size inb_S4096x128_S4096x128_0_0, k0_pay59 (F := Ideal) y⟩] : List (View.Piece (Elt Ideal) S4096x128 .bf16))) (ld_whole harg5 x2 _)]
    exact staged arg9.view x2 _ (k0_pay59 x2) (fun j e => by pointwise [k0_pay59, k0_pay60])
  have e10 : View.read (Elt Ideal) arg10.view (arg10.view.writes (Elt Ideal) arg10.view.junk (kernelRun0_A.sl.HS1_1 (F := Ideal) c arg6 harg6 x3)) = x3 := by
    rw [show kernelRun0_A.sl.HS1_1 (F := Ideal) c arg6 harg6 x3 = ([⟨Rect.unit (s := S4096x128) ![0, 0] S4096x128.size inb_S4096x128_S4096x128_0_0, k0_pay60 (F := Ideal) x3⟩] : List (View.Piece (Elt Ideal) S4096x128 .bf16)) from congrArg (fun y : FVec Ideal S4096x128 .f32 => ([⟨Rect.unit (s := S4096x128) ![0, 0] S4096x128.size inb_S4096x128_S4096x128_0_0, k0_pay60 (F := Ideal) y⟩] : List (View.Piece (Elt Ideal) S4096x128 .bf16))) (ld_whole harg6 x3 _)]
    exact staged arg10.view x3 _ (k0_pay60 x3) (fun j e => by pointwise [k0_pay59, k0_pay60])
  have eb : (two (kernelRun0_A.sl.r_4 (F := Ideal) c i arg3 harg3 x0) (kernelRun0_A.sl.r_5 (F := Ideal) c i arg3 harg3 x0)) = b := by
    funext h
    fin_cases h
    · exact hb0
    · exact hb1
  have D := doneA c i arg3 harg3 arg4 harg4 arg5 harg5 arg6 harg6 arg7 harg7 arg8 harg8 arg9 harg9 arg10 harg10 arg11 harg11 arg12 harg12 x0 x1 x2 x3 x4 hi (by rw [e6]; exact hmu) (Scf.trips (k0_t1_loop i).lb (k0_t1_loop i).ub (k0_t1_loop i).st) (Scf.trips (k0_t2_loop i).lb (k0_t2_loop i).ub (k0_t2_loop i).st) (trips_zero i hi) (trips_rest i (Or.inl hi))
  have R : ∀ (h : Fin 2) (r : Fin 2048) (l : Fin 128),
      sumO (two (kernelRun0_A.sl.r_2 (F := Ideal) c arg4 harg4 x1) (kernelRun0_A.sl.r_3 (F := Ideal) c arg4 harg4 x1)) (View.read (Elt Ideal) arg9.view (arg9.view.writes (Elt Ideal) arg9.view.junk (kernelRun0_A.sl.HS0_1 (F := Ideal) c arg5 harg5 x2))) (View.read (Elt Ideal) arg10.view (arg10.view.writes (Elt Ideal) arg10.view.junk (kernelRun0_A.sl.HS1_1 (F := Ideal) c arg6 harg6 x3))) (two (kernelRun0_A.sl.r_4 (F := Ideal) c i arg3 harg3 x0) (kernelRun0_A.sl.r_5 (F := Ideal) c i arg3 harg3 x0)) 0 h r l 0
        = sumO (two (k0_pay63 x1) (k0_pay64 x1)) x2 x3 b 0 h r l 0 := by
    intro h r l
    rw [e2, e3, e9, e10, eb]
  have h0 : (![0, 0] : Fin 2 → ℕ) = fun _ => 0 := by funext a; fin_cases a <;> rfl
  have F := out_lanes arg12.view (fun h r l => (D h r l).trans (R h r l)) inb_S2x2048x128_S1x2048x128_0_0_0 inb_S2x2048x128_S1x2048x128_1_0_0 r l
  unfold out0_A_5
  rw [View.read_writes_junk_eq_canon]
  refine Eq.trans (congrFun (View.canon_cons_unit_zero (S := S2048x128) h0 _ _ []) (ix2 r l)) ?_
  exact F

set_option maxHeartbeats 2000000 in
/-- The output scratch array when every key is done. -/
theorem doneB (xs0 xs1 : Vec Ideal S4096x128 .bf16) (hi : (i 2).val = 1)
    (hmu : ∀ (x : Fin 128) (y : Fin 256), ((kernelRun0_B.sl.r_6 (F := Ideal) c arg7 harg7 x4) (ix2 x y) : EReal) = if 128 ≤ y.val ∨ y.val < x.val then 1 else 0) (n1 n2 : ℕ) (hn1 : n1 = 4) (hn2 : n2 = 0)
    (h : Fin 2) (r : Fin 2048) (l : Fin 128) :
    (View.canon ((pb_k0_t2 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_B.sl.r_2 (F := Ideal) c arg4 harg4 x1) (kernelRun0_B.sl.r_3 (F := Ideal) c arg4 harg4 x1) (kernelRun0_B.sl.r_4 (F := Ideal) c i arg3 harg3 x0) (kernelRun0_B.sl.r_5 (F := Ideal) c i arg3 harg3 x0) (kernelRun0_B.sl.r_6 (F := Ideal) c arg7 harg7 x4) (kernelRun0_B.sl.v656 i) (harg9.unread xs0) (harg10.unread xs1) (arg11.view.writes (Elt Ideal) arg11.view.junk ((pb_k0_t1 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_B.sl.r_2 (F := Ideal) c arg4 harg4 x1) (kernelRun0_B.sl.r_3 (F := Ideal) c arg4 harg4 x1) (kernelRun0_B.sl.r_4 (F := Ideal) c i arg3 harg3 x0) (kernelRun0_B.sl.r_5 (F := Ideal) c i arg3 harg3 x0) (kernelRun0_B.sl.r_6 (F := Ideal) c arg7 harg7 x4) (harg9.unread xs0) (harg10.unread xs1) (arg11.view.writes (Elt Ideal) arg11.view.junk (kernelRun0_B.sl.HS2_9 (F := Ideal) c i arg3 harg3 arg4 harg4 arg7 harg7 arg9 harg9 arg11 x0 x1 x4 xs0)) (arg12.view.writes (Elt Ideal) arg12.view.junk (kernelRun0_B.sl.HS3_9 (F := Ideal) c i arg3 harg3 arg4 harg4 arg7 harg7 arg9 harg9 arg10 harg10 arg11 arg12 x0 x1 x4 xs0 xs1)) n1).1 ++ kernelRun0_B.sl.HS2_9 (F := Ideal) c i arg3 harg3 arg4 harg4 arg7 harg7 arg9 harg9 arg11 x0 x1 x4 xs0)) (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_B.sl.r_2 (F := Ideal) c arg4 harg4 x1) (kernelRun0_B.sl.r_3 (F := Ideal) c arg4 harg4 x1) (kernelRun0_B.sl.r_4 (F := Ideal) c i arg3 harg3 x0) (kernelRun0_B.sl.r_5 (F := Ideal) c i arg3 harg3 x0) (kernelRun0_B.sl.r_6 (F := Ideal) c arg7 harg7 x4) (harg9.unread xs0) (harg10.unread xs1) (arg11.view.writes (Elt Ideal) arg11.view.junk (kernelRun0_B.sl.HS2_9 (F := Ideal) c i arg3 harg3 arg4 harg4 arg7 harg7 arg9 harg9 arg11 x0 x1 x4 xs0)) (arg12.view.writes (Elt Ideal) arg12.view.junk (kernelRun0_B.sl.HS3_9 (F := Ideal) c i arg3 harg3 arg4 harg4 arg7 harg7 arg9 harg9 arg10 harg10 arg11 arg12 x0 x1 x4 xs0 xs1)) n1).2 ++ kernelRun0_B.sl.HS3_9 (F := Ideal) c i arg3 harg3 arg4 harg4 arg7 harg7 arg9 harg9 arg10 harg10 arg11 arg12 x0 x1 x4 xs0 xs1)) n2).2 ++ ((pb_k0_t1 (F := Ideal) Variants.none c none i arg3 harg3 arg4 harg4 arg5 harg5 arg6 harg6 arg7 harg7 arg8 harg8 arg9 harg9 arg10 harg10 arg11 harg11 arg12 harg12 (BitVec.ofNat 32 ↑(i 2)) (kernelRun0_B.sl.r_2 (F := Ideal) c arg4 harg4 x1) (kernelRun0_B.sl.r_3 (F := Ideal) c arg4 harg4 x1) (kernelRun0_B.sl.r_4 (F := Ideal) c i arg3 harg3 x0) (kernelRun0_B.sl.r_5 (F := Ideal) c i arg3 harg3 x0) (kernelRun0_B.sl.r_6 (F := Ideal) c arg7 harg7 x4) (harg9.unread xs0) (harg10.unread xs1) (arg11.view.writes (Elt Ideal) arg11.view.junk (kernelRun0_B.sl.HS2_9 (F := Ideal) c i arg3 harg3 arg4 harg4 arg7 harg7 arg9 harg9 arg11 x0 x1 x4 xs0)) (arg12.view.writes (Elt Ideal) arg12.view.junk (kernelRun0_B.sl.HS3_9 (F := Ideal) c i arg3 harg3 arg4 harg4 arg7 harg7 arg9 harg9 arg10 harg10 arg11 arg12 x0 x1 x4 xs0 xs1)) n1).2 ++ kernelRun0_B.sl.HS3_9 (F := Ideal) c i arg3 harg3 arg4 harg4 arg7 harg7 arg9 harg9 arg10 harg10 arg11 arg12 x0 x1 x4 xs0 xs1)) (ix3 h r l) : EReal)
      = sumO (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) 2048 h r l 0 := by
  subst hn1 hn2
  have I := invB c i arg3 harg3 arg4 harg4 arg7 harg7 arg9 harg9 arg10 harg10 arg11 arg12 x0 x1 x4 xs0 xs1 hmu
  rw [show (i 2).val * 2048 = 2048 by omega] at I
  have J := loop_inv c i arg3 harg3 arg4 harg4 arg5 harg5 arg6 harg6 arg7 harg7 arg8 harg8 arg9 harg9 arg10 harg10 arg11 harg11 arg12 harg12 (BitVec.ofNat 32 (i 2).val) (kernelRun0_B.sl.r_2 (F := Ideal) c arg4 harg4 x1) (kernelRun0_B.sl.r_3 (F := Ideal) c arg4 harg4 x1) (kernelRun0_B.sl.r_4 (F := Ideal) c i arg3 harg3 x0) (kernelRun0_B.sl.r_5 (F := Ideal) c i arg3 harg3 x0) (kernelRun0_B.sl.r_6 (F := Ideal) c arg7 harg7 x4) (harg9.unread xs0) (harg10.unread xs1) hi hmu I 4 le_rfl
  exact (J h r l).2

set_option maxHeartbeats 2000000 in
/-- The block the body writes. -/
theorem outB (xs0 xs1 : Vec Ideal S4096x128 .bf16) (hc0 : ¬cond0_0 i) (hi : (i 2).val = 1)
    (hmu : ∀ (x : Fin 128) (y : Fin 256), (k0_pay67 (F := Ideal) x4 (ix2 x y) : EReal) = if 128 ≤ y.val ∨ y.val < x.val then 1 else 0)
    (b : Fin 2 → EReal) (hb0 : (kernelRun0_B.sl.r_4 (F := Ideal) c i arg3 harg3 x0) = b 0) (hb1 : (kernelRun0_B.sl.r_5 (F := Ideal) c i arg3 harg3 x0) = b 1) (r : Fin 2048) (l : Fin 128) :
    (out0_B_5 (F := Ideal) c i arg3 harg3 arg4 harg4 arg5 harg5 arg6 harg6 arg7 harg7 arg8 harg8 arg9 harg9 arg10 harg10 arg11 harg11 arg12 harg12 hc0 x0 x1 x2 x3 x4 xs0 xs1 (ix2 r l) : EReal)
      = if l.val < 64 then sumO (two (k0_pay63 x1) (k0_pay64 x1)) xs0 xs1 b 2048 0 r l 0
        else sumO (two (k0_pay63 x1) (k0_pay64 x1)) xs0 xs1 b 2048 1 r l 0 := by
  have e2 : (kernelRun0_B.sl.r_2 (F := Ideal) c arg4 harg4 x1) = k0_pay63 (F := Ideal) x1 := by
    unfold kernelRun0_B.sl.r_2
    exact congrArg k0_pay63 (ld_whole harg4 x1 _)
  have e3 : (kernelRun0_B.sl.r_3 (F := Ideal) c arg4 harg4 x1) = k0_pay64 (F := Ideal) x1 := by
    unfold kernelRun0_B.sl.r_3
    exact congrArg k0_pay64 (ld_whole harg4 x1 _)
  have e6 : (kernelRun0_B.sl.r_6 (F := Ideal) c arg7 harg7 x4) = k0_pay67 (F := Ideal) x4 := by
    unfold kernelRun0_B.sl.r_6
    exact congrArg k0_pay67 (ld_whole harg7 x4 _)
  have e9 : View.read (Elt Ideal) arg9.view (harg9.unread xs0) = xs0 := by
    exact harg9.read_unread xs0
  have e10 : View.read (Elt Ideal) arg10.view (harg10.unread xs1) = xs1 := by
    exact harg10.read_unread xs1
  have eb : (two (kernelRun0_B.sl.r_4 (F := Ideal) c i arg3 harg3 x0) (kernelRun0_B.sl.r_5 (F := Ideal) c i arg3 harg3 x0)) = b := by
    funext h
    fin_cases h
    · exact hb0
    · exact hb1
  have D := doneB c i arg3 harg3 arg4 harg4 arg5 harg5 arg6 harg6 arg7 harg7 arg8 harg8 arg9 harg9 arg10 harg10 arg11 harg11 arg12 harg12 x0 x1 x4 xs0 xs1 hi (by rw [e6]; exact hmu) (Scf.trips (k0_t1_loop i).lb (k0_t1_loop i).ub (k0_t1_loop i).st) (Scf.trips (k0_t2_loop i).lb (k0_t2_loop i).ub (k0_t2_loop i).st) (trips_one i hi) (trips_rest i (Or.inr hi))
  have R : ∀ (h : Fin 2) (r : Fin 2048) (l : Fin 128),
      sumO (two (kernelRun0_B.sl.r_2 (F := Ideal) c arg4 harg4 x1) (kernelRun0_B.sl.r_3 (F := Ideal) c arg4 harg4 x1)) (View.read (Elt Ideal) arg9.view (harg9.unread xs0)) (View.read (Elt Ideal) arg10.view (harg10.unread xs1)) (two (kernelRun0_B.sl.r_4 (F := Ideal) c i arg3 harg3 x0) (kernelRun0_B.sl.r_5 (F := Ideal) c i arg3 harg3 x0)) 2048 h r l 0
        = sumO (two (k0_pay63 x1) (k0_pay64 x1)) xs0 xs1 b 2048 h r l 0 := by
    intro h r l
    rw [e2, e3, e9, e10, eb]
  have h0 : (![0, 0] : Fin 2 → ℕ) = fun _ => 0 := by funext a; fin_cases a <;> rfl
  have F := out_lanes arg12.view (fun h r l => (D h r l).trans (R h r l)) inb_S2x2048x128_S1x2048x128_0_0_0 inb_S2x2048x128_S1x2048x128_1_0_0 r l
  unfold out0_B_5
  rw [View.read_writes_junk_eq_canon]
  refine Eq.trans (congrFun (View.canon_cons_unit_zero (S := S2048x128) h0 _ _ []) (ix2 r l)) ?_
  exact F

end

end Cert.Sb

end
-- ==== Proof.SbBlocks.lean ====
/- Stick-breaking attention: the kernel's staged blocks as parts of its arguments. -/
module

public import proofs.«01_k».proof.Proof.SbOut
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Sb

open Cert.KernelIdeal Cert.KernelIdeal.Gen

variable (m : (ℓ : Loc nD τ sig) → Buf (Elt Ideal) ℓ)

theorem coord2 : ∀ t : Fin cfg0.N, (grid0.coords t 2).val = t.val % 2 := by decide +kernel

theorem coord1 : ∀ t : Fin cfg0.N, (grid0.coords t 1).val = t.val / 2 % 4 := by decide +kernel

/-- The block that each window stages at a grid point. -/
theorem idx : ∀ t : Fin cfg0.N, win0_0.index t = ![0] ∧ win0_1.index t = ![t.val / 8 * 2 + t.val % 2, t.val / 2 % 4]
    ∧ win0_2.index t = ![t.val / 8, t.val / 2 % 4] ∧ win0_3.index t = ![t.val / 8, t.val / 2 % 4] ∧ win0_4.index t = ![0, 0]
    ∧ win0_5.index t = ![t.val / 8 * 2 + t.val % 2, t.val / 2 % 4] :=
  (by decide +kernel : ∀ t : Fin grid0.N, _)

theorem b1 (c : Dev nD) (t : Fin cfg0.N) (hN : t.val < 32) (r : Fin 2048) (l : Fin 128) :
    (iblk m c 1 t : FVec Ideal S2048x128 .bf16) (ix2 r l) = (m ((c : Thread nD τ).loc main_arg0) : FVec Ideal S16384x512 .bf16) (ix2 (⟨(t.val / 8 * 2 + t.val % 2) * 2048 + r.val, by omega⟩ : Fin 16384) (⟨t.val / 2 % 4 * 128 + l.val, by omega⟩ : Fin 512)) := by
  blk_point [iblk, V, idx t]

theorem b2 (c : Dev nD) (t : Fin cfg0.N) (hN : t.val < 32) (r : Fin 4096) (l : Fin 128) :
    (iblk m c 2 t : FVec Ideal S4096x128 .f32) (ix2 r l) = (m ((c : Thread nD τ).loc main_arg1) : FVec Ideal S16384x512 .f32) (ix2 (⟨t.val / 8 * 4096 + r.val, by omega⟩ : Fin 16384) (⟨t.val / 2 % 4 * 128 + l.val, by omega⟩ : Fin 512)) := by
  blk_point [iblk, V, idx t]

theorem b3 (c : Dev nD) (t : Fin cfg0.N) (hN : t.val < 32) (r : Fin 4096) (l : Fin 128) :
    (iblk m c 3 t : FVec Ideal S4096x128 .f32) (ix2 r l) = (m ((c : Thread nD τ).loc main_arg2) : FVec Ideal S16384x512 .f32) (ix2 (⟨t.val / 8 * 4096 + r.val, by omega⟩ : Fin 16384) (⟨t.val / 2 % 4 * 128 + l.val, by omega⟩ : Fin 512)) := by
  blk_point [iblk, V, idx t]

theorem b0 (c : Dev nD) (t : Fin cfg0.N) (l : Fin 8) :
    (iblk m c 0 t : FVec Ideal S8 .f32) (ix1 l) = (m ((c : Thread nD τ).loc main_arg3) : FVec Ideal S8 .f32) (ix1 l) := by
  blk_point [iblk, V, idx t]

/-- The matrix of the sums over later keys, beside a matrix of ones. -/
def suffixes : FVec Ideal S128x256 .bf16 :=
  uitofp .bf16 (concatenate S128x256 1 [⟨S128x128, cmpi .sgt (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))⟩,
    ⟨S128x128, broadcastInDim S128x128 ![] bcast_S_S128x128 (constantI S_ 1 1#1)⟩] concatenates_S128x128_S128x128_S128x256_d1)

set_option maxHeartbeats 4000000 in
theorem V_suffixes (c : Dev nD) : V m c main_v9 = suffixes := by
  rfl

theorem sgt_bit : ∀ x y : Fin 128, BitVec.slt (BitVec.ofNat 32 y.val) (BitVec.ofNat 32 x.val) = decide (y.val < x.val) := by decide +kernel

theorem suffixes_apply (x : Fin 128) (y : Fin 256) : (suffixes (ix2 x y) : EReal) = if 128 ≤ y.val ∨ y.val < x.val then 1 else 0 := by
  have u1 : (FloatOps.uitofp (F := Ideal) FTy.bf16 (1#1) : EReal) = 1 := by
    show (((1#1 : BitVec 1).toNat : ℝ) : EReal) = 1
    simp
  have u0 : (FloatOps.uitofp (F := Ideal) FTy.bf16 (0#1) : EReal) = 0 := by
    show (((0#1 : BitVec 1).toNat : ℝ) : EReal) = 0
    simp
  rcases lt_or_ge y.val 128 with h | h
  · pointwise [suffixes]
    rw [dif_pos h]
    have hb : IntOp.cmpi CmpIPredicate.sgt (BitVec.ofNat 32 x.val) (BitVec.ofNat 32 y.val) = if y.val < x.val then 1#1 else 0#1 := by
      have h1 := sgt_bit x ⟨y.val, h⟩
      show BitVec.ofBool (BitVec.slt (BitVec.ofNat 32 y.val) (BitVec.ofNat 32 x.val)) = _
      rw [h1]
      by_cases h2 : y.val < x.val
      · rw [if_pos h2, decide_eq_true h2]; rfl
      · rw [if_neg h2, decide_eq_false h2]; rfl
    rw [hb]
    by_cases h2 : y.val < x.val
    · rw [if_pos h2, if_pos (Or.inr h2)]; exact u1
    · rw [if_neg h2, if_neg (by omega)]; exact u0
  · pointwise [suffixes]
    rw [dif_neg (by omega), if_pos (Or.inl h)]
    exact u1

theorem b4 (c : Dev nD) (t : Fin cfg0.N) (x : Fin 128) (y : Fin 256) :
    (k0_pay67 (F := Ideal) (iblk m c 4 t) (ix2 x y) : EReal) = if 128 ≤ y.val ∨ y.val < x.val then 1 else 0 := by
  have h : (iblk m c 4 t : FVec Ideal S128x256 .bf16) (ix2 x y) = suffixes (ix2 x y) := by
    rw [← V_suffixes m c]
    blk_point [iblk, idx t]
  rw [← suffixes_apply, ← h]
  pointwise [k0_pay67]

/-- The logits (base 2) of one query against the keys of its sequence. -/
def logit2 (qn : FVec Ideal S16384x512 .bf16) (sk : FVec Ideal S16384x512 .f32) (bias : FVec Ideal S8 .f32) (R : Fin 16384) (H : Fin 8) (j : ℕ) : EReal :=
  if hj : j < 4096 then
    (∑ e : Fin 64, qn (ix2 R (⟨64 * H.val + e.val, by omega⟩ : Fin 512)) * sk (ix2 (⟨R.val / 4096 * 4096 + j, by omega⟩ : Fin 16384) (⟨64 * H.val + e.val, by omega⟩ : Fin 512)))
      + bias (ix1 H) * Named.named (F := Ideal) (φ := .f32) κ "log2e" 0x3FB8AA3B#32
  else 0

/-- The logarithm (base 2) of what key `j` leaves to the keys before it. -/
def rowRest (Z : ℕ → EReal) (P : ℕ) (j : ℕ) : EReal := if j < P then lbeta (Z j) - Z j else 0

/-- The weight of key `j` for the query at position `P`. -/
def rowAtt (Z : ℕ → EReal) (P : ℕ) (j : ℕ) : EReal :=
  if j < P then FloatOps.exp2 (F := Ideal) (φ := .f32) (lbeta (Z j) + ∑ i ∈ Finset.Ico (j + 1) 4096, rowRest Z P i) else 0

/-- The attention's result array, as the kernel computes it. -/
def attn (qn : FVec Ideal S16384x512 .bf16) (sk sv : FVec Ideal S16384x512 .f32) (bias : FVec Ideal S8 .f32) : FVec Ideal S16384x512 .bf16 := fun y =>
  ∑ j : Fin 4096, rowAtt (logit2 qn sk bias (y 0) ⟨(y 1).val / 64, Nat.div_lt_of_lt_mul (y 1).isLt⟩) ((y 0).val % 4096) j.val
    * sv (ix2 (⟨(y 0).val / 4096 * 4096 + j.val, by have h : (y 0).val < 16384 := (y 0).isLt; omega⟩ : Fin 16384) (y 1))

/-- A block's sums are the result array's, when the block's logits and values are. -/
theorem sumO_attn (qn : FVec Ideal S16384x512 .bf16) (sk sv : FVec Ideal S16384x512 .f32) (bias : FVec Ideal S8 .f32)
    (q : Fin 2 → FVec Ideal S2048x128 .bf16) (kb vb : FVec Ideal S4096x128 .bf16) (b : Fin 2 → EReal) (Q : ℕ) (h : Fin 2) (r : Fin 2048) (l : Fin 128)
    (R : Fin 16384) (C : Fin 512) (hP : R.val % 4096 = Q + r.val)
    (hz : ∀ j : ℕ, logit q kb b h r j = logit2 qn sk bias R ⟨C.val / 64, Nat.div_lt_of_lt_mul C.isLt⟩ j)
    (hv : ∀ j : Fin 4096, vb (ix2 j l) = sv (ix2 (⟨R.val / 4096 * 4096 + j.val, by omega⟩ : Fin 16384) C)) :
    sumO q kb vb b Q h r l 0 = attn qn sk sv bias (ix2 R C) := by
  have e : logit q kb b h r = logit2 qn sk bias R ⟨C.val / 64, Nat.div_lt_of_lt_mul C.isLt⟩ := funext hz
  have ha : ∀ j, att q kb b Q h r j = rowAtt (logit2 qn sk bias R ⟨C.val / 64, Nat.div_lt_of_lt_mul C.isLt⟩) (R.val % 4096) j := by
    intro j
    rw [hP, ← e]
    rfl
  show ∑ j ∈ Finset.Ico 0 4096, att q kb b Q h r j * val vb l j = ∑ j : Fin 4096, _
  rw [← Finset.range_eq_Ico, Finset.sum_range]
  refine Finset.sum_congr rfl fun j _ => ?_
  rw [ha, val, dif_pos j.isLt]
  exact congrArg _ (hv j)

/-- The logits of the pair's first head: the lanes of the second are masked out of its queries. -/
theorem logit_low (qn : FVec Ideal S16384x512 .bf16) (sk : FVec Ideal S16384x512 .f32) (bias : FVec Ideal S8 .f32) (x1 : FVec Ideal S2048x128 .bf16)
    (kb : FVec Ideal S4096x128 .bf16) (b : Fin 2 → EReal) (r : Fin 2048) (R : Fin 16384) (H : Fin 8) (p : ℕ) (hp : p < 4) (hH : H.val = 2 * p)
    (hq : ∀ e : Fin 128, x1 (ix2 r e) = qn (ix2 R (⟨p * 128 + e.val, by omega⟩ : Fin 512)))
    (hk : ∀ (j : Fin 4096) (e : Fin 128), kb (ix2 j e) = sk (ix2 (⟨R.val / 4096 * 4096 + j.val, by omega⟩ : Fin 16384) (⟨p * 128 + e.val, by omega⟩ : Fin 512)))
    (hb : b 0 = bias (ix1 H) * Named.named (F := Ideal) (φ := .f32) κ "log2e" 0x3FB8AA3B#32) (j : ℕ) :
    logit (two (k0_pay63 (F := Ideal) x1 : FVec Ideal S2048x128 .bf16) (k0_pay64 (F := Ideal) x1)) kb b 0 r j = logit2 qn sk bias R H j := by
  unfold logit logit2
  by_cases hj : j < 4096
  · rw [dif_pos hj, dif_pos hj, hb]
    refine congrArg (· + _) ?_
    have e1 : ∀ e : Fin 128, ((two (k0_pay63 (F := Ideal) x1 : FVec Ideal S2048x128 .bf16) (k0_pay64 (F := Ideal) x1) 0 (ix2 r e) : EReal) * kb (ix2 (⟨j, hj⟩ : Fin 4096) e))
        = if e.val < 64 then (x1 (ix2 r e) : EReal) * kb (ix2 (⟨j, hj⟩ : Fin 4096) e) else 0 := by
      intro e
      have h0 : (k0_pay63 (F := Ideal) x1 (ix2 r e) : EReal) = if e.val < 64 then (x1 (ix2 r e) : EReal) else 0 := by
        pointwise [k0_pay63, k0_pay61, k0_pay62]
        exact Consts.select_lane e.val e.isLt _ _
      show (k0_pay63 (F := Ideal) x1 (ix2 r e) : EReal) * _ = _
      rw [h0]
      split
      · rfl
      · exact zero_mul _
    rw [Finset.sum_congr rfl fun e _ => e1 e, Consts.sum_low]
    refine Finset.sum_congr rfl fun e _ => ?_
    rw [hq, hk]
    have e2 : (⟨p * 128 + e.val, by omega⟩ : Fin 512) = ⟨64 * H.val + e.val, by omega⟩ := Fin.ext (by show p * 128 + e.val = 64 * H.val + e.val; omega)
    exact congrArg₂ (· * ·) (congrArg (fun C => qn (ix2 R C)) e2) (congrArg (fun C => sk (ix2 _ C)) e2)
  · rw [dif_neg hj, dif_neg hj]

/-- The logits of the pair's second head. -/
theorem logit_high (qn : FVec Ideal S16384x512 .bf16) (sk : FVec Ideal S16384x512 .f32) (bias : FVec Ideal S8 .f32) (x1 : FVec Ideal S2048x128 .bf16)
    (kb : FVec Ideal S4096x128 .bf16) (b : Fin 2 → EReal) (r : Fin 2048) (R : Fin 16384) (H : Fin 8) (p : ℕ) (hp : p < 4) (hH : H.val = 2 * p + 1)
    (hq : ∀ e : Fin 128, x1 (ix2 r e) = qn (ix2 R (⟨p * 128 + e.val, by omega⟩ : Fin 512)))
    (hk : ∀ (j : Fin 4096) (e : Fin 128), kb (ix2 j e) = sk (ix2 (⟨R.val / 4096 * 4096 + j.val, by omega⟩ : Fin 16384) (⟨p * 128 + e.val, by omega⟩ : Fin 512)))
    (hb : b 1 = bias (ix1 H) * Named.named (F := Ideal) (φ := .f32) κ "log2e" 0x3FB8AA3B#32) (j : ℕ) :
    logit (two (k0_pay63 (F := Ideal) x1 : FVec Ideal S2048x128 .bf16) (k0_pay64 (F := Ideal) x1)) kb b 1 r j = logit2 qn sk bias R H j := by
  unfold logit logit2
  by_cases hj : j < 4096
  · rw [dif_pos hj, dif_pos hj, hb]
    refine congrArg (· + _) ?_
    have e1 : ∀ e : Fin 128, ((two (k0_pay63 (F := Ideal) x1 : FVec Ideal S2048x128 .bf16) (k0_pay64 (F := Ideal) x1) 1 (ix2 r e) : EReal) * kb (ix2 (⟨j, hj⟩ : Fin 4096) e))
        = if e.val < 64 then 0 else (x1 (ix2 r e) : EReal) * kb (ix2 (⟨j, hj⟩ : Fin 4096) e) := by
      intro e
      have h0 : (k0_pay64 (F := Ideal) x1 (ix2 r e) : EReal) = if e.val < 64 then 0 else (x1 (ix2 r e) : EReal) := by
        pointwise [k0_pay64, k0_pay61, k0_pay62]
        exact Consts.select_lane e.val e.isLt _ _
      show (k0_pay64 (F := Ideal) x1 (ix2 r e) : EReal) * _ = _
      rw [h0]
      split
      · exact zero_mul _
      · rfl
    rw [Finset.sum_congr rfl fun e _ => e1 e, Consts.sum_high]
    refine Finset.sum_congr rfl fun e _ => ?_
    rw [hq, hk]
    have e2 : (⟨p * 128 + (64 + e.val), by omega⟩ : Fin 512) = ⟨64 * H.val + e.val, by omega⟩ := Fin.ext (by show p * 128 + (64 + e.val) = 64 * H.val + e.val; omega)
    exact congrArg₂ (· * ·) (congrArg (fun C => qn (ix2 R C)) e2) (congrArg (fun C => sk (ix2 _ C)) e2)
  · rw [dif_neg hj, dif_neg hj]

end Cert.Sb

end
-- ==== Proof.SbFinal.lean ====
/- Stick-breaking attention: the kernel's result array as one formula of its arguments. -/
module

public import proofs.«01_k».proof.Proof.SbBlocks

@[expose] public section

set_option maxRecDepth 16384

noncomputable section

open Idealize.ShloMosaic Idealize.ShloMosaic.TcCoe Idealize.SL.Sem
open Idealize.ShloMosaic.Pipeline (Dat)

namespace Cert.Sb

open Cert.KernelIdeal Cert.KernelIdeal.Gen

/-- A load of one bias reads that bias. -/
theorem ld_bias (arg3 : Memref sig .tc .smem S8 .f32) (harg3 : arg3.IsWhole) (x0 : Vec Ideal S8 .f32) (o : Fin 1 → ℕ) (h : Fin 8) (ho : o = ![h.val])
    (inb : ∀ a, o a + S1.size a ≤ S8.size a) (x : S1.Idx) :
    View.readAt (Elt Ideal) arg3.view (Rect.unit (s := S8) o S1.size inb).toLoadRect (harg3.unread x0) x = x0 (ix1 h) := by
  subst ho
  refine (congrFun (harg3.read_unread x0) ((Rect.unit (s := S8) ![h.val] S1.size inb).toLoadRect.idx x)).trans (congrArg x0 (funext fun a => Fin.ext ?_))
  have hx : (x 0).val < 1 := (x 0).isLt
  fin_cases a
  show h.val + 1 * (x 0).val = h.val
  omega

theorem biasA1 (c : Dev nD) (i : grid0.Coords) (arg3 : Memref sig .tc .smem S8 .f32) (harg3 : arg3.IsWhole) (x0 : Vec Ideal S8 .f32) (h : Fin 8) (hh : h.val = 2 * (i 1).val) :
    (kernelRun0_A.sl.r_4 (F := Ideal) c i arg3 harg3 x0 : EReal) = x0 (ix1 h) * Named.named (F := Ideal) (φ := .f32) κ "log2e" 0x3FB8AA3B#32 :=
  congrArg (fun y : EReal => y * Named.named (F := Ideal) (φ := .f32) κ "log2e" 0x3FB8AA3B#32)
    (ld_bias arg3 harg3 x0 (k0_off1 i) h ((k0_off1_eq i).trans (by rw [hh])) _ _)

theorem biasA2 (c : Dev nD) (i : grid0.Coords) (arg3 : Memref sig .tc .smem S8 .f32) (harg3 : arg3.IsWhole) (x0 : Vec Ideal S8 .f32) (h : Fin 8) (hh : h.val = 2 * (i 1).val + 1) :
    (kernelRun0_A.sl.r_5 (F := Ideal) c i arg3 harg3 x0 : EReal) = x0 (ix1 h) * Named.named (F := Ideal) (φ := .f32) κ "log2e" 0x3FB8AA3B#32 :=
  congrArg (fun y : EReal => y * Named.named (F := Ideal) (φ := .f32) κ "log2e" 0x3FB8AA3B#32)
    (ld_bias arg3 harg3 x0 (k0_off2 i) h ((k0_off2_eq i).trans (by rw [hh])) _ _)

theorem biasB1 (c : Dev nD) (i : grid0.Coords) (arg3 : Memref sig .tc .smem S8 .f32) (harg3 : arg3.IsWhole) (x0 : Vec Ideal S8 .f32) (h : Fin 8) (hh : h.val = 2 * (i 1).val) :
    (kernelRun0_B.sl.r_4 (F := Ideal) c i arg3 harg3 x0 : EReal) = x0 (ix1 h) * Named.named (F := Ideal) (φ := .f32) κ "log2e" 0x3FB8AA3B#32 :=
  congrArg (fun y : EReal => y * Named.named (F := Ideal) (φ := .f32) κ "log2e" 0x3FB8AA3B#32)
    (ld_bias arg3 harg3 x0 (k0_off1 i) h ((k0_off1_eq i).trans (by rw [hh])) _ _)

theorem biasB2 (c : Dev nD) (i : grid0.Coords) (arg3 : Memref sig .tc .smem S8 .f32) (harg3 : arg3.IsWhole) (x0 : Vec Ideal S8 .f32) (h : Fin 8) (hh : h.val = 2 * (i 1).val + 1) :
    (kernelRun0_B.sl.r_5 (F := Ideal) c i arg3 harg3 x0 : EReal) = x0 (ix1 h) * Named.named (F := Ideal) (φ := .f32) κ "log2e" 0x3FB8AA3B#32 :=
  congrArg (fun y : EReal => y * Named.named (F := Ideal) (φ := .f32) κ "log2e" 0x3FB8AA3B#32)
    (ld_bias arg3 harg3 x0 (k0_off2 i) h ((k0_off2_eq i).trans (by rw [hh])) _ _)

variable (m : (ℓ : Loc nD τ sig) → Buf (Elt Ideal) ℓ)

/-- The keys and values that a point's scratch arrays hold are the staged ones. -/
theorem kept (c : Dev nD) (t : Fin cfg0.N) (h0 : t.val % 2 = 0) :
    ((outsAt0 m c t.val t.isLt).2.1 : S4096x128.Idx → EReal) = (iblk m c 2 t : FVec Ideal S4096x128 .f32)
      ∧ ((outsAt0 m c t.val t.isLt).2.2 : S4096x128.Idx → EReal) = (iblk m c 3 t : FVec Ideal S4096x128 .f32) := by
  have z0 : (![0, 0] : Fin 2 → ℕ) = fun _ => 0 := by funext a; fin_cases a <;> rfl
  rw [outsAt0_A m c t h0]
  dsimp only
  constructor
  · unfold sout0_A_0
    rw [View.read_writes_junk_eq_canon]
    refine (View.canon_cons_unit_zero (S := S4096x128) z0 _ _ []).trans ?_
    refine (congrArg (k0_pay59 (F := Ideal)) (ld_whole (hs0_2 t) (iblk m c 2 t) _)).trans ?_
    funext x
    rw [eq_ix2 x]
    pointwise [k0_pay59]
  · unfold sout0_A_1
    rw [View.read_writes_junk_eq_canon]
    refine (View.canon_cons_unit_zero (S := S4096x128) z0 _ _ []).trans ?_
    refine (congrArg (k0_pay60 (F := Ideal)) (ld_whole (hs0_3 t) (iblk m c 3 t) _)).trans ?_
    funext x
    rw [eq_ix2 x]
    pointwise [k0_pay60]

/-- The biases (base 2) of the two heads of pair `p`. -/
def biases (bias : FVec Ideal S8 .f32) (p : ℕ) (hp : p < 4) : Fin 2 → EReal :=
  two (bias (ix1 (⟨2 * p, by omega⟩ : Fin 8)) * Named.named (F := Ideal) (φ := .f32) κ "log2e" 0x3FB8AA3B#32)
    (bias (ix1 (⟨2 * p + 1, by omega⟩ : Fin 8)) * Named.named (F := Ideal) (φ := .f32) κ "log2e" 0x3FB8AA3B#32)

/-- A block's output, for queries, keys, values and biases that are parts of the arguments. -/
theorem body_attn (qn : FVec Ideal S16384x512 .bf16) (sk sv : FVec Ideal S16384x512 .f32) (bias : FVec Ideal S8 .f32)
    (x1 : FVec Ideal S2048x128 .bf16) (kb vb : FVec Ideal S4096x128 .bf16) (b : Fin 2 → EReal) (B n p Q : ℕ) (hQ : Q = n * 2048) (hB : B < 4) (hn : n < 2) (hp : p < 4)
    (hq : ∀ (r : Fin 2048) (e : Fin 128), x1 (ix2 r e) = qn (ix2 (⟨(B * 2 + n) * 2048 + r.val, by omega⟩ : Fin 16384) (⟨p * 128 + e.val, by omega⟩ : Fin 512)))
    (hk : ∀ (j : Fin 4096) (e : Fin 128), kb (ix2 j e) = sk (ix2 (⟨B * 4096 + j.val, by omega⟩ : Fin 16384) (⟨p * 128 + e.val, by omega⟩ : Fin 512)))
    (hv : ∀ (j : Fin 4096) (e : Fin 128), vb (ix2 j e) = sv (ix2 (⟨B * 4096 + j.val, by omega⟩ : Fin 16384) (⟨p * 128 + e.val, by omega⟩ : Fin 512)))
    (hb0 : b 0 = bias (ix1 (⟨2 * p, by omega⟩ : Fin 8)) * Named.named (F := Ideal) (φ := .f32) κ "log2e" 0x3FB8AA3B#32)
    (hb1 : b 1 = bias (ix1 (⟨2 * p + 1, by omega⟩ : Fin 8)) * Named.named (F := Ideal) (φ := .f32) κ "log2e" 0x3FB8AA3B#32)
    (r : Fin 2048) (l : Fin 128) :
    (if l.val < 64 then sumO (two (k0_pay63 (F := Ideal) x1 : FVec Ideal S2048x128 .bf16) (k0_pay64 (F := Ideal) x1)) kb vb b Q 0 r l 0
      else sumO (two (k0_pay63 (F := Ideal) x1 : FVec Ideal S2048x128 .bf16) (k0_pay64 (F := Ideal) x1)) kb vb b Q 1 r l 0)
      = attn qn sk sv bias (ix2 (⟨(B * 2 + n) * 2048 + r.val, by omega⟩ : Fin 16384) (⟨p * 128 + l.val, by omega⟩ : Fin 512)) := by
  subst hQ
  have hr := r.isLt
  have hl := l.isLt
  have hR : ((B * 2 + n) * 2048 + r.val) / 4096 = B := by omega
  have hk' : ∀ (j : Fin 4096) (e : Fin 128), kb (ix2 j e) = sk (ix2 (⟨((B * 2 + n) * 2048 + r.val) / 4096 * 4096 + j.val, by omega⟩ : Fin 16384) (⟨p * 128 + e.val, by omega⟩ : Fin 512)) := by
    intro j e
    rw [hk]
    exact congrArg (fun R => sk (ix2 R _)) (Fin.ext (by show B * 4096 + j.val = _ * 4096 + j.val; rw [hR]))
  have hv' : ∀ j : Fin 4096, vb (ix2 j l) = sv (ix2 (⟨((B * 2 + n) * 2048 + r.val) / 4096 * 4096 + j.val, by omega⟩ : Fin 16384) (⟨p * 128 + l.val, by omega⟩ : Fin 512)) := by
    intro j
    rw [hv]
    exact congrArg (fun R => sv (ix2 R _)) (Fin.ext (by show B * 4096 + j.val = _ * 4096 + j.val; rw [hR]))
  by_cases h : l.val < 64
  · rw [if_pos h]
    refine sumO_attn qn sk sv bias _ kb vb b (n * 2048) 0 r l _ _ (by show ((B * 2 + n) * 2048 + r.val) % 4096 = n * 2048 + r.val; omega) ?_ hv'
    exact logit_low qn sk bias x1 kb b r _ _ p hp (by show (p * 128 + l.val) / 64 = 2 * p; omega) (hq r) hk'
      (hb0.trans (congrArg (fun H => bias (ix1 H) * _) (Fin.ext (by show 2 * p = (p * 128 + l.val) / 64; omega))))
  · rw [if_neg h]
    refine sumO_attn qn sk sv bias _ kb vb b (n * 2048) 1 r l _ _ (by show ((B * 2 + n) * 2048 + r.val) % 4096 = n * 2048 + r.val; omega) ?_ hv'
    exact logit_high qn sk bias x1 kb b r _ _ p hp (by show (p * 128 + l.val) / 64 = 2 * p + 1; omega) (hq r) hk'
      (hb1.trans (congrArg (fun H => bias (ix1 H) * _) (Fin.ext (by show 2 * p + 1 = (p * 128 + l.val) / 64; omega))))

/-- The block written at a point is the result array's. -/
theorem block_attn (c : Dev nD) (t : Fin cfg0.N) (hN : t.val < 32) (r : Fin 2048) (l : Fin 128) :
    ((outsAt0 m c t.val t.isLt).1 (ix2 r l) : EReal)
      = attn (m ((c : Thread nD τ).loc main_arg0)) (m ((c : Thread nD τ).loc main_arg1)) (m ((c : Thread nD τ).loc main_arg2)) (m ((c : Thread nD τ).loc main_arg3))
        (ix2 (⟨(t.val / 8 * 2 + t.val % 2) * 2048 + r.val, by omega⟩ : Fin 16384) (⟨t.val / 2 % 4 * 128 + l.val, by omega⟩ : Fin 512)) := by
  have h1 := coord1 t
  rcases Nat.mod_two_eq_zero_or_one t.val with h0 | h0
  · rw [outsAt0_A m c t h0]
    dsimp only
    have hb0 := biasA1 c (grid0.coords t) (ms0_0 t) (hs0_0 t) (iblk m c 0 t) (⟨2 * (t.val / 2 % 4), by omega⟩ : Fin 8) (by rw [h1])
    have hb1 := biasA2 c (grid0.coords t) (ms0_0 t) (hs0_0 t) (iblk m c 0 t) (⟨2 * (t.val / 2 % 4) + 1, by omega⟩ : Fin 8) (by rw [h1])
    rw [b0 m c t] at hb0 hb1
    have hb := body_attn (m ((c : Thread nD τ).loc main_arg0)) (m ((c : Thread nD τ).loc main_arg1)) (m ((c : Thread nD τ).loc main_arg2)) (m ((c : Thread nD τ).loc main_arg3))
      (iblk m c 1 t) (iblk m c 2 t) (iblk m c 3 t) (biases (m ((c : Thread nD τ).loc main_arg3)) (t.val / 2 % 4) (by omega)) (t.val / 8) (t.val % 2) (t.val / 2 % 4) 0 (by rw [h0]) (by omega) (by omega) (by omega) (b1 m c t hN) (b2 m c t hN) (b3 m c t hN) rfl rfl r l
    exact (outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t)  _ ((coord2 t).trans h0) (b4 m c t)
      (biases (m ((c : Thread nD τ).loc main_arg3)) (t.val / 2 % 4) (by omega)) hb0 hb1 r l).trans hb
  · rw [outsAt0_B m c t (by omega)]
    dsimp only
    have hb0 := biasB1 c (grid0.coords t) (ms0_0 t) (hs0_0 t) (iblk m c 0 t) (⟨2 * (t.val / 2 % 4), by omega⟩ : Fin 8) (by rw [h1])
    have hb1 := biasB2 c (grid0.coords t) (ms0_0 t) (hs0_0 t) (iblk m c 0 t) (⟨2 * (t.val / 2 % 4) + 1, by omega⟩ : Fin 8) (by rw [h1])
    rw [b0 m c t] at hb0 hb1
    have hN' : t.val - 1 < 32 := by omega
    have hK := kept m c ⟨t.val - 1, Nat.lt_of_le_of_lt (Nat.sub_le _ _) t.isLt⟩ (by show (t.val - 1) % 2 = 0; omega)
    have e8 : (t.val - 1) / 8 = t.val / 8 := by omega
    have e2 : (t.val - 1) / 2 % 4 = t.val / 2 % 4 := by omega
    have hk : ∀ (j : Fin 4096) (e : Fin 128), ((outsAt0 m c (t.val - 1) (Nat.lt_of_le_of_lt (Nat.sub_le _ _) t.isLt)).2.1 (ix2 j e) : EReal) = (m ((c : Thread nD τ).loc main_arg1) : FVec Ideal S16384x512 .f32) (ix2 (⟨t.val / 8 * 4096 + j.val, by omega⟩ : Fin 16384) (⟨t.val / 2 % 4 * 128 + e.val, by omega⟩ : Fin 512)) := by
      intro j e
      refine (congrFun hK.1 (ix2 j e)).trans ((b2 m c _ hN' j e).trans ?_)
      exact congrArg₂ (fun R C => (m ((c : Thread nD τ).loc main_arg1) : FVec Ideal S16384x512 .f32) (ix2 R C))
        (Fin.ext (by show (t.val - 1) / 8 * 4096 + j.val = _; rw [e8])) (Fin.ext (by show (t.val - 1) / 2 % 4 * 128 + e.val = _; rw [e2]))
    have hv : ∀ (j : Fin 4096) (e : Fin 128), ((outsAt0 m c (t.val - 1) (Nat.lt_of_le_of_lt (Nat.sub_le _ _) t.isLt)).2.2 (ix2 j e) : EReal) = (m ((c : Thread nD τ).loc main_arg2) : FVec Ideal S16384x512 .f32) (ix2 (⟨t.val / 8 * 4096 + j.val, by omega⟩ : Fin 16384) (⟨t.val / 2 % 4 * 128 + e.val, by omega⟩ : Fin 512)) := by
      intro j e
      refine (congrFun hK.2 (ix2 j e)).trans ((b3 m c _ hN' j e).trans ?_)
      exact congrArg₂ (fun R C => (m ((c : Thread nD τ).loc main_arg2) : FVec Ideal S16384x512 .f32) (ix2 R C))
        (Fin.ext (by show (t.val - 1) / 8 * 4096 + j.val = _; rw [e8])) (Fin.ext (by show (t.val - 1) / 2 % 4 * 128 + e.val = _; rw [e2]))
    have hb := body_attn (m ((c : Thread nD τ).loc main_arg0)) (m ((c : Thread nD τ).loc main_arg1)) (m ((c : Thread nD τ).loc main_arg2)) (m ((c : Thread nD τ).loc main_arg3))
      (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (biases (m ((c : Thread nD τ).loc main_arg3)) (t.val / 2 % 4) (by omega)) (t.val / 8) (t.val % 2) (t.val / 2 % 4) 2048 (by rw [h0]) (by omega) (by omega) (by omega) (b1 m c t hN) hk hv rfl rfl r l
    exact (outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 _ ((coord2 t).trans h0) (b4 m c t)
      (biases (m ((c : Thread nD τ).loc main_arg3)) (t.val / 2 % 4) (by omega)) hb0 hb1 r l).trans hb

/-- The kernel's result array. -/
theorem final (c : Dev nD) : (dats m 0 c).arrAt 5 (cfgs 0).N
    = attn (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, l, rfl⟩ : ∃ (r : Fin 2048) (l : Fin 128), y = ix2 r l := ⟨y 0, y 1, eq_ix2 y⟩
  have hN : t.val < 32 := t.isLt
  have hemb : ((View.whole main_v10).slice (win0_5.rect t)).emb (ix2 r l) = ix2 (⟨(t.val / 8 * 2 + t.val % 2) * 2048 + r.val, by omega⟩ : Fin 16384) (⟨t.val / 2 % 4 * 128 + l.val, by omega⟩ : Fin 512) := by
    blk_ext [idx t]
  exact (block_attn m c t hN r l).trans (congrArg _ hemb.symm)

end Cert.Sb

end
-- ==== Proof.SbRef.lean ====
/- Stick-breaking attention: the plain reference's result, stage by stage, as functions of the argument arrays over the
   extended reals. -/
module

public import proofs.«01_k».proof.Proof.Consts
public import proofs.«01_k».proof.Proof.Gen.ReferenceIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.SbRef

open Cert.ReferenceIdeal Cert.ReferenceIdeal.Gen

/-- The logits `q · k / 8 + bias`, the queries with the factor `8 · log 2` first. -/
def logits (qn : FVec Ideal S16384x512 .bf16) (sk : FVec Ideal S16384x512 .f32) (bias : FVec Ideal S8 .f32) : FVec Ideal S4x8x4096x4096 .f32 :=
  addf (mulf (Host.dotGeneral dot_S4x4096x8x64_S4x4096x8x64_S4x8x4096x4096_3_3_1_1_02_02 none
      (mulf (extf .f32 (shapeCast _ qn shapeCasts_S16384x512_S4x4096x8x64) bitsLt_bf16_f32)
        (broadcastInDim S4x4096x8x64 ![] bcast_S_S4x4096x8x64 (mulf (constant S_ .f32 0x41000000#32) (Host.log (constant S_ .f32 0x40000000#32)))))
      (shapeCast _ sk shapeCasts_S16384x512_S4x4096x8x64))
    (broadcastInDim S4x8x4096x4096 ![] bcast_S_S4x8x4096x4096 (constant S_ .f32 0x3E000000#32)))
    (broadcastInDim S4x8x4096x4096 ![0, 1, 2, 3] bcast_S1x8x1x1_S4x8x4096x4096_0_1_2_3 (broadcastInDim S1x8x1x1 ![1] bcast_S8_S1x8x1x1_1 bias))

/-- Every entry zero. -/
def zeros : FVec Ideal S4x8x4096x4096 .f32 := broadcastInDim S4x8x4096x4096 ![] bcast_S_S4x8x4096x4096 (constant S_ .f32 0x00000000#32)

/-- The logarithm of the logistic function. -/
def logSigmoid (z : FVec Ideal S4x8x4096x4096 .f32) : FVec Ideal S4x8x4096x4096 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- Which keys a query attends: those strictly before it. -/
def before : IVec S4x8x4096x4096 1 :=
  broadcastInDim S4x8x4096x4096 ![2, 3] bcast_S4096x4096_S4x8x4096x4096_2_3 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The logarithm of what each key leaves to the keys before it. -/
def leaves (z : FVec Ideal S4x8x4096x4096 .f32) : FVec Ideal S4x8x4096x4096 .f32 :=
  select before (subf (logSigmoid z) z) (broadcastInDim S4x8x4096x4096 ![] bcast_S_S4x8x4096x4096 (id (constant S_ .f32 0x00000000#32)))

/-- The sum from each key to the last one, less the key's own term. -/
def later (x : FVec Ideal S4x8x4096x4096 .f32) : FVec Ideal S4x8x4096x4096 .f32 :=
  subf (Host.reduceWindowAdd ![1, 1, 1, 4096] ![1, 1, 1, 1] ![0, 0, 0, 0] ![0, 0, 0, 4095] x (broadcastInDim S_ ![] bcast_S_S_ (constant S_ .f32 0x00000000#32))
    reduceWindows_S4x8x4096x4096_S4x8x4096x4096_w1s1p0_0_w1s1p0_0_w1s1p0_0_w4096s1p0_4095 h_S_) x

/-- The attention weights. -/
def weights (z : FVec Ideal S4x8x4096x4096 .f32) : FVec Ideal S4x8x4096x4096 .f32 :=
  select before (Host.exp (addf (logSigmoid z) (later (leaves z)))) (broadcastInDim S4x8x4096x4096 ![] bcast_S_S4x8x4096x4096 (id (constant S_ .f32 0x00000000#32)))

/-- The weighted sums of the values. -/
def output (sv : FVec Ideal S16384x512 .f32) (w : FVec Ideal S4x8x4096x4096 .f32) : FVec Ideal S16384x512 .bf16 :=
  truncf .bf16 (shapeCast _ (transpose S4x4096x8x64 [0, 3, 1, 2] (Host.dotGeneral dot_S4x4096x8x64_S4x8x4096x4096_S4x8x64x4096_1_3_3_2_02_01 none
    (shapeCast _ sv shapeCasts_S16384x512_S4x4096x8x64) w) transposes_S4x8x64x4096_S4x4096x8x64_0_3_1_2) shapeCasts_S4x4096x8x64_S16384x512) bitsLt_bf16_f32

/-- The reference's result array is `output` of its arguments. -/
theorem res_eq (m : (ℓ : Loc nD τ sig) → Buf (Elt Ideal) ℓ) (c : Dev nD) :
    Cert.ReferenceIdeal.Value.res_main_v31 m c = output (m ((c.tc : Thread nD τ).loc main_arg2)) (weights (logits (m ((c.tc : Thread nD τ).loc main_arg0))
      (m ((c.tc : Thread nD τ).loc main_arg1)) (m ((c.tc : Thread nD τ).loc main_arg3)))) := by
  unfold Cert.ReferenceIdeal.Value.res_main_v31; rfl

theorem output_apply (sv : FVec Ideal S16384x512 .f32) (w : FVec Ideal S4x8x4096x4096 .f32) (R : Fin 16384) (C : Fin 512) :
    (output sv w (ix2 R C) : EReal) = ∑ j : Fin 4096, (sv (ix2 (⟨R.val / 4096 * 4096 + j.val, by omega⟩ : Fin 16384) C) : EReal)
      * w (ix4 (⟨R.val / 4096, by omega⟩ : Fin 4) (⟨C.val / 64, by omega⟩ : Fin 8) (⟨R.val % 4096, by omega⟩ : Fin 4096) j) := by
  pointwise [output]

theorem logits_apply (qn : FVec Ideal S16384x512 .bf16) (sk : FVec Ideal S16384x512 .f32) (bias : FVec Ideal S8 .f32) (b : Fin 4) (h : Fin 8) (k j : Fin 4096) :
    (logits qn sk bias (ix4 b h k j) : EReal) = (∑ e : Fin 64, ((qn (ix2 (⟨b.val * 4096 + k.val, by omega⟩ : Fin 16384) (⟨64 * h.val + e.val, by omega⟩ : Fin 512)) : EReal)
      * ((8 * Real.log 2 : ℝ) : EReal)) * sk (ix2 (⟨b.val * 4096 + j.val, by omega⟩ : Fin 16384) (⟨64 * h.val + e.val, by omega⟩ : Fin 512))) * ((1 / 8 : ℝ) : EReal) + bias (ix1 h) := by
  pointwise [logits]
  have h2 : ¬ (2 : ℝ) ≤ 0 := by norm_num
  rw [Consts.bits_8, Consts.bits_2, Consts.bits_inv_8, Ideal.log_coe, if_neg h2, ← EReal.coe_mul]
  simp only [Nat.mul_comm h.val 64]

/-- One entry of the logistic function's logarithm. -/
def ls (z : EReal) : EReal := -(max (-z) 0 + Ideal.log1p (Ideal.exp (-(FloatOps.absf (F := Ideal) (φ := .f32) (-z)))))

theorem logSigmoid_apply (z : FVec Ideal S4x8x4096x4096 .f32) (b : Fin 4) (h : Fin 8) (k j : Fin 4096) :
    (logSigmoid z (ix4 b h k j) : EReal) = ls (z (ix4 b h k j)) := by
  pointwise [logSigmoid, zeros, ls]
  simp

theorem weights_apply (z : FVec Ideal S4x8x4096x4096 .f32) (b : Fin 4) (h : Fin 8) (k j : Fin 4096) :
    (weights z (ix4 b h k j) : EReal) = if j.val < k.val then Ideal.exp (ls (z (ix4 b h k j)) + later (leaves z) (ix4 b h k j)) else 0 := by
  pointwise [weights, before]
  rw [WordCmp.cmpi_slt_ofNat (by omega) (by omega), WordCmp.select_decide, logSigmoid_apply]
  simp [constant]

theorem leaves_apply (z : FVec Ideal S4x8x4096x4096 .f32) (b : Fin 4) (h : Fin 8) (k j : Fin 4096) :
    (leaves z (ix4 b h k j) : EReal) = if j.val < k.val then ls (z (ix4 b h k j)) - z (ix4 b h k j) else 0 := by
  pointwise [leaves, before]
  rw [WordCmp.cmpi_slt_ofNat (by omega) (by omega), WordCmp.select_decide, logSigmoid_apply]
  simp [constant]

/-- A row's terms by number. -/
def row (x : FVec Ideal S4x8x4096x4096 .f32) (b : Fin 4) (h : Fin 8) (k : Fin 4096) (i : ℕ) : EReal := if hi : i < 4096 then x (ix4 b h k ⟨i, hi⟩) else 0

/-- A window's positions are counted along its last axis. -/
theorem position (p : (⟨4, ![1, 1, 1, 4096]⟩ : Shape).Idx) : (p 3).val = ((⟨4, ![1, 1, 1, 4096]⟩ : Shape).rowMajor p).val := by
  rw [Shape.rowMajor_val_four]
  have h0 : (p 0).val < 1 := (p 0).isLt
  have h1 : (p 1).val < 1 := (p 1).isLt
  have h2 : (p 2).val < 1 := (p 2).isLt
  simp only [Matrix.cons_val]
  omega

theorem foldl_add {n : ℕ} (f : Fin n → EReal) (v : EReal) : (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, ← List.ofFn_eq_map, List.sum_ofFn]

/-- A window's sum: the initial value and every position's entry. -/
theorem windowed {s t u : Shape} (window strides lo hi : Fin s.rank → ℕ) (x : FVec Ideal s .f32) (init : FVec Ideal u .f32)
    (h : s.ReduceWindows window strides lo hi t) (hu : 0 < u.numel) (y : t.Idx) :
    (Host.reduceWindowAdd window strides lo hi x init h hu y : EReal) = init (Shape.Idx.first hu)
      + ∑ n : Fin (⟨s.rank, window⟩ : Shape).numel,
        (if hin : ∀ a : Fin s.rank, lo a ≤ (y (a.cast h.1.symm)).val * strides a + ((⟨s.rank, window⟩ : Shape).rowMajor.symm n a).val
            ∧ (y (a.cast h.1.symm)).val * strides a + ((⟨s.rank, window⟩ : Shape).rowMajor.symm n a).val - lo a < s.size a
          then (x (fun a => ⟨(y (a.cast h.1.symm)).val * strides a + ((⟨s.rank, window⟩ : Shape).rowMajor.symm n a).val - lo a, (hin a).2⟩) : EReal)
          else init (Shape.Idx.first hu)) := by
  show Ideal.hostReduceWindowAdd window strides lo hi h x (init (Shape.Idx.first hu)) y = _
  unfold Ideal.hostReduceWindowAdd Host.reduceWindow
  dsimp only
  rw [foldl_add]
  refine congrArg _ (Finset.sum_congr rfl fun n _ => ?_)
  congr

theorem windows_apply (x : FVec Ideal S4x8x4096x4096 .f32) (b : Fin 4) (h : Fin 8) (k j : Fin 4096) :
    (Host.reduceWindowAdd ![1, 1, 1, 4096] ![1, 1, 1, 1] ![0, 0, 0, 0] ![0, 0, 0, 4095] x (broadcastInDim S_ ![] bcast_S_S_ (constant S_ .f32 0x00000000#32))
      reduceWindows_S4x8x4096x4096_S4x8x4096x4096_w1s1p0_0_w1s1p0_0_w1s1p0_0_w4096s1p0_4095 h_S_ (ix4 b h k j) : EReal)
      = ∑ i ∈ Finset.Ico j.val 4096, row x b h k i := by
  have hz : (broadcastInDim S_ ![] bcast_S_S_ (constant (F := Ideal) S_ .f32 0x00000000#32) (Shape.Idx.first h_S_) : EReal) = 0 := by
    pointwise []
  have hterm : ∀ n : Fin (⟨4, ![1, 1, 1, 4096]⟩ : Shape).numel,
      (if hin : ∀ a : Fin 4, (![0, 0, 0, 0] : Fin 4 → ℕ) a ≤ ((ix4 b h k j : S4x8x4096x4096.Idx) a).val * (![1, 1, 1, 1] : Fin 4 → ℕ) a + ((⟨4, ![1, 1, 1, 4096]⟩ : Shape).rowMajor.symm n a).val
          ∧ ((ix4 b h k j : S4x8x4096x4096.Idx) a).val * (![1, 1, 1, 1] : Fin 4 → ℕ) a + ((⟨4, ![1, 1, 1, 4096]⟩ : Shape).rowMajor.symm n a).val - (![0, 0, 0, 0] : Fin 4 → ℕ) a < S4x8x4096x4096.size a
        then (x (fun a => ⟨((ix4 b h k j : S4x8x4096x4096.Idx) a).val * (![1, 1, 1, 1] : Fin 4 → ℕ) a + ((⟨4, ![1, 1, 1, 4096]⟩ : Shape).rowMajor.symm n a).val - (![0, 0, 0, 0] : Fin 4 → ℕ) a, (hin a).2⟩) : EReal)
        else 0) = row x b h k (j.val + n.val) := by
    intro n
    obtain ⟨p, rfl⟩ := (⟨4, ![1, 1, 1, 4096]⟩ : Shape).rowMajor.surjective n
    rw [← position p]
    simp only [Equiv.symm_apply_apply]
    have h0 : (p 0).val < 1 := (p 0).isLt
    have h1 : (p 1).val < 1 := (p 1).isLt
    have h2 : (p 2).val < 1 := (p 2).isLt
    unfold row
    by_cases hj : j.val + (p 3).val < 4096
    · rw [dif_pos hj, dif_pos]
      · congr 1
        funext a
        apply Fin.ext
        fin_cases a <;> simp [ix4] <;> omega
      · intro a
        fin_cases a <;> simp [ix4, S4x8x4096x4096] <;> omega
    · rw [dif_neg hj, dif_neg]
      intro hin
      have := (hin 3).2
      simp [ix4, S4x8x4096x4096] at this
      omega
  have hsum : (∑ n : Fin (⟨4, ![1, 1, 1, 4096]⟩ : Shape).numel, row x b h k (j.val + n.val)) = ∑ i ∈ Finset.Ico j.val 4096, row x b h k i := by
    rw [Fin.sum_univ_eq_sum_range (fun n => row x b h k (j.val + n)), show (⟨4, ![1, 1, 1, 4096]⟩ : Shape).numel = 4096 from by decide,
      Finset.range_eq_Ico, Finset.sum_Ico_add, Nat.zero_add, Nat.add_comm 4096 j.val,
      ← Finset.sum_Ico_consecutive _ (by omega : j.val ≤ 4096) (by omega : 4096 ≤ j.val + 4096)]
    rw [Finset.sum_eq_zero (s := Finset.Ico 4096 (j.val + 4096)), add_zero]
    intro i hi
    unfold row
    rw [dif_neg (by have := (Finset.mem_Ico.1 hi).1; omega)]
  have hw := windowed ![1, 1, 1, 4096] ![1, 1, 1, 1] ![0, 0, 0, 0] ![0, 0, 0, 4095] x (broadcastInDim S_ ![] bcast_S_S_ (constant S_ .f32 0x00000000#32))
      reduceWindows_S4x8x4096x4096_S4x8x4096x4096_w1s1p0_0_w1s1p0_0_w1s1p0_0_w4096s1p0_4095 h_S_ (ix4 b h k j)
  rw [hz, zero_add] at hw
  rw [hw, ← hsum]
  exact Finset.sum_congr rfl fun n _ => hterm n

theorem later_apply (x : FVec Ideal S4x8x4096x4096 .f32) (b : Fin 4) (h : Fin 8) (k j : Fin 4096) :
    (later x (ix4 b h k j) : EReal) = (∑ i ∈ Finset.Ico j.val 4096, row x b h k i) - x (ix4 b h k j) := by
  have hw := windows_apply x b h k j
  pointwise [later]
  rw [hw]

end Cert.SbRef

end
-- ==== Proof.SbReal.lean ====
/- Stick-breaking attention on finite logits: the weights in base 2, as the kernel computes them, are the reference's
   weights in base e. -/
module

public import proofs.«01_k».proof.Proof.SbBlocks
public import proofs.«01_k».proof.Proof.SbRef

@[expose] public section

set_option maxRecDepth 16384

noncomputable section

open Idealize.ShloMosaic Idealize.ShloMosaic.TcCoe Idealize.SL.Sem

namespace Cert.Sb

/-- The logarithm of the logistic function, on real numbers. -/
def sig (x : ℝ) : ℝ := min x 0 - Real.log (1 + Real.exp (-|x|))

theorem one_add_pos (x : ℝ) : ¬ (1 + Real.exp x) ≤ 0 := not_le.2 (by positivity)

theorem log2_pos : 0 < Real.log 2 := Real.log_pos (by norm_num)

theorem max_coe (a b : ℝ) : ((max a b : ℝ) : EReal) = max (a : EReal) b := EReal.coe_strictMono.monotone.map_max

theorem min_coe (a b : ℝ) : ((min a b : ℝ) : EReal) = min (a : EReal) b := EReal.coe_strictMono.monotone.map_min

theorem abs_coe (x : ℝ) : (max (x : EReal) (-(x : EReal))) = ((|x| : ℝ) : EReal) := by
  rw [← EReal.coe_neg, ← max_coe]; rfl

theorem log1_coe (x : ℝ) : Ideal.log (1 + ((Real.exp x : ℝ) : EReal)) = ((Real.log (1 + Real.exp x) : ℝ) : EReal) := by
  rw [← EReal.coe_one, ← EReal.coe_add, Ideal.log_coe, if_neg (one_add_pos x)]

/-- The reference's form of it. -/
theorem ls_coe (x : ℝ) : SbRef.ls (x : EReal) = ((sig x : ℝ) : EReal) := by
  unfold SbRef.ls Ideal.log1p
  rw [show FloatOps.absf (F := Ideal) (φ := .f32) (-(x : EReal)) = max (-(x : EReal)) (-(-(x : EReal))) from rfl, ← EReal.coe_neg, abs_coe, abs_neg,
    ← EReal.coe_neg, Ideal.exp_coe, log1_coe, ← EReal.coe_zero, ← max_coe, ← EReal.coe_add, ← EReal.coe_neg]
  congr 1
  unfold sig
  rw [neg_add, ← min_neg_neg, neg_neg, neg_zero, sub_eq_add_neg]

/-- The kernel's form, in base 2. -/
theorem lbeta_coe (x : ℝ) : lbeta ((x / Real.log 2 : ℝ) : EReal) = ((sig x / Real.log 2 : ℝ) : EReal) := by
  have hpow : Real.rpow 2 (-|x / Real.log 2|) = Real.exp (-|x|) := by
    show (2 : ℝ) ^ (-|x / Real.log 2|) = _
    rw [Real.rpow_def_of_pos (by norm_num), abs_div, abs_of_pos log2_pos, mul_neg, mul_div_cancel₀ _ log2_pos.ne']
  unfold lbeta
  rw [IdealRules.named_const.ideal_named_scalar KernelIdeal.κ "log2e" _ _ rfl,
    show FloatOps.absf (F := Ideal) (φ := .f32) ((x / Real.log 2 : ℝ) : EReal) = max ((x / Real.log 2 : ℝ) : EReal) (-((x / Real.log 2 : ℝ) : EReal)) from rfl,
    abs_coe, zero_sub, ← EReal.coe_neg,
    show FloatOps.exp2 (F := Ideal) (φ := .f32) ((-|x / Real.log 2| : ℝ) : EReal) = ((Real.rpow 2 (-|x / Real.log 2|) : ℝ) : EReal) from rfl,
    hpow, log1_coe, ← EReal.coe_zero, ← min_coe]
  show _ - ((_ : ℝ) : EReal) * (((Real.log 2)⁻¹ : ℝ) : EReal) = _
  rw [← EReal.coe_mul, ← EReal.coe_sub]
  congr 1
  unfold sig
  rw [sub_div, ← zero_div (Real.log 2), min_div_div_right log2_pos.le, zero_div, div_eq_mul_inv (Real.log _)]

theorem coe_sum (f : ℕ → ℝ) (S : Finset ℕ) : ((∑ i ∈ S, f i : ℝ) : EReal) = ∑ i ∈ S, ((f i : ℝ) : EReal) := by
  induction S using Finset.cons_induction with
  | empty => simp
  | cons a S ha ih => rw [Finset.sum_cons, Finset.sum_cons, EReal.coe_add, ih]

/-- A key's rest, on real numbers. -/
def restR (x : ℕ → ℝ) (P i : ℕ) : ℝ := if i < P then sig (x i) - x i else 0

variable {Z2 Z : ℕ → EReal} {x : ℕ → ℝ} {P : ℕ}

theorem rowRest_coe (h2 : ∀ j < 4096, Z2 j = ((x j / Real.log 2 : ℝ) : EReal)) (i : ℕ) (hi : i < 4096) :
    rowRest Z2 P i = ((restR x P i / Real.log 2 : ℝ) : EReal) := by
  unfold rowRest restR
  split_ifs
  · rw [h2 i hi, lbeta_coe, ← EReal.coe_sub, sub_div]
  · simp

/-- The kernel's weight of a key. -/
theorem rowAtt_coe (h2 : ∀ j < 4096, Z2 j = ((x j / Real.log 2 : ℝ) : EReal)) (j : ℕ) (hj : j < 4096) :
    rowAtt Z2 P j = if j < P then ((Real.exp (sig (x j) + ∑ i ∈ Finset.Ico (j + 1) 4096, restR x P i) : ℝ) : EReal) else 0 := by
  unfold rowAtt
  split_ifs
  · rw [Finset.sum_congr rfl fun i hi => rowRest_coe (P := P) h2 i (Finset.mem_Ico.1 hi).2, ← coe_sum, h2 j hj, lbeta_coe, ← EReal.coe_add]
    show ((Real.rpow 2 _ : ℝ) : EReal) = _
    congr 1
    show (2 : ℝ) ^ (_ : ℝ) = _
    rw [Real.rpow_def_of_pos (by norm_num), ← Finset.sum_div, ← add_div, mul_div_cancel₀ _ log2_pos.ne']
  · rfl

/-- The reference's weight of a key. -/
theorem weights_coe (z : FVec Ideal ReferenceIdeal.S4x8x4096x4096 .f32) (b : Fin 4) (h : Fin 8) (k j : Fin 4096)
    (hz : ∀ i : Fin 4096, (z (ix4 b h k i) : EReal) = ((x i.val : ℝ) : EReal)) :
    (SbRef.weights z (ix4 b h k j) : EReal)
      = if j.val < k.val then ((Real.exp (sig (x j.val) + ∑ i ∈ Finset.Ico (j.val + 1) 4096, restR x k.val i) : ℝ) : EReal) else 0 := by
  have hl : ∀ i : Fin 4096, (SbRef.leaves z (ix4 b h k i) : EReal) = ((restR x k.val i.val : ℝ) : EReal) := by
    intro i
    rw [SbRef.leaves_apply, hz i, ls_coe]
    unfold restR
    split_ifs
    · rw [EReal.coe_sub]
    · rfl
  have hr : ∀ i ∈ Finset.Ico j.val 4096, SbRef.row (SbRef.leaves z) b h k i = ((restR x k.val i : ℝ) : EReal) := by
    intro i hi
    unfold SbRef.row
    rw [dif_pos (Finset.mem_Ico.1 hi).2]
    exact hl _
  rw [SbRef.weights_apply, SbRef.later_apply, Finset.sum_congr rfl hr, ← coe_sum, hl j, hz j, ls_coe, ← EReal.coe_sub, ← EReal.coe_add, Ideal.exp_coe,
    Finset.sum_eq_sum_Ico_succ_bot j.isLt, add_sub_cancel_left]

end Cert.Sb

end
-- ==== Proof.SbPre.lean ====
/- Stick-breaking attention: what the claim's condition says of the arguments, and the value both programs compute under
   it. -/
module

public import proofs.«01_k».proof.Pre_logits_finite
public import proofs.«01_k».proof.Proof.SbReal
public import Idealize.ShloMosaic.Lib.ReduceAll

@[expose] public section

set_option maxRecDepth 16384

noncomputable section

open Idealize.ShloMosaic Idealize.ShloMosaic.TcCoe Idealize.SL.Sem

namespace Cert.Sb

/-- The shapes the condition is stated with fit. -/
instance pre_facts : Cert.Pre_logits_finite.Facts where
  bitsLt_bf16_f32 := by decide
  bcast_S_S16384x512 := by decide
  reducesTo_S16384x512_S_d0_1 := by decide
  h_S_ := by decide
  bcast_S_S8 := by decide
  reducesTo_S8_S_d0 := by decide

instance : Subsingleton Cert.Pre_logits_finite.S_.Idx := ⟨fun a b => funext fun i => i.elim0⟩

/-- An entry whose absolute value is below infinity is a real number. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [Consts.bits_inf] at h
  have hlt : max x (-x) < ⊤ := by
    by_contra hn
    have : FloatOps.cmpf (F := Ideal) (φ := .f32) .olt (max x (-x) : EReal) ⊤ = 0#1 := by
      show BitVec.ofBool (decide _) = _
      rw [decide_eq_false hn]; rfl
    exact absurd (this.symm.trans h) (by decide)
  have ht : x ≠ ⊤ := by rintro rfl; simp at hlt
  have hb : x ≠ ⊥ := by rintro rfl; simp at hlt
  exact (EReal.coe_toReal ht hb).symm

/-- The condition says that every query, key and bias is a real number. -/
theorem finite (qn : FVec Ideal KernelIdeal.S16384x512 .bf16) (sk sv : FVec Ideal KernelIdeal.S16384x512 .f32) (bias : FVec Ideal KernelIdeal.S8 .f32)
    (h : Cert.Pre_logits_finite.fn (F := Ideal) qn sk sv bias = fun _ => 1#1) :
    (∀ i, (qn i : EReal) = ((EReal.toReal (qn i) : ℝ) : EReal)) ∧ (∀ i, (sk i : EReal) = ((EReal.toReal (sk i) : ℝ) : EReal))
      ∧ (∀ i, (bias i : EReal) = ((EReal.toReal (bias i) : ℝ) : EReal)) := by
  have h0 := congrFun h ix0
  unfold Cert.Pre_logits_finite.fn at h0
  obtain ⟨h1, hb⟩ := IntOp.andi_eq_one.1 h0
  obtain ⟨hq, hk⟩ := IntOp.andi_eq_one.1 h1
  refine ⟨fun i => real_of_lt _ ?_, fun i => real_of_lt _ ?_, fun i => real_of_lt _ ?_⟩
  · exact Host.reduce_andi_all _ _ _ _ _ hq i
  · exact Host.reduce_andi_all _ _ _ _ _ hk i
  · exact Host.reduce_andi_all _ _ _ _ _ hb i

theorem coe_sum_fin {n : ℕ} (f : Fin n → ℝ) : ((∑ i, f i : ℝ) : EReal) = ∑ i, ((f i : ℝ) : EReal) := by
  induction (Finset.univ : Finset (Fin n)) using Finset.cons_induction with
  | empty => simp
  | cons a S ha ih => rw [Finset.sum_cons, Finset.sum_cons, EReal.coe_add, ih]

section
variable (qn : FVec Ideal KernelIdeal.S16384x512 .bf16) (sk sv : FVec Ideal KernelIdeal.S16384x512 .f32) (bias : FVec Ideal KernelIdeal.S8 .f32)

/-- A query's logit at the key numbered `j` of its sequence, on real numbers. -/
def realLogit (b : Fin 4) (h : Fin 8) (k : Fin 4096) (j : ℕ) : ℝ :=
  if hj : j < 4096 then
    Real.log 2 * (∑ e : Fin 64, EReal.toReal (qn (ix2 (⟨b.val * 4096 + k.val, by omega⟩ : Fin 16384) (⟨64 * h.val + e.val, by omega⟩ : Fin 512)))
      * EReal.toReal (sk (ix2 (⟨b.val * 4096 + j, by omega⟩ : Fin 16384) (⟨64 * h.val + e.val, by omega⟩ : Fin 512)))) + EReal.toReal (bias (ix1 h))
  else 0

variable (hq : ∀ i, (qn i : EReal) = ((EReal.toReal (qn i) : ℝ) : EReal)) (hk : ∀ i, (sk i : EReal) = ((EReal.toReal (sk i) : ℝ) : EReal))
  (hb : ∀ i, (bias i : EReal) = ((EReal.toReal (bias i) : ℝ) : EReal))

include hq hk hb

/-- The reference's logit. -/
theorem logits_coe (b : Fin 4) (h : Fin 8) (k j : Fin 4096) :
    (SbRef.logits qn sk bias (ix4 b h k j) : EReal) = ((realLogit qn sk bias b h k j.val : ℝ) : EReal) := by
  rw [SbRef.logits_apply, hb (ix1 h), Finset.sum_congr rfl (g := fun e : Fin 64 =>
      ((EReal.toReal (qn (ix2 (⟨b.val * 4096 + k.val, by omega⟩ : Fin 16384) (⟨64 * h.val + e.val, by omega⟩ : Fin 512))) * (8 * Real.log 2)
        * EReal.toReal (sk (ix2 (⟨b.val * 4096 + j.val, by omega⟩ : Fin 16384) (⟨64 * h.val + e.val, by omega⟩ : Fin 512))) : ℝ) : EReal)) fun e _ => by
      simp only [EReal.coe_mul, ← hq, ← hk], ← coe_sum_fin, ← EReal.coe_mul, ← EReal.coe_add]
  unfold realLogit
  rw [dif_pos j.isLt, Finset.sum_mul, Finset.mul_sum]
  congr 2
  exact Finset.sum_congr rfl fun e _ => by ring

/-- The kernel's logit is the same, over `log 2`. -/
theorem logit2_coe (R : Fin 16384) (h : Fin 8) (j : ℕ) (hj : j < 4096) :
    logit2 qn sk bias R h j = ((realLogit qn sk bias (⟨R.val / 4096, by omega⟩ : Fin 4) h (⟨R.val % 4096, by omega⟩ : Fin 4096) j / Real.log 2 : ℝ) : EReal) := by
  have hR : (⟨R.val / 4096 * 4096 + R.val % 4096, by omega⟩ : Fin 16384) = R := Fin.ext (Nat.div_add_mod' R.val 4096)
  unfold logit2 realLogit
  simp only [dif_pos hj, hR]
  rw [IdealRules.named_const.ideal_named_scalar KernelIdeal.κ "log2e" _ _ rfl, hb (ix1 h), Finset.sum_congr rfl (g := fun e : Fin 64 =>
      ((EReal.toReal (qn (ix2 R (⟨64 * h.val + e.val, by omega⟩ : Fin 512)))
        * EReal.toReal (sk (ix2 (⟨R.val / 4096 * 4096 + j, by omega⟩ : Fin 16384) (⟨64 * h.val + e.val, by omega⟩ : Fin 512))) : ℝ) : EReal)) fun e _ => by
      rw [EReal.coe_mul, ← hq, ← hk], ← coe_sum_fin]
  show _ + _ * (((Real.log 2)⁻¹ : ℝ) : EReal) = _
  rw [← EReal.coe_mul, ← EReal.coe_add]
  congr 1
  rw [add_div, mul_div_cancel_left₀ _ log2_pos.ne', div_eq_mul_inv (EReal.toReal _), EReal.toReal_coe]

/-- The kernel's formula is the reference's. -/
theorem attn_eq : attn qn sk sv bias = SbRef.output sv (SbRef.weights (SbRef.logits qn sk bias)) := by
  funext y
  obtain ⟨R, C, rfl⟩ : ∃ (R : Fin 16384) (C : Fin 512), y = ix2 R C := ⟨y 0, y 1, eq_ix2 y⟩
  refine Eq.trans ?_ (SbRef.output_apply sv _ R C).symm
  unfold attn
  refine Finset.sum_congr rfl fun j _ => ?_
  rw [weights_coe _ _ _ _ j fun i => logits_coe qn sk bias hq hk hb _ _ _ i, mul_comm]
  exact congrArg _ (rowAtt_coe (P := R.val % 4096) (fun i hi => logit2_coe qn sk bias hq hk hb R (⟨C.val / 64, by omega⟩ : Fin 8) i hi) j.val j.isLt)

end

end Cert.Sb

end
-- ==== Proof.SbClaim.lean ====
/- The value claim of the stick-breaking attention. -/
module

public import proofs.«01_k».proof.Defs
public import proofs.«01_k».proof.Proof.Frames
public import proofs.«01_k».proof.Proof.SbFinal
public import proofs.«01_k».proof.Proof.SbPre
public import Idealize.ShloMosaic.Lib.Claim

@[expose] public section

noncomputable section

namespace Cert.Proof

open Idealize.ShloMosaic Idealize.SL.Sem

/-- The attention kernel over the extended reals, on finite arguments. -/
theorem frame_sb_finite : Cert.quiescent_KernelIdeal_pre_logits_finite := fun m g _ => frame_KernelIdeal m g trivial

/-- The attention reference, on finite arguments. -/
theorem frame_sb_reference_finite : Cert.quiescent_ReferenceIdeal_pre_logits_finite := fun m g _ => frame_ReferenceIdeal m g trivial

set_option maxHeartbeats 4000000 in
/-- The tiled kernel and the plain reference compute the same attention over the extended reals, on finite queries, keys
    and biases, whatever the values. -/
theorem algebraic_sb : Cert.algebraic_KernelIdeal_ReferenceIdeal_pre_logits_finite := by
  pair_intro
  · run_from Cert.KernelIdeal.Gen.run_main m g
  · run_from Cert.ReferenceIdeal.Value.run m' g'
    obtain ⟨e0, e1, e2, e3⟩ := hagree c
    obtain ⟨hq, hk, hb⟩ := Cert.Sb.finite _ _ _ _ (hpre c)
    rw [Cert.SbRef.res_eq, Cert.Sb.final, e0, e1, e2, e3]
    exact (Cert.Sb.attn_eq _ _ _ _ hq hk hb).symm

end Cert.Proof

end
-- ==== Proof.OutFfnRef.lean ====
/- The output projection and feed-forward network of the layer: the plain reference's result, stage by stage, as
   functions of the argument arrays over the extended reals. -/
module

public import proofs.«01_k».proof.Proof.Gen.Reference2Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.OutFfn

open Cert.Reference2Ideal Cert.Reference2Ideal.Gen

/-- The residual stream after the output projection: `h + concat(og, od, osb) · w_out`. -/
def resid (h : FVec Ideal S16384x1024 .f32) (og od : FVec Ideal S16384x256 .bf16) (osb : FVec Ideal S16384x512 .bf16)
    (wo : FVec Ideal S1024x1024 .f32) : FVec Ideal S16384x1024 .f32 :=
  addf h (Host.dotGeneral dot_S16384x1024_S1024x1024_S16384x1024_1_0_0_1_n_n none
    (concatenate S16384x1024 1 [⟨S16384x256, extf .f32 og bitsLt_bf16_f32⟩, ⟨S16384x256, extf .f32 od bitsLt_bf16_f32⟩,
      ⟨S16384x512, extf .f32 osb bitsLt_bf16_f32⟩] concatenates_S16384x256_S16384x256_S16384x512_S16384x1024_d1) wo)

/-- The root-mean-square normalisation of the residual stream's rows, times the gain `ln2`. -/
def normed (x : FVec Ideal S16384x1024 .f32) (ln2 : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32)
      reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 ln2))

/-- The hidden layer: the square of the positive part of `x · w_up`. -/
def hidden (x : FVec Ideal S16384x1024 .f32) (wu : FVec Ideal S1024x4096 .f32) : FVec Ideal S16384x4096 .f32 :=
  mulf (maximumf (Host.dotGeneral dot_S16384x1024_S1024x4096_S16384x4096_1_0_0_1_n_n none x wu)
      (broadcastInDim S16384x4096 ![] bcast_S_S16384x4096 (constant S_ .f32 0x00000000#32)))
    (maximumf (Host.dotGeneral dot_S16384x1024_S1024x4096_S16384x4096_1_0_0_1_n_n none x wu)
      (broadcastInDim S16384x4096 ![] bcast_S_S16384x4096 (constant S_ .f32 0x00000000#32)))

/-- The layer's output: the residual stream plus the hidden layer times `w_down`. -/
def output (h : FVec Ideal S16384x1024 .f32) (og od : FVec Ideal S16384x256 .bf16) (osb : FVec Ideal S16384x512 .bf16)
    (wo : FVec Ideal S1024x1024 .f32) (ln2 : FVec Ideal S1024 .f32) (wu : FVec Ideal S1024x4096 .f32)
    (wd : FVec Ideal S4096x1024 .f32) : FVec Ideal S16384x1024 .f32 :=
  addf (resid h og od osb wo) (Host.dotGeneral dot_S16384x4096_S4096x1024_S16384x1024_1_0_0_1_n_n none
    (hidden (normed (resid h og od osb wo) ln2) wu) wd)

/-- The reference's result array is `output` of its arguments. -/
theorem res_eq (m : (ℓ : Loc nD τ sig) → Buf (Elt Ideal) ℓ) (c : Dev nD) :
    Cert.Reference2Ideal.Value.res_main_v23 m c = output (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := by
  unfold Cert.Reference2Ideal.Value.res_main_v23; rfl

/-- The concatenation of the three heads' outputs, at row `r`, column `k`. -/
def cat (og od : FVec Ideal S16384x256 .bf16) (osb : FVec Ideal S16384x512 .bf16) (r : Fin 16384) (k : Fin 1024) : EReal :=
  if h : (k : ℕ) < 256 then og (ix2 r ⟨k, h⟩)
  else if h' : (k : ℕ) - 256 < 256 then od (ix2 r ⟨(k : ℕ) - 256, h'⟩) else osb (ix2 r ⟨(k : ℕ) - 256 - 256, by omega⟩)

/-- `resid` at row `r`, column `l`. -/
theorem resid_apply (h : FVec Ideal S16384x1024 .f32) (og od : FVec Ideal S16384x256 .bf16) (osb : FVec Ideal S16384x512 .bf16)
    (wo : FVec Ideal S1024x1024 .f32) (r : Fin 16384) (l : Fin 1024) :
    resid h og od osb wo (ix2 r l) = h (ix2 r l) + ∑ k : Fin 1024, cat og od osb r k * wo (ix2 k l) := by
  pointwise [resid]
  rfl

/-- `normed` at row `r`, column `l`. -/
theorem normed_apply (x : FVec Ideal S16384x1024 .f32) (ln2 : FVec Ideal S1024 .f32) (r : Fin 16384) (l : Fin 1024) :
    normed x ln2 (ix2 r l) = x (ix2 r l) * Ideal.rsqrt (Ideal.div (∑ k : Fin 1024, x (ix2 r k) * x (ix2 r k))
      (Ideal.ofBits FTy.f32 0x44800000#32) + Ideal.ofBits FTy.f32 0x358637BD#32) * ln2 (ix1 l) := by
  pointwise [normed]

/-- `hidden` at row `r`, unit `f`. -/
theorem hidden_apply (x : FVec Ideal S16384x1024 .f32) (wu : FVec Ideal S1024x4096 .f32) (r : Fin 16384) (f : Fin 4096) :
    hidden x wu (ix2 r f) = max (∑ k : Fin 1024, x (ix2 r k) * wu (ix2 k f)) 0
      * max (∑ k : Fin 1024, x (ix2 r k) * wu (ix2 k f)) 0 := by
  pointwise [hidden]

/-- `output` at row `r`, column `l`. -/
theorem output_apply (h : FVec Ideal S16384x1024 .f32) (og od : FVec Ideal S16384x256 .bf16) (osb : FVec Ideal S16384x512 .bf16)
    (wo : FVec Ideal S1024x1024 .f32) (ln2 : FVec Ideal S1024 .f32) (wu : FVec Ideal S1024x4096 .f32)
    (wd : FVec Ideal S4096x1024 .f32) (r : Fin 16384) (l : Fin 1024) :
    output h og od osb wo ln2 wu wd (ix2 r l) = resid h og od osb wo (ix2 r l)
      + ∑ f : Fin 4096, hidden (normed (resid h og od osb wo) ln2) wu (ix2 r f) * wd (ix2 f l) := by
  pointwise [output]

end Cert.OutFfn

end
-- ==== Proof.OutFfn.lean ====
/- The output projection and feed-forward network of the layer: the tiled kernel's result array is the plain
   reference's, over the extended reals. -/
module

public import proofs.«01_k».proof.Proof.OutFfnRef
public import proofs.«01_k».proof.Proof.Gen.Kernel2Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutFfn

open Cert.Kernel2Ideal Cert.Kernel2Ideal.Gen

variable (m : (ℓ : Loc nD τ sig) → Buf (Elt Ideal) ℓ)

/-- The block that each window stages at a grid point: the token windows move by 512 rows, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- One weight column block of the kernel: the matrix product's square of the positive part, times the rows of
    `w_down` that belong to it. -/
theorem pay1_apply (v23 : FVec Ideal S512x1024 .bf16) (v34 : FVec Ideal S512x1024 .f32)
    (a1 b1 a2 b2 a3 b3 : FVec Ideal S1024x1024 .bf16) (r : Fin 512) (l : Fin 1024) :
    k0_pay1 v23 v34 a1 b1 a2 b2 a3 b3 (ix2 r l) = v34 (ix2 r l)
      + (∑ f : Fin 1024, (max (∑ k : Fin 1024, v23 (ix2 r k) * a1 (ix2 k f)) 0 * max (∑ k : Fin 1024, v23 (ix2 r k) * a1 (ix2 k f)) 0) * b1 (ix2 f l))
      + (∑ f : Fin 1024, (max (∑ k : Fin 1024, v23 (ix2 r k) * a2 (ix2 k f)) 0 * max (∑ k : Fin 1024, v23 (ix2 r k) * a2 (ix2 k f)) 0) * b2 (ix2 f l))
      + (∑ f : Fin 1024, (max (∑ k : Fin 1024, v23 (ix2 r k) * a3 (ix2 k f)) 0 * max (∑ k : Fin 1024, v23 (ix2 r k) * a3 (ix2 k f)) 0) * b3 (ix2 f l)) := by
  pointwise [k0_pay1]

theorem pay4_apply (v0 v1 : FVec Ideal S512x256 .bf16) (v2 : FVec Ideal S512x512 .bf16) (v4 : FVec Ideal S512x1024 .f32)
    (v5 : FVec Ideal S1024x1024 .bf16) (v19 : FVec Ideal S1x1024 .f32) (a b : FVec Ideal S1024x1024 .bf16) (r : Fin 512) (l : Fin 1024) :
    k0_pay4 v0 v1 v2 v4 v5 v19 a b (ix2 r l) = (k0_pay2 (F := Ideal) v0 v1 v2 v4 v5 (ix2 r l) : EReal)
      + ∑ f : Fin 1024, (max (∑ k : Fin 1024, (k0_pay3 (F := Ideal) v0 v1 v2 v4 v5 v19 (ix2 r k) : EReal) * a (ix2 k f)) 0
        * max (∑ k : Fin 1024, (k0_pay3 (F := Ideal) v0 v1 v2 v4 v5 v19 (ix2 r k) : EReal) * a (ix2 k f)) 0) * b (ix2 f l) := by
  pointwise [k0_pay4]

theorem pay3_apply (v0 v1 : FVec Ideal S512x256 .bf16) (v2 : FVec Ideal S512x512 .bf16) (v4 : FVec Ideal S512x1024 .f32)
    (v5 : FVec Ideal S1024x1024 .bf16) (v19 : FVec Ideal S1x1024 .f32) (r : Fin 512) (l : Fin 1024) :
    (k0_pay3 (F := Ideal) v0 v1 v2 v4 v5 v19 (ix2 r l) : EReal) = (k0_pay2 (F := Ideal) v0 v1 v2 v4 v5 (ix2 r l) : EReal)
      * Ideal.rsqrt (Ideal.div (∑ k : Fin 1024, (k0_pay2 (F := Ideal) v0 v1 v2 v4 v5 (ix2 r k) : EReal) * (k0_pay2 (F := Ideal) v0 v1 v2 v4 v5 (ix2 r k) : EReal))
        (Ideal.ofBits FTy.f32 0x44800000#32) + Ideal.ofBits FTy.f32 0x358637BD#32) * v19 (ix2 0 l) := by
  pointwise [k0_pay3]

theorem pay2_apply (v0 v1 : FVec Ideal S512x256 .bf16) (v2 : FVec Ideal S512x512 .bf16) (v4 : FVec Ideal S512x1024 .f32)
    (v5 : FVec Ideal S1024x1024 .bf16) (r : Fin 512) (l : Fin 1024) :
    k0_pay2 v0 v1 v2 v4 v5 (ix2 r l) = v4 (ix2 r l) + ∑ k : Fin 1024, (if h : (k : ℕ) < 256 then v0 (ix2 r ⟨k, h⟩)
      else if h' : (k : ℕ) - 256 < 256 then v1 (ix2 r ⟨(k : ℕ) - 256, h'⟩) else v2 (ix2 r ⟨(k : ℕ) - 256 - 256, by omega⟩)) * v5 (ix2 k l) := by
  pointwise [k0_pay2]

/-- A sum over the 4096 hidden units, cut into the kernel's four column blocks. -/
theorem sum_four (g : Fin 4096 → EReal) : ∑ f : Fin 4096, g f
    = (((∑ f : Fin 1024, g ⟨f, by omega⟩) + ∑ f : Fin 1024, g ⟨1024 + f, by omega⟩) + ∑ f : Fin 1024, g ⟨2048 + f, by omega⟩)
      + ∑ f : Fin 1024, g ⟨3072 + f, by omega⟩ := by
  rw [show (∑ f : Fin 4096, g f) = _ from Fin.sum_univ_add (a := 3072) (b := 1024) g,
    show (∑ f : Fin 3072, g (Fin.castAdd 1024 f)) = _ from Fin.sum_univ_add (a := 2048) (b := 1024) _,
    show (∑ f : Fin 2048, g (Fin.castAdd 1024 (Fin.castAdd 1024 f))) = _ from Fin.sum_univ_add (a := 1024) (b := 1024) _]
  rfl

/-- What the kernel computes from blocks that hold the rows `R r` of the arrays is the reference's row `R r`. -/
theorem body_eq (h : FVec Ideal S16384x1024 .f32) (og od : FVec Ideal S16384x256 .bf16) (osb : FVec Ideal S16384x512 .bf16)
    (wo : FVec Ideal S1024x1024 .f32) (ln2 : FVec Ideal S1024 .f32) (wu : FVec Ideal S1024x4096 .f32)
    (wd : FVec Ideal S4096x1024 .f32) (R : Fin 512 → Fin 16384)
    (x0 : FVec Ideal S512x1024 .f32) (x1 x2 : FVec Ideal S512x256 .bf16) (x3 : FVec Ideal S512x512 .bf16)
    (x4 : FVec Ideal S1024x1024 .bf16) (x5 : FVec Ideal S1x1024 .f32) (a0 b0 a1 b1 a2 b2 a3 b3 : FVec Ideal S1024x1024 .bf16)
    (h0 : ∀ r l, x0 (ix2 r l) = h (ix2 (R r) l)) (h1 : ∀ r l, x1 (ix2 r l) = og (ix2 (R r) l))
    (h2 : ∀ r l, x2 (ix2 r l) = od (ix2 (R r) l)) (h3 : ∀ r l, x3 (ix2 r l) = osb (ix2 (R r) l))
    (h4 : ∀ k l, x4 (ix2 k l) = wo (ix2 k l)) (h5 : ∀ l, x5 (ix2 0 l) = ln2 (ix1 l))
    (ha0 : ∀ k (f : Fin 1024), a0 (ix2 k f) = wu (ix2 k ⟨f, by omega⟩)) (ha1 : ∀ k (f : Fin 1024), a1 (ix2 k f) = wu (ix2 k ⟨1024 + f, by omega⟩))
    (ha2 : ∀ k (f : Fin 1024), a2 (ix2 k f) = wu (ix2 k ⟨2048 + f, by omega⟩)) (ha3 : ∀ k (f : Fin 1024), a3 (ix2 k f) = wu (ix2 k ⟨3072 + f, by omega⟩))
    (hb0 : ∀ (f : Fin 1024) l, b0 (ix2 f l) = wd (ix2 ⟨f, by omega⟩ l)) (hb1 : ∀ (f : Fin 1024) l, b1 (ix2 f l) = wd (ix2 ⟨1024 + f, by omega⟩ l))
    (hb2 : ∀ (f : Fin 1024) l, b2 (ix2 f l) = wd (ix2 ⟨2048 + f, by omega⟩ l)) (hb3 : ∀ (f : Fin 1024) l, b3 (ix2 f l) = wd (ix2 ⟨3072 + f, by omega⟩ l))
    (r : Fin 512) (l : Fin 1024) :
    k0_pay1 (k0_pay3 x1 x2 x3 x0 x4 x5) (k0_pay4 x1 x2 x3 x0 x4 x5 a0 b0) a1 b1 a2 b2 a3 b3 (ix2 r l)
      = output h og od osb wo ln2 wu wd (ix2 (R r) l) := by
  have e2 : ∀ r l, (k0_pay2 (F := Ideal) x1 x2 x3 x0 x4 (ix2 r l) : EReal) = resid h og od osb wo (ix2 (R r) l) := by
    intro r l
    rw [pay2_apply, resid_apply]
    simp only [h0, h1, h2, h3, h4, cat]
  have e3 : ∀ r l, (k0_pay3 (F := Ideal) x1 x2 x3 x0 x4 x5 (ix2 r l) : EReal) = normed (resid h og od osb wo) ln2 (ix2 (R r) l) := by
    intro r l
    rw [pay3_apply, normed_apply]
    simp only [e2, h5]
  rw [pay1_apply, output_apply, pay4_apply, sum_four, e2]
  simp only [hidden_apply, e3, ha0, ha1, ha2, ha3, hb0, hb1, hb2, hb3, add_assoc]

/-- The kernel's result array is the reference's function of the argument arrays. -/
theorem final (c : Dev nD) : (dats m 0 c).arrAt 8 (cfgs 0).N
    = output (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t _ y => ?_
  blk_simp
  rw [after0_8]; frame_out
  obtain ⟨r, l, rfl⟩ : ∃ (r : Fin 512) (l : Fin 1024), y = ix2 r l := ⟨y 0, y 1, eq_ix2 y⟩
  have hN : t.val < 32 := t.isLt
  have hemb : ((View.whole main_v4).slice (win0_8.rect t)).emb (ix2 r l) = ix2 (⟨t.val * 512 + r.val, by omega⟩ : Fin 16384) l := by
    blk_ext [idx t]
  refine (body_eq _ _ _ _ _ _ _ _ (fun r => ⟨t.val * 512 + r.val, by omega⟩) _ _ _ _ _ _ _ _ _ _ _ _ _ _
    ?_ ?_ ?_ ?_ ?_ ?_ ?_ ?_ ?_ ?_ ?_ ?_ ?_ ?_ r l).trans (congrArg _ hemb.symm)
  all_goals intros
  all_goals first | blk_point [iblk, V, idx t] | skip
  all_goals first | (pointwise []; blk_point [iblk, V, idx t]) | skip

end Cert.OutFfn

end
-- ==== Proof.OutFfnClaim.lean ====
/- The value claim of the output projection and feed-forward network. -/
module

public import proofs.«01_k».proof.Defs
public import proofs.«01_k».proof.Proof.OutFfn
public import Idealize.ShloMosaic.Lib.Claim

@[expose] public section

noncomputable section

namespace Cert.Proof

open Idealize.ShloMosaic Idealize.SL.Sem

/-- The tiled kernel and the plain reference compute the same array over the extended reals, whatever the arguments. -/
theorem algebraic_out_ffn : Cert.algebraic_Kernel2Ideal_Reference2Ideal := by
  pair_intro
  · run_from Cert.Kernel2Ideal.Gen.run_main m g
  · run_from Cert.Reference2Ideal.Value.run m' g'
    rw [Cert.OutFfn.res_eq, Cert.OutFfn.final]
    obtain ⟨e0, e1, e2, e3, e4, e5, e6, e7⟩ := hagree c
    simp only [e0, e1, e2, e3, e4, e5, e6, e7]

end Cert.Proof

end
-- ==== Proof.InProjRef.lean ====
/- The input projection of the layer: the plain reference's four results as functions of the argument arrays over the
   extended reals. -/
module

public import proofs.«01_k».proof.Proof.Consts
public import proofs.«01_k».proof.Proof.OutFfnRef
public import proofs.«01_k».proof.Proof.Gen.Reference3Ideal.Run

@[expose] public section

set_option maxRecDepth 16384

noncomputable section

open Idealize.ShloMosaic Idealize.ShloMosaic.TcCoe Idealize.SL.Sem

namespace Cert.InProj

open Cert.Reference3Ideal Cert.Reference3Ideal.Gen

/-- The projection of the normalised layer input: `rms_norm(h, ln1) · w_in`. -/
def proj (h : FVec Ideal S16384x1024 .f32) (ln1 : FVec Ideal S1024 .f32) (w : FVec Ideal S1024x3352 .f32) :
    FVec Ideal S16384x3352 .f32 :=
  Host.dotGeneral dot_S16384x1024_S1024x3352_S16384x3352_1_0_0_1_n_n none (OutFfn.normed h ln1) w

/-- A root-mean-square normalisation of each head's 64 columns, times the gain `g`. -/
def heads (x : FVec Ideal S16384x512 .f32) (g : FVec Ideal S64 .f32) : FVec Ideal S16384x8x64 .f32 :=
  mulf (mulf (shapeCast _ x shapeCasts_S16384x512_S16384x8x64)
    (broadcastInDim S16384x8x64 ![0, 1, 2] bcast_S16384x8x1_S16384x8x64_0_1_2 (Host.rsqrt (addf (Host.divf
      (broadcastInDim S16384x8x1 ![0, 1] bcast_S16384x8_S16384x8x1_0_1 (Host.reduceAdd
        (mulf (shapeCast _ x shapeCasts_S16384x512_S16384x8x64) (shapeCast _ x shapeCasts_S16384x512_S16384x8x64))
        (constant S_ .f32 0x00000000#32) reducesTo_S16384x8x64_S16384x8_d2 h_S_))
      (broadcastInDim S16384x8x1 ![] bcast_S_S16384x8x1 (constant S_ .f32 0x42800000#32)))
      (broadcastInDim S16384x8x1 ![] bcast_S_S16384x8x1 (constant S_ .f32 0x358637BD#32))))))
    (broadcastInDim S16384x8x64 ![0, 1, 2] bcast_S1x1x64_S16384x8x64_0_1_2 (broadcastInDim S1x1x64 ![2] bcast_S64_S1x1x64_2 g))

/-- The queries: the heads normalised, with the attention's scale `8⁻¹ / log 2`. -/
def queries (p : FVec Ideal S16384x3352 .f32) (g : FVec Ideal S64 .f32) : FVec Ideal S16384x512 .bf16 :=
  shapeCast _ (truncf .bf16 (mulf (heads (extractStridedSlice S16384x512 ![0, 1816] p slices_S16384x3352_S16384x512_0_1816) g)
    (broadcastInDim S16384x8x64 ![] bcast_S_S16384x8x64 (Host.divf (constant S_ .f32 0x3E000000#32) (Host.log (constant S_ .f32 0x40000000#32)))))
    bitsLt_bf16_f32) shapeCasts_S16384x8x64_S16384x512

/-- The keys: the heads normalised. -/
def keys (p : FVec Ideal S16384x3352 .f32) (g : FVec Ideal S64 .f32) : FVec Ideal S16384x512 .f32 :=
  shapeCast _ (heads (extractStridedSlice S16384x512 ![0, 2328] p slices_S16384x3352_S16384x512_0_2328) g) shapeCasts_S16384x8x64_S16384x512

/-- The values. -/
def values (p : FVec Ideal S16384x3352 .f32) : FVec Ideal S16384x512 .f32 :=
  extractStridedSlice S16384x512 ![0, 2840] p slices_S16384x3352_S16384x512_0_2840

/-- The other columns of the projection, regrouped. -/
def others (p : FVec Ideal S16384x3352 .f32) : FVec Ideal S16384x1920 .f32 :=
  concatenate S16384x1920 1 [⟨S16384x768, extractStridedSlice S16384x768 ![0, 784] p slices_S16384x3352_S16384x768_0_784⟩,
    ⟨S16384x256, extractStridedSlice S16384x256 ![0, 256] p slices_S16384x3352_S16384x256_0_256⟩,
    ⟨S16384x256, extractStridedSlice S16384x256 ![0, 528] p slices_S16384x3352_S16384x256_0_528⟩,
    ⟨S16384x256, extractStridedSlice S16384x256 ![0, 1560] p slices_S16384x3352_S16384x256_0_1560⟩,
    ⟨S16384x128, extractStridedSlice S16384x128 ![0, 0] p slices_S16384x3352_S16384x128_0_0⟩,
    ⟨S16384x128, extractStridedSlice S16384x128 ![0, 128] p slices_S16384x3352_S16384x128_0_128⟩,
    ⟨S16384x16, extractStridedSlice S16384x16 ![0, 512] p slices_S16384x3352_S16384x16_0_512⟩,
    ⟨S16384x4, extractStridedSlice S16384x4 ![0, 1552] p slices_S16384x3352_S16384x4_0_1552⟩,
    ⟨S16384x4, extractStridedSlice S16384x4 ![0, 1556] p slices_S16384x3352_S16384x4_0_1556⟩,
    ⟨S16384x104, broadcastInDim S16384x104 ![] bcast_S_S16384x104 (constant S_ .f32 0x00000000#32)⟩]
    concatenates_S16384x768_S16384x256_S16384x256_S16384x256_S16384x128_S16384x128_S16384x16_S16384x4_S16384x4_S16384x104_S16384x1920_d1

theorem proj_apply (h : FVec Ideal S16384x1024 .f32) (ln1 : FVec Ideal S1024 .f32) (w : FVec Ideal S1024x3352 .f32)
    (r : Fin 16384) (l : Fin 3352) :
    proj h ln1 w (ix2 r l) = ∑ k : Fin 1024, (OutFfn.normed h ln1 (ix2 r k) : EReal) * w (ix2 k l) := by
  pointwise [proj]

/-- One row's head normalisation, before the gain: each entry over the root mean square of its 64 columns. -/
def headnorm (x : Fin 512 → EReal) (l : Fin 512) : EReal :=
  x l * Ideal.rsqrt (Ideal.div (∑ e : Fin 64, x ⟨l.val / 64 * 64 + e.val, by omega⟩ * x ⟨l.val / 64 * 64 + e.val, by omega⟩)
    (Ideal.ofBits FTy.f32 0x42800000#32) + Ideal.ofBits FTy.f32 0x358637BD#32)

theorem heads_apply (x : FVec Ideal S16384x512 .f32) (g : FVec Ideal S64 .f32) (r : Fin 16384) (a : Fin 8) (b : Fin 64) :
    heads x g (ix3 r a b) = headnorm (fun l => x (ix2 r l)) ⟨a.val * 64 + b.val, by omega⟩ * g (ix1 b) := by
  have h : (a.val * 64 + b.val) / 64 = a.val := by omega
  pointwise [heads, headnorm]
  simp only [h]

theorem keys_apply (p : FVec Ideal S16384x3352 .f32) (g : FVec Ideal S64 .f32) (r : Fin 16384) (l : Fin 512) :
    keys p g (ix2 r l) = headnorm (fun l => p (ix2 r ⟨2328 + l.val, by omega⟩)) l * g (ix1 ⟨l.val % 64, Nat.mod_lt _ (by norm_num)⟩) := by
  have h : l.val / 64 * 64 + l.val % 64 = l.val := by omega
  pointwise [keys]
  rw [heads_apply]
  simp only [h]
  pointwise []

theorem queries_apply (p : FVec Ideal S16384x3352 .f32) (g : FVec Ideal S64 .f32) (r : Fin 16384) (l : Fin 512) :
    queries p g (ix2 r l) = headnorm (fun l => p (ix2 r ⟨1816 + l.val, by omega⟩)) l * g (ix1 ⟨l.val % 64, Nat.mod_lt _ (by norm_num)⟩)
      * (((8 * Real.log 2)⁻¹ : ℝ) : EReal) := by
  have h : l.val / 64 * 64 + l.val % 64 = l.val := by omega
  pointwise [queries]
  rw [heads_apply, Consts.scale]
  simp only [h]
  pointwise []

theorem values_apply (p : FVec Ideal S16384x3352 .f32) (r : Fin 16384) (l : Fin 512) :
    values p (ix2 r l) = p (ix2 r ⟨2840 + l.val, by omega⟩) := by
  pointwise [values]

/-- The projection's column that regrouped column `l < 1816` holds. -/
def col (l : ℕ) : ℕ :=
  if l < 768 then 784 + l else if l < 1024 then 256 + (l - 768) else if l < 1280 then 528 + (l - 1024)
  else if l < 1536 then 1560 + (l - 1280) else if l < 1792 then l - 1536 else if l < 1808 then 512 + (l - 1792)
  else if l < 1816 then 1552 + (l - 1808) else 0

theorem col_lt (l : ℕ) : col l < 3352 := by
  unfold col
  split_ifs <;> omega

/-- `col` by the ranges it is made of. -/
theorem col_spec (l : ℕ) : (l < 768 → col l = 784 + l) ∧ (768 ≤ l ∧ l < 1024 → col l = l - 512) ∧ (1024 ≤ l ∧ l < 1280 → col l = l - 496)
    ∧ (1280 ≤ l ∧ l < 1536 → col l = l + 280) ∧ (1536 ≤ l ∧ l < 1792 → col l = l - 1536) ∧ (1792 ≤ l ∧ l < 1808 → col l = l - 1280)
    ∧ (1808 ≤ l ∧ l < 1816 → col l = l - 256) := by
  unfold col
  refine ⟨fun h => ?_, fun h => ?_, fun h => ?_, fun h => ?_, fun h => ?_, fun h => ?_, fun h => ?_⟩ <;> split_ifs <;> omega

theorem others_apply (p : FVec Ideal S16384x3352 .f32) (r : Fin 16384) (l : Fin 1920) :
    others p (ix2 r l) = if l.val < 1816 then p (ix2 r ⟨col l, col_lt l⟩) else 0 := by
  have hp : ∀ (a b : ℕ) (ha : a < 3352) (hb : b < 3352), a = b → p (ix2 r ⟨a, ha⟩) = p (ix2 r ⟨b, hb⟩) := by
    intro a b ha hb e; subst e; rfl
  have hc := col_spec l
  pointwise [others]
  by_cases h1 : l.val < 768
  · exact (dif_pos h1).trans ((hp _ _ _ _ (by omega)).trans (if_pos (by omega)).symm)
  refine (dif_neg h1).trans ?_
  by_cases h2 : l.val - 768 < 256
  · exact (dif_pos h2).trans ((hp _ _ _ _ (by omega)).trans (if_pos (by omega)).symm)
  refine (dif_neg h2).trans ?_
  by_cases h3 : l.val - 768 - 256 < 256
  · exact (dif_pos h3).trans ((hp _ _ _ _ (by omega)).trans (if_pos (by omega)).symm)
  refine (dif_neg h3).trans ?_
  by_cases h4 : l.val - 768 - 256 - 256 < 256
  · exact (dif_pos h4).trans ((hp _ _ _ _ (by omega)).trans (if_pos (by omega)).symm)
  refine (dif_neg h4).trans ?_
  by_cases h5 : l.val - 768 - 256 - 256 - 256 < 128
  · exact (dif_pos h5).trans ((hp _ _ _ _ (by omega)).trans (if_pos (by omega)).symm)
  refine (dif_neg h5).trans ?_
  by_cases h6 : l.val - 768 - 256 - 256 - 256 - 128 < 128
  · exact (dif_pos h6).trans ((hp _ _ _ _ (by omega)).trans (if_pos (by omega)).symm)
  refine (dif_neg h6).trans ?_
  by_cases h7 : l.val - 768 - 256 - 256 - 256 - 128 - 128 < 16
  · exact (dif_pos h7).trans ((hp _ _ _ _ (by omega)).trans (if_pos (by omega)).symm)
  refine (dif_neg h7).trans ?_
  by_cases h8 : l.val - 768 - 256 - 256 - 256 - 128 - 128 - 16 < 4
  · exact (dif_pos h8).trans ((hp _ _ _ _ (by omega)).trans (if_pos (by omega)).symm)
  refine (dif_neg h8).trans ?_
  by_cases h9 : l.val - 768 - 256 - 256 - 256 - 128 - 128 - 16 - 4 < 4
  · exact (dif_pos h9).trans ((hp _ _ _ _ (by omega)).trans (if_pos (by omega)).symm)
  refine (dif_neg h9).trans ?_
  exact (if_neg (by omega)).symm

end Cert.InProj

end
-- ==== Proof.InProjWeight.lean ====
/- The input projection of the layer: the regrouped weight matrix the kernel multiplies with. -/
module

public import proofs.«01_k».proof.Proof.InProjRef
public import proofs.«01_k».proof.Proof.Gen.Kernel3Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen

/-- The four narrow column groups and the padding, side by side. -/
def wtail (w : FVec Ideal S1024x3352 .f32) : FVec Ideal S1024x128 .f32 :=
  concatenate S1024x128 1 [⟨S1024x16, extractStridedSlice S1024x16 ![0, 512] w slices_S1024x3352_S1024x16_0_512⟩, ⟨S1024x4, extractStridedSlice S1024x4 ![0, 1552] w slices_S1024x3352_S1024x4_0_1552⟩, ⟨S1024x4, extractStridedSlice S1024x4 ![0, 1556] w slices_S1024x3352_S1024x4_0_1556⟩,
    ⟨S1024x104, broadcastInDim S1024x104 ![] bcast_S_S1024x104 (constant S_ .f32 0x00000000#32)⟩] concatenates_S1024x16_S1024x4_S1024x4_S1024x104_S1024x128_d1

/-- The weight matrix with its columns regrouped. -/
def wpad (w : FVec Ideal S1024x3352 .f32) : FVec Ideal S1024x3456 .bf16 :=
  truncf .bf16 (concatenate S1024x3456 1 [⟨S1024x512, extractStridedSlice S1024x512 ![0, 1816] w slices_S1024x3352_S1024x512_0_1816⟩,
    ⟨S1024x512, extractStridedSlice S1024x512 ![0, 2328] w slices_S1024x3352_S1024x512_0_2328⟩,
    ⟨S1024x512, extractStridedSlice S1024x512 ![0, 2840] w slices_S1024x3352_S1024x512_0_2840⟩,
    ⟨S1024x768, extractStridedSlice S1024x768 ![0, 784] w slices_S1024x3352_S1024x768_0_784⟩,
    ⟨S1024x256, extractStridedSlice S1024x256 ![0, 256] w slices_S1024x3352_S1024x256_0_256⟩,
    ⟨S1024x256, extractStridedSlice S1024x256 ![0, 528] w slices_S1024x3352_S1024x256_0_528⟩,
    ⟨S1024x256, extractStridedSlice S1024x256 ![0, 1560] w slices_S1024x3352_S1024x256_0_1560⟩,
    ⟨S1024x128, extractStridedSlice S1024x128 ![0, 0] w slices_S1024x3352_S1024x128_0_0⟩,
    ⟨S1024x128, extractStridedSlice S1024x128 ![0, 128] w slices_S1024x3352_S1024x128_0_128⟩,
    ⟨S1024x128, wtail w⟩] concatenates_S1024x512_S1024x512_S1024x512_S1024x768_S1024x256_S1024x256_S1024x256_S1024x128_S1024x128_S1024x128_S1024x3456_d1) bitsLt_bf16_f32

set_option maxRecDepth 100000 in
set_option maxHeartbeats 4000000 in
/-- The kernel's weight operand is the regrouped weight matrix. -/
theorem V_weight (m : (ℓ : Loc nD τ sig) → Buf (Elt Ideal) ℓ) (c : Dev nD) :
    V m c main_v15 = wpad (m ((c : Thread nD τ).loc main_arg2)) := by
  rfl

theorem entry_congr (w : FVec Ideal S1024x3352 .f32) (k : Fin 1024) (a b : ℕ) (ha : a < 3352) (hb : b < 3352) (e : a = b) :
    (w (ix2 k ⟨a, ha⟩) : EReal) = w (ix2 k ⟨b, hb⟩) := by
  subst e; rfl

/-- A product's column of the regrouped weights: column `l` is the projection's column `col l`, the last 104 are zero. -/
def wcol (w : FVec Ideal S1024x3352 .f32) (k : Fin 1024) (l : ℕ) : EReal := if l < 1816 then w (ix2 k ⟨col l, col_lt l⟩) else 0

theorem wcol_lt (w : FVec Ideal S1024x3352 .f32) (k : Fin 1024) (l a : ℕ) (hl : l < 1816) (ha : a < 3352) (e : a = col l) :
    (w (ix2 k ⟨a, ha⟩) : EReal) = wcol w k l := by
  unfold wcol
  rw [if_pos hl]
  exact entry_congr w k _ _ _ _ e

theorem wtail_apply (w : FVec Ideal S1024x3352 .f32) (k : Fin 1024) (l : Fin 128) :
    (wtail w (ix2 k l) : EReal) = wcol w k (1792 + l) := by
  have hc := col_spec (1792 + l.val)
  pointwise [wtail]
  by_cases h1 : l.val < 16
  · refine (dif_pos h1).trans (wcol_lt w k _ _ (by omega) _ (by omega))
  refine (dif_neg h1).trans ?_
  by_cases h2 : l.val - 16 < 4
  · refine (dif_pos h2).trans (wcol_lt w k _ _ (by omega) _ (by omega))
  refine (dif_neg h2).trans ?_
  by_cases h3 : l.val - 16 - 4 < 4
  · refine (dif_pos h3).trans (wcol_lt w k _ _ (by omega) _ (by omega))
  refine (dif_neg h3).trans ?_
  unfold wcol
  rw [if_neg (by omega)]

/-- The query columns. -/
theorem wpad_q (w : FVec Ideal S1024x3352 .f32) (k : Fin 1024) (l : Fin 512) :
    (wpad w (ix2 k (⟨l.val, by omega⟩ : Fin 3456)) : EReal) = w (ix2 k ⟨1816 + l, by omega⟩) := by
  pointwise [wpad]

/-- The key columns. -/
theorem wpad_k (w : FVec Ideal S1024x3352 .f32) (k : Fin 1024) (l : Fin 512) :
    (wpad w (ix2 k (⟨512 + l.val, by omega⟩ : Fin 3456)) : EReal) = w (ix2 k ⟨2328 + l, by omega⟩) := by
  pointwise [wpad]

/-- The value columns. -/
theorem wpad_v (w : FVec Ideal S1024x3352 .f32) (k : Fin 1024) (l : Fin 512) :
    (wpad w (ix2 k (⟨1024 + l.val, by omega⟩ : Fin 3456)) : EReal) = w (ix2 k ⟨2840 + l, by omega⟩) := by
  pointwise [wpad]
  refine (dif_neg (show ¬ (1024 + l.val < 512) by omega)).trans ((dif_neg (show ¬ (1024 + l.val - 512 < 512) by omega)).trans
    ((dif_pos (show 1024 + l.val - 512 - 512 < 512 by omega)).trans ?_))
  exact entry_congr w k _ _ _ _ (by omega)

set_option maxHeartbeats 1000000 in
/-- The other columns. -/
theorem wpad_rest (w : FVec Ideal S1024x3352 .f32) (k : Fin 1024) (l : Fin 1920) :
    (wpad w (ix2 k (⟨1536 + l.val, by omega⟩ : Fin 3456)) : EReal) = wcol w k l := by
  have hc := col_spec l.val
  pointwise [wpad]
  refine (dif_neg (show ¬ (1536 + l.val < 512) by omega)).trans ?_
  refine (dif_neg (show ¬ (1536 + l.val - 512 < 512) by omega)).trans ?_
  refine (dif_neg (show ¬ (1536 + l.val - 512 - 512 < 512) by omega)).trans ?_
  by_cases h1 : 1536 + l.val - 512 - 512 - 512 < 768
  · exact (dif_pos h1).trans (wcol_lt w k _ _ (by omega) _ (by omega))
  refine (dif_neg h1).trans ?_
  by_cases h2 : 1536 + l.val - 512 - 512 - 512 - 768 < 256
  · exact (dif_pos h2).trans (wcol_lt w k _ _ (by omega) _ (by omega))
  refine (dif_neg h2).trans ?_
  by_cases h3 : 1536 + l.val - 512 - 512 - 512 - 768 - 256 < 256
  · exact (dif_pos h3).trans (wcol_lt w k _ _ (by omega) _ (by omega))
  refine (dif_neg h3).trans ?_
  by_cases h4 : 1536 + l.val - 512 - 512 - 512 - 768 - 256 - 256 < 256
  · exact (dif_pos h4).trans (wcol_lt w k _ _ (by omega) _ (by omega))
  refine (dif_neg h4).trans ?_
  by_cases h5 : 1536 + l.val - 512 - 512 - 512 - 768 - 256 - 256 - 256 < 128
  · exact (dif_pos h5).trans (wcol_lt w k _ _ (by omega) _ (by omega))
  refine (dif_neg h5).trans ?_
  by_cases h6 : 1536 + l.val - 512 - 512 - 512 - 768 - 256 - 256 - 256 - 128 < 128
  · exact (dif_pos h6).trans (wcol_lt w k _ _ (by omega) _ (by omega))
  refine (dif_neg h6).trans ?_
  rw [wtail_apply]
  exact congrArg (wcol w k) (show 1792 + (1536 + l.val - 512 - 512 - 512 - 768 - 256 - 256 - 256 - 128 - 128) = l.val by omega)

end Cert.InProj

end
-- ==== Proof.InProj.lean ====
/- The input projection of the layer: the tiled kernel's four result arrays are the plain reference's, over the
   extended reals. -/
module

public import proofs.«01_k».proof.Proof.InProjWeight
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen

/-! ## The body's values at an index -/

/-- The normalised rows. -/
theorem pay2_apply (v0 : FVec Ideal S512x1024 .f32) (v11 : FVec Ideal S1x1024 .f32) (r : Fin 512) (l : Fin 1024) :
    (k0_pay2 (F := Ideal) v0 v11 (ix2 r l) : EReal) = v0 (ix2 r l) * Ideal.rsqrt (Ideal.div (∑ k : Fin 1024, v0 (ix2 r k) * v0 (ix2 r k))
      (Ideal.ofBits FTy.f32 0x44800000#32) + Ideal.ofBits FTy.f32 0x358637BD#32) * v11 (ix2 0 l) := by
  pointwise [k0_pay2]

/-- The products with a block of the regrouped weights' columns. -/
theorem pay3_apply (v0 : FVec Ideal S512x1024 .f32) (v11 : FVec Ideal S1x1024 .f32) (w : FVec Ideal S1024x512 .bf16)
    (r : Fin 512) (l : Fin 512) : (k0_pay3 (F := Ideal) v0 v11 w (ix2 r l) : EReal)
      = ∑ k : Fin 1024, (k0_pay2 (F := Ideal) v0 v11 (ix2 r k) : EReal) * w (ix2 k l) := by
  pointwise [k0_pay3]

theorem pay18_apply (x : FVec Ideal S512x1024 .bf16) (w : FVec Ideal S1024x512 .bf16) (r : Fin 512) (l : Fin 512) :
    (k0_pay18 (F := Ideal) x w (ix2 r l) : EReal) = ∑ k : Fin 1024, x (ix2 r k) * w (ix2 k l) := by
  pointwise [k0_pay18]

theorem pay33_apply (x : FVec Ideal S512x1024 .bf16) (w : FVec Ideal S1024x512 .bf16) (r : Fin 512) (l : Fin 512) :
    (k0_pay33 (F := Ideal) x w (ix2 r l) : EReal) = ∑ k : Fin 1024, x (ix2 r k) * w (ix2 k l) := by
  pointwise [k0_pay33]

theorem pay34_apply (x : FVec Ideal S512x1024 .bf16) (w : FVec Ideal S1024x640 .bf16) (r : Fin 512) (l : Fin 640) :
    (k0_pay34 (F := Ideal) x w (ix2 r l) : EReal) = ∑ k : Fin 1024, x (ix2 r k) * w (ix2 k l) := by
  pointwise [k0_pay34]

theorem pay35_apply (x : FVec Ideal S512x1024 .bf16) (w : FVec Ideal S1024x640 .bf16) (r : Fin 512) (l : Fin 640) :
    (k0_pay35 (F := Ideal) x w (ix2 r l) : EReal) = ∑ k : Fin 1024, x (ix2 r k) * w (ix2 k l) := by
  pointwise [k0_pay35]

theorem pay1_apply (x : FVec Ideal S512x1024 .bf16) (w : FVec Ideal S1024x640 .bf16) (r : Fin 512) (l : Fin 640) :
    (k0_pay1 (F := Ideal) x w (ix2 r l) : EReal) = ∑ k : Fin 1024, x (ix2 r k) * w (ix2 k l) := by
  pointwise [k0_pay1]

/-- One chunk of 128 lanes, two heads, as the kernel normalises it: the squares `f` of each half summed with the other
    half masked, the lane `n` choosing its half's sum. -/
theorem chunk (x : Fin 512 → EReal) (l : Fin 512) (j n : ℕ) (hn : n < 128) (hl : l.val = 128 * j + n) (y : EReal) (hy : y = x l)
    (f : Fin 128 → EReal) (hf : ∀ k : Fin 128, f k = x ⟨128 * j + k.val, by omega⟩) :
    y * Ideal.rsqrt ((Scalar.select (IntOp.cmpi CmpIPredicate.slt (BitVec.ofNat 32 n) 64#32)
        (∑ k : Fin 128, Scalar.select (IntOp.cmpi CmpIPredicate.slt (BitVec.ofNat 32 k.val) 64#32) (f k * f k) 0)
        (∑ k : Fin 128, Scalar.select (IntOp.cmpi CmpIPredicate.slt (BitVec.ofNat 32 k.val) 64#32) 0 (f k * f k)))
        * Ideal.ofBits FTy.f32 0x3C800000#32 + Ideal.ofBits FTy.f32 0x358637BD#32)
      = headnorm x l := by
  unfold headnorm
  have e1 : ∀ (k : Fin 128) (a b : EReal), Scalar.select (IntOp.cmpi CmpIPredicate.slt (BitVec.ofNat 32 k.val) 64#32) a b
      = if k.val < 64 then a else b := fun k => Consts.select_lane k.val k.isLt
  simp only [e1]
  rw [Consts.select_lane n hn, Consts.div_64, Consts.sum_low (fun k => f k * f k), Consts.sum_high (fun k => f k * f k), hy]
  congr 4
  split_ifs with h
  · refine Finset.sum_congr rfl fun e _ => ?_
    have : l.val / 64 * 64 + e.val = 128 * j + e.val := by omega
    simp only [this, hf]
  · refine Finset.sum_congr rfl fun e _ => ?_
    have : l.val / 64 * 64 + e.val = 128 * j + (64 + e.val) := by omega
    simp only [this, hf]

set_option maxHeartbeats 2000000 in
/-- The stored queries. -/
theorem q_apply (v0 : FVec Ideal S512x1024 .f32) (v11 : FVec Ideal S1x1024 .f32) (w : FVec Ideal S1024x512 .bf16)
    (g : FVec Ideal S1x512 .f32) (r : Fin 512) (l : Fin 512) :
    k0_pay17 (F := Ideal) (k0_pay3 v0 v11 w) (k0_pay4 g) k0_pay5 (k0_pay11 (k0_pay6 v0 v11 w) (k0_pay8 v0 v11 w) k0_pay9 (k0_pay10 v0 v11 w))
      (k0_pay12 (k0_pay3 v0 v11 w) k0_pay5) (k0_pay13 (k0_pay3 v0 v11 w)) (k0_pay15 (k0_pay3 v0 v11 w) k0_pay5)
      (k0_pay16 (k0_pay3 v0 v11 w) k0_pay5) (ix2 r l)
      = headnorm (fun l => (k0_pay3 (F := Ideal) v0 v11 w (ix2 r l) : EReal)) l * g (ix2 0 l) * (((8 * Real.log 2)⁻¹ : ℝ) : EReal) := by
  pointwise [k0_pay17, k0_pay4, k0_pay5, k0_pay6, k0_pay7, k0_pay8, k0_pay9, k0_pay10, k0_pay11, k0_pay12, k0_pay13, k0_pay14, k0_pay15, k0_pay16]
  have hn : (Named.named (F := Ideal) κ "q_scale" 0x3E38AA3B#32 : Ideal .f32) = (((8 * Real.log 2)⁻¹ : ℝ) : EReal) :=
    IdealRules.named_const.ideal_named_scalar κ "q_scale" _ _ rfl
  rw [hn]
  generalize k0_pay3 (F := Ideal) v0 v11 w = X
  refine congrArg (fun t : EReal => t * g (ix2 0 l) * (((8 * Real.log 2)⁻¹ : ℝ) : EReal)) ?_
  by_cases h1 : l.val < 128
  · refine (dif_pos h1).trans (chunk (fun l => (X (ix2 r l) : EReal)) l 0 l.val h1 (by omega) (X (ix2 r l)) rfl (fun k => X (ix2 r ⟨k.val, by omega⟩)) fun k => ?_)
    simp only [Nat.mul_zero, Nat.zero_add]
  refine (dif_neg h1).trans ?_
  by_cases h2 : l.val - 128 < 128
  · refine (dif_pos h2).trans (chunk (fun l => (X (ix2 r l) : EReal)) l 1 (l.val - 128) h2 (by omega) _ ?_ (fun k => X (ix2 r ⟨128 + k.val, by omega⟩)) fun k => rfl)
    exact congrArg X (congrArg (ix2 r) (Fin.ext (by show 128 + (l.val - 128) = l.val; omega)))
  refine (dif_neg h2).trans ?_
  by_cases h3 : l.val - 128 - 128 < 128
  · refine (dif_pos h3).trans (chunk (fun l => (X (ix2 r l) : EReal)) l 2 (l.val - 128 - 128) h3 (by omega) _ ?_ (fun k => X (ix2 r ⟨256 + k.val, by omega⟩)) fun k => rfl)
    exact congrArg X (congrArg (ix2 r) (Fin.ext (by show 256 + (l.val - 128 - 128) = l.val; omega)))
  refine (dif_neg h3).trans ?_
  refine chunk (fun l => (X (ix2 r l) : EReal)) l 3 (l.val - 128 - 128 - 128) (by omega) (by omega) _ ?_ (fun k => X (ix2 r ⟨384 + k.val, by omega⟩)) fun k => rfl
  exact congrArg X (congrArg (ix2 r) (Fin.ext (by show 384 + (l.val - 128 - 128 - 128) = l.val; omega)))

set_option maxHeartbeats 2000000 in
/-- The stored keys. -/
theorem k_apply (x : FVec Ideal S512x1024 .bf16) (w : FVec Ideal S1024x512 .bf16) (g : FVec Ideal S1x512 .f32) (r : Fin 512) (l : Fin 512) :
    k0_pay32 (F := Ideal) (k0_pay19 g) k0_pay20 (k0_pay21 x w) (k0_pay26 k0_pay20 (k0_pay22 x w) (k0_pay23 x w) (k0_pay24 x w) (Scalar.ofBits .f32 0x00000000#32) k0_pay25)
      (k0_pay27 (k0_pay18 x w) k0_pay20) (k0_pay28 (k0_pay18 x w)) (k0_pay29 (k0_pay18 x w)) (k0_pay30 k0_pay20) k0_pay31 (ix2 r l)
      = headnorm (fun l => (k0_pay18 (F := Ideal) x w (ix2 r l) : EReal)) l * g (ix2 0 l) := by
  pointwise [k0_pay32, k0_pay19, k0_pay20, k0_pay21, k0_pay22, k0_pay23, k0_pay24, k0_pay25, k0_pay26, k0_pay27, k0_pay28, k0_pay29, k0_pay30, k0_pay31]
  generalize k0_pay18 (F := Ideal) x w = X
  refine congrArg (fun t : EReal => t * g (ix2 0 l)) ?_
  by_cases h1 : l.val < 128
  · refine (dif_pos h1).trans (chunk (fun l => (X (ix2 r l) : EReal)) l 0 l.val h1 (by omega) (X (ix2 r l)) rfl (fun k => X (ix2 r ⟨k.val, by omega⟩)) fun k => ?_)
    simp only [Nat.mul_zero, Nat.zero_add]
  refine (dif_neg h1).trans ?_
  by_cases h2 : l.val - 128 < 128
  · refine (dif_pos h2).trans (chunk (fun l => (X (ix2 r l) : EReal)) l 1 (l.val - 128) h2 (by omega) _ ?_ (fun k => X (ix2 r ⟨128 + k.val, by omega⟩)) fun k => rfl)
    exact congrArg X (congrArg (ix2 r) (Fin.ext (by show 128 + (l.val - 128) = l.val; omega)))
  refine (dif_neg h2).trans ?_
  by_cases h3 : l.val - 128 - 128 < 128
  · refine (dif_pos h3).trans (chunk (fun l => (X (ix2 r l) : EReal)) l 2 (l.val - 128 - 128) h3 (by omega) _ ?_ (fun k => X (ix2 r ⟨256 + k.val, by omega⟩)) fun k => rfl)
    exact congrArg X (congrArg (ix2 r) (Fin.ext (by show 256 + (l.val - 128 - 128) = l.val; omega)))
  refine (dif_neg h3).trans ?_
  refine chunk (fun l => (X (ix2 r l) : EReal)) l 3 (l.val - 128 - 128 - 128) (by omega) (by omega) _ ?_ (fun k => X (ix2 r ⟨384 + k.val, by omega⟩)) fun k => rfl
  exact congrArg X (congrArg (ix2 r) (Fin.ext (by show 384 + (l.val - 128 - 128 - 128) = l.val; omega)))

variable (m : (ℓ : Loc nD τ sig) → Buf (Elt Ideal) ℓ)

/-- The block that each window stages at a grid point: the token windows move by 512 rows, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

section body

variable (h : FVec Ideal S16384x1024 .f32) (ln1 : FVec Ideal S1024 .f32) (w : FVec Ideal S1024x3352 .f32) (gain : FVec Ideal S64 .f32)
  (R : Fin 512 → Fin 16384) (x0 : FVec Ideal S512x1024 .f32) (x1 : FVec Ideal S1x1024 .f32)

/-- The normalised rows of a block that holds the rows `R r`. -/
theorem rows_eq (h0 : ∀ r l, x0 (ix2 r l) = h (ix2 (R r) l)) (h1 : ∀ l, x1 (ix2 0 l) = ln1 (ix1 l)) (r : Fin 512) (k : Fin 1024) :
    (k0_pay2 (F := Ideal) x0 x1 (ix2 r k) : EReal) = OutFfn.normed h ln1 (ix2 (R r) k) := by
  rw [pay2_apply, OutFfn.normed_apply]
  simp only [h0, h1]

theorem q_eq (h0 : ∀ r l, x0 (ix2 r l) = h (ix2 (R r) l)) (h1 : ∀ l, x1 (ix2 0 l) = ln1 (ix1 l))
    (x2 : FVec Ideal S1024x512 .bf16) (h2 : ∀ k (l : Fin 512), x2 (ix2 k l) = w (ix2 k ⟨1816 + l.val, by omega⟩))
    (x3 : FVec Ideal S1x512 .f32) (h3 : ∀ l : Fin 512, x3 (ix2 0 l) = gain (ix1 ⟨l.val % 64, Nat.mod_lt _ (by norm_num)⟩)) (r l : Fin 512) :
    k0_pay17 (F := Ideal) (k0_pay3 x0 x1 x2) (k0_pay4 x3) k0_pay5 (k0_pay11 (k0_pay6 x0 x1 x2) (k0_pay8 x0 x1 x2) k0_pay9 (k0_pay10 x0 x1 x2))
      (k0_pay12 (k0_pay3 x0 x1 x2) k0_pay5) (k0_pay13 (k0_pay3 x0 x1 x2)) (k0_pay15 (k0_pay3 x0 x1 x2) k0_pay5)
      (k0_pay16 (k0_pay3 x0 x1 x2) k0_pay5) (ix2 r l) = queries (proj h ln1 w) gain (ix2 (R r) l) := by
  rw [q_apply, queries_apply]
  simp only [proj_apply, pay3_apply, rows_eq h ln1 R x0 x1 h0 h1, h2, h3]

theorem k_eq (h0 : ∀ r l, x0 (ix2 r l) = h (ix2 (R r) l)) (h1 : ∀ l, x1 (ix2 0 l) = ln1 (ix1 l))
    (x2 : FVec Ideal S1024x512 .bf16) (h2 : ∀ k (l : Fin 512), x2 (ix2 k l) = w (ix2 k ⟨2328 + l.val, by omega⟩))
    (x3 : FVec Ideal S1x512 .f32) (h3 : ∀ l : Fin 512, x3 (ix2 0 l) = gain (ix1 ⟨l.val % 64, Nat.mod_lt _ (by norm_num)⟩)) (r l : Fin 512) :
    k0_pay32 (F := Ideal) (k0_pay19 x3) k0_pay20 (k0_pay21 (k0_pay2 x0 x1) x2) (k0_pay26 k0_pay20 (k0_pay22 (k0_pay2 x0 x1) x2)
      (k0_pay23 (k0_pay2 x0 x1) x2) (k0_pay24 (k0_pay2 x0 x1) x2) (Scalar.ofBits .f32 0x00000000#32) k0_pay25)
      (k0_pay27 (k0_pay18 (k0_pay2 x0 x1) x2) k0_pay20) (k0_pay28 (k0_pay18 (k0_pay2 x0 x1) x2)) (k0_pay29 (k0_pay18 (k0_pay2 x0 x1) x2))
      (k0_pay30 k0_pay20) k0_pay31 (ix2 r l) = keys (proj h ln1 w) gain (ix2 (R r) l) := by
  rw [k_apply, keys_apply]
  simp only [proj_apply, pay18_apply, rows_eq h ln1 R x0 x1 h0 h1, h2, h3]

theorem v_eq (h0 : ∀ r l, x0 (ix2 r l) = h (ix2 (R r) l)) (h1 : ∀ l, x1 (ix2 0 l) = ln1 (ix1 l))
    (x2 : FVec Ideal S1024x512 .bf16) (h2 : ∀ k (l : Fin 512), x2 (ix2 k l) = w (ix2 k ⟨2840 + l.val, by omega⟩)) (r l : Fin 512) :
    k0_pay33 (F := Ideal) (k0_pay2 x0 x1) x2 (ix2 r l) = values (proj h ln1 w) (ix2 (R r) l) := by
  rw [values_apply, proj_apply]
  refine (pay33_apply _ _ r l).trans ?_
  simp only [rows_eq h ln1 R x0 x1 h0 h1, h2]

/-- A product with a regrouped column is the regrouped projection's entry. -/
theorem other_eq (h0 : ∀ r l, x0 (ix2 r l) = h (ix2 (R r) l)) (h1 : ∀ l, x1 (ix2 0 l) = ln1 (ix1 l)) (r : Fin 512) (l : Fin 1920) :
    (∑ k : Fin 1024, (k0_pay2 (F := Ideal) x0 x1 (ix2 r k) : EReal) * wcol w k l) = others (proj h ln1 w) (ix2 (R r) l) := by
  rw [others_apply, proj_apply]
  simp only [rows_eq h ln1 R x0 x1 h0 h1, wcol]
  split_ifs
  · rfl
  · simp

end body

end Cert.InProj

end
-- ==== Proof.InProjFinal.lean ====
/- The input projection of the layer: the kernel's staged blocks as parts of its arguments, and its four result arrays. -/
module

public import proofs.«01_k».proof.Proof.InProj

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen

/-! ## The four blocks the body writes -/

section body

variable (h : FVec Ideal S16384x1024 .f32) (ln1 : FVec Ideal S1024 .f32) (w : FVec Ideal S1024x3352 .f32) (gain : FVec Ideal S64 .f32)
  (R : Fin 512 → Fin 16384) (x0 : FVec Ideal S512x1024 .f32) (x1 : FVec Ideal S1x1024 .f32) (x2 : FVec Ideal S1024x3456 .bf16) (x3 x4 : FVec Ideal S1x512 .f32)

theorem ld_q (h2 : ∀ k l, x2 (ix2 k l) = wpad w (ix2 k l)) (k : Fin 1024) (l : Fin 512) :
    (View.ld (Val := Elt Ideal) (e' := .bf16) x2 r0_2 : FVec Ideal S1024x512 .bf16) (ix2 k l) = w (ix2 k ⟨1816 + l.val, by omega⟩) := by
  pointwise []
  exact (h2 k _).trans (wpad_q w k l)

theorem ld_k (h2 : ∀ k l, x2 (ix2 k l) = wpad w (ix2 k l)) (k : Fin 1024) (l : Fin 512) :
    (View.ld (Val := Elt Ideal) (e' := .bf16) x2 r0_5 : FVec Ideal S1024x512 .bf16) (ix2 k l) = w (ix2 k ⟨2328 + l.val, by omega⟩) := by
  pointwise []
  exact (h2 k _).trans (wpad_k w k l)

theorem ld_v (h2 : ∀ k l, x2 (ix2 k l) = wpad w (ix2 k l)) (k : Fin 1024) (l : Fin 512) :
    (View.ld (Val := Elt Ideal) (e' := .bf16) x2 r0_6 : FVec Ideal S1024x512 .bf16) (ix2 k l) = w (ix2 k ⟨2840 + l.val, by omega⟩) := by
  pointwise []
  exact (h2 k _).trans (wpad_v w k l)

theorem ld_rest0 (h2 : ∀ k l, x2 (ix2 k l) = wpad w (ix2 k l)) (k : Fin 1024) (l : Fin 640) :
    (View.ld (Val := Elt Ideal) (e' := .bf16) x2 r0_7 : FVec Ideal S1024x640 .bf16) (ix2 k l) = wcol w k l := by
  pointwise []
  exact (h2 k _).trans (wpad_rest w k ⟨l, by omega⟩)

theorem ld_rest1 (h2 : ∀ k l, x2 (ix2 k l) = wpad w (ix2 k l)) (k : Fin 1024) (l : Fin 640) :
    (View.ld (Val := Elt Ideal) (e' := .bf16) x2 r0_9 : FVec Ideal S1024x640 .bf16) (ix2 k l) = wcol w k (640 + l) := by
  pointwise []
  exact (congrArg x2 (congrArg (ix2 k) (Fin.ext (by show 2176 + l.val = 1536 + (640 + l.val); omega)))).trans
    ((h2 k _).trans (wpad_rest w k ⟨640 + l, by omega⟩))

theorem ld_rest2 (h2 : ∀ k l, x2 (ix2 k l) = wpad w (ix2 k l)) (k : Fin 1024) (l : Fin 640) :
    (View.ld (Val := Elt Ideal) (e' := .bf16) x2 r0_11 : FVec Ideal S1024x640 .bf16) (ix2 k l) = wcol w k (1280 + l) := by
  pointwise []
  exact (congrArg x2 (congrArg (ix2 k) (Fin.ext (by show 2816 + l.val = 1536 + (1280 + l.val); omega)))).trans
    ((h2 k _).trans (wpad_rest w k ⟨1280 + l, by omega⟩))

theorem out_q (h0 : ∀ r l, x0 (ix2 r l) = h (ix2 (R r) l)) (h1 : ∀ l, x1 (ix2 0 l) = ln1 (ix1 l))
    (h2 : ∀ k l, x2 (ix2 k l) = wpad w (ix2 k l))
    (h3 : ∀ l : Fin 512, x3 (ix2 0 l) = gain (ix1 ⟨l.val % 64, Nat.mod_lt _ (by norm_num)⟩)) (r l : Fin 512) :
    (out0_5 (F := Ideal) x0 x1 x2 x3 x4 (ix2 r l) : EReal) = queries (proj h ln1 w) gain (ix2 (R r) l) := by
  unfold_out out0_5
  simp (disch := decide) only [View.ld_unit_lit', View.canon_cons_unit_lit']
  exact q_eq h ln1 w gain R x0 x1 h0 h1 _ (ld_q w x2 h2) _ h3 r l

theorem out_k (h0 : ∀ r l, x0 (ix2 r l) = h (ix2 (R r) l)) (h1 : ∀ l, x1 (ix2 0 l) = ln1 (ix1 l))
    (h2 : ∀ k l, x2 (ix2 k l) = wpad w (ix2 k l))
    (h4 : ∀ l : Fin 512, x4 (ix2 0 l) = gain (ix1 ⟨l.val % 64, Nat.mod_lt _ (by norm_num)⟩)) (r l : Fin 512) :
    (out0_6 (F := Ideal) x0 x1 x2 x3 x4 (ix2 r l) : EReal) = keys (proj h ln1 w) gain (ix2 (R r) l) := by
  unfold_out out0_6
  simp (disch := decide) only [View.ld_unit_lit', View.canon_cons_unit_lit']
  exact k_eq h ln1 w gain R x0 x1 h0 h1 _ (ld_k w x2 h2) _ h4 r l

theorem out_v (h0 : ∀ r l, x0 (ix2 r l) = h (ix2 (R r) l)) (h1 : ∀ l, x1 (ix2 0 l) = ln1 (ix1 l))
    (h2 : ∀ k l, x2 (ix2 k l) = wpad w (ix2 k l)) (r l : Fin 512) :
    (out0_7 (F := Ideal) x0 x1 x2 x3 x4 (ix2 r l) : EReal) = values (proj h ln1 w) (ix2 (R r) l) := by
  unfold_out out0_7
  simp (disch := decide) only [View.ld_unit_lit', View.canon_cons_unit_lit']
  exact v_eq h ln1 w R x0 x1 h0 h1 _ (ld_v w x2 h2) r l

theorem emb0 (r : Fin 512) (l : Fin 640) : (r0_8.emb (ix2 r l) : S512x1920.Idx) = ix2 r (⟨l.val, by omega⟩ : Fin 1920) := by
  blk_ext []

theorem piece0 (h0 : ∀ r l, x0 (ix2 r l) = h (ix2 (R r) l)) (h1 : ∀ l, x1 (ix2 0 l) = ln1 (ix1 l))
    (h2 : ∀ k l, x2 (ix2 k l) = wpad w (ix2 k l)) (r : Fin 512) (l : Fin 640) :
    (k0_pay34 (F := Ideal) (k0_pay2 x0 x1) (View.ld (Val := Elt Ideal) (e' := .bf16) x2 r0_7) (ix2 r l) : EReal)
      = others (proj h ln1 w) (ix2 (R (r0_8.emb (ix2 r l) 0)) (r0_8.emb (ix2 r l) 1)) := by
  rw [emb0]
  refine (pay34_apply _ _ r l).trans ?_
  refine (Finset.sum_congr rfl fun k _ => congrArg _ (ld_rest0 w x2 h2 k l)).trans ?_
  exact other_eq h ln1 w R x0 x1 h0 h1 r ⟨l, by omega⟩

theorem emb1 (r : Fin 512) (l : Fin 640) : (r0_10.emb (ix2 r l) : S512x1920.Idx) = ix2 r (⟨640 + l.val, by omega⟩ : Fin 1920) := by
  blk_ext []

theorem piece1 (h0 : ∀ r l, x0 (ix2 r l) = h (ix2 (R r) l)) (h1 : ∀ l, x1 (ix2 0 l) = ln1 (ix1 l))
    (h2 : ∀ k l, x2 (ix2 k l) = wpad w (ix2 k l)) (r : Fin 512) (l : Fin 640) :
    (k0_pay35 (F := Ideal) (k0_pay2 x0 x1) (View.ld (Val := Elt Ideal) (e' := .bf16) x2 r0_9) (ix2 r l) : EReal)
      = others (proj h ln1 w) (ix2 (R (r0_10.emb (ix2 r l) 0)) (r0_10.emb (ix2 r l) 1)) := by
  rw [emb1]
  refine (pay35_apply _ _ r l).trans ?_
  refine (Finset.sum_congr rfl fun k _ => congrArg _ (ld_rest1 w x2 h2 k l)).trans ?_
  exact other_eq h ln1 w R x0 x1 h0 h1 r ⟨640 + l, by omega⟩

theorem emb2 (r : Fin 512) (l : Fin 640) : (r0_12.emb (ix2 r l) : S512x1920.Idx) = ix2 r (⟨1280 + l.val, by omega⟩ : Fin 1920) := by
  blk_ext []

theorem piece2 (h0 : ∀ r l, x0 (ix2 r l) = h (ix2 (R r) l)) (h1 : ∀ l, x1 (ix2 0 l) = ln1 (ix1 l))
    (h2 : ∀ k l, x2 (ix2 k l) = wpad w (ix2 k l)) (r : Fin 512) (l : Fin 640) :
    (k0_pay1 (F := Ideal) (k0_pay2 x0 x1) (View.ld (Val := Elt Ideal) (e' := .bf16) x2 r0_11) (ix2 r l) : EReal)
      = others (proj h ln1 w) (ix2 (R (r0_12.emb (ix2 r l) 0)) (r0_12.emb (ix2 r l) 1)) := by
  rw [emb2]
  refine (pay1_apply _ _ r l).trans ?_
  refine (Finset.sum_congr rfl fun k _ => congrArg _ (ld_rest2 w x2 h2 k l)).trans ?_
  exact other_eq h ln1 w R x0 x1 h0 h1 r ⟨1280 + l, by omega⟩

theorem out_rest (h0 : ∀ r l, x0 (ix2 r l) = h (ix2 (R r) l)) (h1 : ∀ l, x1 (ix2 0 l) = ln1 (ix1 l))
    (h2 : ∀ k l, x2 (ix2 k l) = wpad w (ix2 k l)) (y : S512x1920.Idx) :
    (out0_8 (F := Ideal) x0 x1 x2 x3 x4 y : EReal) = others (proj h ln1 w) (ix2 (R (y 0)) (y 1)) := by
  unfold_out out0_8
  simp (disch := decide) only [View.ld_unit_lit']
  refine View.canon_apply_of_pieces (Val := Elt Ideal) (e := .f32) (fun y : S512x1920.Idx => (others (proj h ln1 w) (ix2 (R (y 0)) (y 1)) : EReal)) _ ?_ y (cover0_8 _ _ _ y)
  have hx : ∀ x : S512x640.Idx, ∃ (r : Fin 512) (l : Fin 640), x = ix2 r l := fun x => ⟨x 0, x 1, eq_ix2 x⟩
  simp only [List.forall_mem_cons, List.not_mem_nil, false_implies, implies_true, and_true]
  refine ⟨fun x => ?_, fun x => ?_, fun x => ?_⟩
  · obtain ⟨r, l, rfl⟩ := hx x
    exact piece2 h ln1 w R x0 x1 x2 h0 h1 h2 r l
  · obtain ⟨r, l, rfl⟩ := hx x
    exact piece1 h ln1 w R x0 x1 x2 h0 h1 h2 r l
  · obtain ⟨r, l, rfl⟩ := hx x
    exact piece0 h ln1 w R x0 x1 x2 h0 h1 h2 r l

end body

/-! ## The staged blocks and the result arrays -/

variable (m : (ℓ : Loc nD τ sig) → Buf (Elt Ideal) ℓ)

theorem b0 (c : Dev nD) (t : Fin cfg0.N) (hN : t.val < 32) (r : Fin 512) (l : Fin 1024) :
    (iblk m c 0 t : FVec Ideal S512x1024 .f32) (ix2 r l) = (m ((c : Thread nD τ).loc main_arg0) : FVec Ideal S16384x1024 .f32) (ix2 (⟨t.val * 512 + r.val, by omega⟩ : Fin 16384) l) := by
  blk_point [iblk, V, idx t]

theorem b1 (c : Dev nD) (t : Fin cfg0.N) (l : Fin 1024) :
    (iblk m c 1 t : FVec Ideal S1x1024 .f32) (ix2 0 l) = (m ((c : Thread nD τ).loc main_arg1) : FVec Ideal S1024 .f32) (ix1 l) := by
  blk_point [iblk, V, idx t]

theorem b3 (c : Dev nD) (t : Fin cfg0.N) (l : Fin 512) :
    (iblk m c 3 t : FVec Ideal S1x512 .f32) (ix2 0 l) = (m ((c : Thread nD τ).loc main_arg3) : FVec Ideal S64 .f32) (ix1 ⟨l.val % 64, Nat.mod_lt _ (by norm_num)⟩) := by
  blk_point [iblk, V, idx t]

theorem b4 (c : Dev nD) (t : Fin cfg0.N) (l : Fin 512) :
    (iblk m c 4 t : FVec Ideal S1x512 .f32) (ix2 0 l) = (m ((c : Thread nD τ).loc main_arg4) : FVec Ideal S64 .f32) (ix1 ⟨l.val % 64, Nat.mod_lt _ (by norm_num)⟩) := by
  blk_point [iblk, V, idx t]

theorem b2 (c : Dev nD) (t : Fin cfg0.N) (k : Fin 1024) (l : Fin 3456) :
    (iblk m c 2 t : FVec Ideal S1024x3456 .bf16) (ix2 k l) = wpad (m ((c : Thread nD τ).loc main_arg2)) (ix2 k l) := by
  rw [← V_weight m c]
  blk_ext [iblk, V, idx t]

/-- The kernel's queries are the reference's. -/
theorem final_q (c : Dev nD) : (dats m 0 c).arrAt 5 (cfgs 0).N
    = queries (proj (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]
  obtain ⟨r, l, rfl⟩ : ∃ (r : Fin 512) (l : Fin 512), y = ix2 r l := ⟨y 0, y 1, eq_ix2 y⟩
  have hN : t.val < 32 := t.isLt
  have hemb : ((View.whole main_v25_0).slice (win0_5.rect t)).emb (ix2 r l) = ix2 (⟨t.val * 512 + r.val, by omega⟩ : Fin 16384) l := by
    blk_ext [idx t]
  exact (out_q (m ((c : Thread nD τ).loc main_arg0)) (m ((c : Thread nD τ).loc main_arg1)) (m ((c : Thread nD τ).loc main_arg2)) (m ((c : Thread nD τ).loc main_arg3)) (fun r => ⟨t.val * 512 + r.val, by omega⟩) _ _ _ _ _ (b0 m c t hN) (b1 m c t) (b2 m c t) (b3 m c t) r l).trans (congrArg _ hemb.symm)

/-- The kernel's keys are the reference's. -/
theorem final_k (c : Dev nD) : (dats m 0 c).arrAt 6 (cfgs 0).N
    = keys (proj (m ((c : Thread nD τ).loc main_arg0)) (m ((c : Thread nD τ).loc main_arg1)) (m ((c : Thread nD τ).loc main_arg2))) (m ((c : Thread nD τ).loc main_arg4)) := by
  refine (dats m 0 c).arrAt_eq_of_covers 6 _ (by decide +kernel) fun t _ y => ?_
  blk_simp
  rw [after0_6]
  obtain ⟨r, l, rfl⟩ : ∃ (r : Fin 512) (l : Fin 512), y = ix2 r l := ⟨y 0, y 1, eq_ix2 y⟩
  have hN : t.val < 32 := t.isLt
  have hemb : ((View.whole main_v25_1).slice (win0_6.rect t)).emb (ix2 r l) = ix2 (⟨t.val * 512 + r.val, by omega⟩ : Fin 16384) l := by
    blk_ext [idx t]
  exact (out_k (m ((c : Thread nD τ).loc main_arg0)) (m ((c : Thread nD τ).loc main_arg1)) (m ((c : Thread nD τ).loc main_arg2)) (m ((c : Thread nD τ).loc main_arg4)) (fun r => ⟨t.val * 512 + r.val, by omega⟩) _ _ _ _ _ (b0 m c t hN) (b1 m c t) (b2 m c t) (b4 m c t) r l).trans (congrArg _ hemb.symm)

/-- The kernel's values are the reference's. -/
theorem final_v (c : Dev nD) : (dats m 0 c).arrAt 7 (cfgs 0).N
    = values (proj (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  rw [after0_7]
  obtain ⟨r, l, rfl⟩ : ∃ (r : Fin 512) (l : Fin 512), y = ix2 r l := ⟨y 0, y 1, eq_ix2 y⟩
  have hN : t.val < 32 := t.isLt
  have hemb : ((View.whole main_v25_2).slice (win0_7.rect t)).emb (ix2 r l) = ix2 (⟨t.val * 512 + r.val, by omega⟩ : Fin 16384) l := by
    blk_ext [idx t]
  exact (out_v (m ((c : Thread nD τ).loc main_arg0)) (m ((c : Thread nD τ).loc main_arg1)) (m ((c : Thread nD τ).loc main_arg2)) (fun r => ⟨t.val * 512 + r.val, by omega⟩) _ _ _ _ _ (b0 m c t hN) (b1 m c t) (b2 m c t) r l).trans (congrArg _ hemb.symm)

/-- The kernel's regrouped other projections are the reference's. -/
theorem final_rest (c : Dev nD) : (dats m 0 c).arrAt 8 (cfgs 0).N
    = others (proj (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  rw [after0_8]
  obtain ⟨r, l, rfl⟩ : ∃ (r : Fin 512) (l : Fin 1920), y = ix2 r l := ⟨y 0, y 1, eq_ix2 y⟩
  have hN : t.val < 32 := t.isLt
  have hemb : ((View.whole main_v25_3).slice (win0_8.rect t)).emb (ix2 r l) = ix2 (⟨t.val * 512 + r.val, by omega⟩ : Fin 16384) l := by
    blk_ext [idx t]
  exact (out_rest (m ((c : Thread nD τ).loc main_arg0)) (m ((c : Thread nD τ).loc main_arg1)) (m ((c : Thread nD τ).loc main_arg2)) (fun r => ⟨t.val * 512 + r.val, by omega⟩) _ _ _ _ _ (b0 m c t hN) (b1 m c t) (b2 m c t) (ix2 r l)).trans (congrArg _ hemb.symm)

end Cert.InProj

end
-- ==== Proof.InProjClaim.lean ====
/- The value claim of the input projection. -/
module

public import proofs.«01_k».proof.Defs
public import proofs.«01_k».proof.Proof.InProjFinal
public import Idealize.ShloMosaic.Lib.Claim

@[expose] public section

noncomputable section

namespace Cert.Proof

open Idealize.ShloMosaic Idealize.SL.Sem

/-- The reference's regrouped projections, as a function of its arguments. -/
theorem res_others (m : (ℓ : Loc Cert.Reference3Ideal.nD Cert.Reference3Ideal.τ Cert.Reference3Ideal.sig) → Buf (Elt Ideal) ℓ)
    (c : Dev Cert.Reference3Ideal.nD) :
    Cert.Reference3Ideal.Value.res_main_v60 m c = Cert.InProj.others (Cert.InProj.proj
      (m ((c.tc : Thread Cert.Reference3Ideal.nD Cert.Reference3Ideal.τ).loc Cert.Reference3Ideal.main_arg0))
      (m ((c.tc : Thread Cert.Reference3Ideal.nD Cert.Reference3Ideal.τ).loc Cert.Reference3Ideal.main_arg1))
      (m ((c.tc : Thread Cert.Reference3Ideal.nD Cert.Reference3Ideal.τ).loc Cert.Reference3Ideal.main_arg2))) := by
  unfold Cert.Reference3Ideal.Value.res_main_v60; rfl

set_option maxHeartbeats 4000000 in
/-- The tiled kernel and the plain reference compute the same queries, keys, values and other projections over the
    extended reals, whatever the arguments. -/
theorem algebraic_in_proj : Cert.algebraic_Kernel3Ideal_Reference3Ideal := by
  pair_intro
  · run_from Cert.Kernel3Ideal.Gen.run_main m g
  · run_from Cert.Reference3Ideal.Value.run m' g'
    · rw [Cert.InProj.final_q]; rfl
    · rw [Cert.InProj.final_k]; rfl
    · rw [Cert.InProj.final_v]; rfl
    · obtain ⟨e0, e1, e2, e3, e4⟩ := hagree c
      rw [res_others, Cert.InProj.final_rest, e0, e1, e2]

end Cert.Proof

end
-- ==== Proof.GlaPay.lean ====
/- Gated linear attention: what one chunk of the kernel's body computes of the gates and of the state, entry by entry. -/
module

public import proofs.«01_k».proof.Proof.Gen.Kernel4Ideal.Skeleton
public import proofs.«01_k».proof.Proof.SbReal

@[expose] public section

set_option maxRecDepth 16384

noncomputable section

open Idealize.ShloMosaic Idealize.ShloMosaic.TcCoe Idealize.SL.Sem

namespace Cert.Gla

open Cert.Kernel4Ideal Cert.Kernel4Ideal.Gen

/-- A real number less itself is nothing. -/
theorem sub_self_coe (x : ℝ) : ((x : ℝ) : EReal) - ((x : ℝ) : EReal) = 0 := by rw [← EReal.coe_sub, sub_self, EReal.coe_zero]

theorem coe_sum_fin {n : ℕ} (f : Fin n → ℝ) : ((∑ i, f i : ℝ) : EReal) = ∑ i, ((f i : ℝ) : EReal) := by
  induction (Finset.univ : Finset (Fin n)) using Finset.cons_induction with
  | empty => simp
  | cons a S ha ih => rw [Finset.sum_cons, Finset.sum_cons, EReal.coe_add, ih]

/-- A product of a row of `s` by a column of `w` taken in two parts is the product, the column being real and the row
    being real wherever the column is not zero. -/
theorem parts {n : ℕ} (s wc : Fin n → EReal) (s' w : Fin n → ℝ) (hw : ∀ j, wc j = ((w j : ℝ) : EReal)) (h : ∀ j, w j = 0 ∨ s j = ((s' j : ℝ) : EReal)) :
    (∑ j, s j * wc j) + ((∑ j, (s j - s j) * wc j) + ∑ j, s j * (wc j - wc j)) = ((∑ j, s' j * w j : ℝ) : EReal) := by
  have h1 : ∀ j, s j * wc j = ((s' j * w j : ℝ) : EReal) := fun j => by
    rw [hw j]
    rcases h j with h0 | h0
    · rw [h0, EReal.coe_zero, mul_zero, mul_zero, EReal.coe_zero]
    · rw [h0, EReal.coe_mul]
  have h2 : ∀ j, (s j - s j) * wc j = 0 := fun j => by
    rw [hw j]
    rcases h j with h0 | h0
    · rw [h0, EReal.coe_zero, mul_zero]
    · rw [h0, sub_self_coe, zero_mul]
  have h3 : ∀ j, s j * (wc j - wc j) = 0 := fun j => by rw [hw j, sub_self_coe, mul_zero]
  rw [Finset.sum_congr rfl fun j _ => h1 j, Finset.sum_congr rfl fun j _ => h2 j, Finset.sum_congr rfl fun j _ => h3 j, Finset.sum_const_zero,
    add_zero, add_zero, coe_sum_fin]

/-- The logarithm of a gate, on real numbers. -/
def gate (x : ℝ) : ℝ := Sb.sig x / 16

/-- The kernel's form of it. -/
theorem gate_coe (x : ℝ) :
    (0 - (max (0 - (x : EReal)) 0 + Ideal.log1p (Ideal.exp (0 - FloatOps.absf (F := Ideal) (φ := .f32) (0 - (x : EReal)))))) * Ideal.ofBits .f32 1031798784#32
      = ((gate x : ℝ) : EReal) := by
  have h := Sb.ls_coe x
  unfold SbRef.ls at h
  simp only [zero_sub]
  rw [h, show Ideal.ofBits .f32 1031798784#32 = (((1 : ℝ) / 16 : ℝ) : EReal) from by simp [Ideal.ofBits, Ideal.ieee, -EReal.coe_mul]; norm_num, ← EReal.coe_mul]
  unfold gate
  congr 1
  ring

/-- The kernel's mark of the rows up to a row. -/
theorem upto (r x : Fin 64) : FloatOps.sitofp (F := Ideal) .f32 (BitVec.setWidth 32 (IntOp.cmpi .sge (BitVec.ofNat 32 r.val) (BitVec.ofNat 32 x.val)))
    = (((if x.val ≤ r.val then 1 else 0 : ℝ)) : EReal) := by
  have h : IntOp.cmpi .sge (BitVec.ofNat 32 r.val) (BitVec.ofNat 32 x.val) = if x.val ≤ r.val then 1#1 else 0#1 := by
    revert r x; decide +kernel
  rw [h]
  split_ifs
  · show ((((BitVec.setWidth 32 1#1).toInt : ℝ)) : EReal) = _
    norm_num
  · show ((((BitVec.setWidth 32 0#1).toInt : ℝ)) : EReal) = _
    norm_num

section

variable (v11 : Vec Ideal S1x64x128 .f32) (v15 : Vec Ideal S128x128 .f32) (v17 : Vec Ideal S1x128 .f32)
  (s : Fin 64 → Fin 128 → ℝ) (w : Fin 128 → Fin 128 → ℝ) (a : Fin 128 → ℝ)

/-- The argument of a row's gate. -/
def arg (r : Fin 64) (d : Fin 128) : ℝ := (∑ j, s r j * w j d) + a d

/-- The running sums of a chunk's gates. -/
def run (r : Fin 64) (d : Fin 128) : ℝ := ∑ x : Fin 64, if x.val ≤ r.val then gate (arg s w a x d) else 0

theorem row (r : Fin 64) (j : Fin 128) : ((k0_pay13 (F := Ideal) v11) (ix2 r j) : EReal) = v11 (ix3 0 r j) := by
  pointwise [k0_pay13, k0_pay6]

theorem rest (r : Fin 64) (j : Fin 128) : ((k0_pay14 (F := Ideal) v11) (ix2 r j) : EReal) = v11 (ix3 0 r j) - v11 (ix3 0 r j) := by
  pointwise [k0_pay14, k0_pay13, k0_pay6]

variable (hw : ∀ j d, (v15 (ix2 j d) : EReal) = ((w j d : ℝ) : EReal)) (ha : ∀ d, (v17 (ix2 0 d) : EReal) = ((a d : ℝ) : EReal))
  (hs : ∀ r j, (∀ d, w j d = 0) ∨ (v11 (ix3 0 r j) : EReal) = ((s r j : ℝ) : EReal))

include hw ha hs

/-- The running sums as the kernel computes them. -/
theorem run_coe (r : Fin 64) (d : Fin 128) :
    ((k0_pay16 (F := Ideal) (k0_pay8 v15) (k0_pay9 v17) (k0_pay13 v11) (k0_pay14 v11)) (ix2 r d) : EReal) = ((run s w a r d : ℝ) : EReal) := by
  have hp : ∀ x : Fin 64, (∑ j, v11 (ix3 0 x j) * v15 (ix2 j d) + (∑ j, (v11 (ix3 0 x j) - v11 (ix3 0 x j)) * v15 (ix2 j d)
      + ∑ j, v11 (ix3 0 x j) * (v15 (ix2 j d) - v15 (ix2 j d))) + v17 (ix2 0 d) : EReal) = ((arg s w a x d : ℝ) : EReal) := fun x => by
    rw [parts (fun j => v11 (ix3 0 x j)) (fun j => v15 (ix2 j d)) (s x) (fun j => w j d) (fun j => hw j d) (fun j => (hs x j).imp (fun h => h d) id), ha d,
      ← EReal.coe_add]
    rfl
  have hg : ∀ x : Fin 64, ((if x.val ≤ r.val then 1 else 0 : ℝ) : EReal) * ((gate (arg s w a x d) : ℝ) : EReal)
      = (((if x.val ≤ r.val then gate (arg s w a x d) else 0 : ℝ)) : EReal) := fun x => by
    rw [← EReal.coe_mul, ite_mul, one_mul, zero_mul]
  pointwise [k0_pay16, k0_pay15, k0_pay8, k0_pay9, k0_pay13, k0_pay14, k0_pay6]
  simp only [hp, gate_coe, upto, sub_self_coe, mul_zero, hg, Finset.sum_const_zero, add_zero]
  rw [← coe_sum_fin]
  rfl

end

/-- A lane's head among the values. -/
theorem headV (e : Fin 256) (d : Fin 128) : k0_pay34 (ix2 e d) = BitVec.ofNat 32 (e.val / 64) := by
  pointwise [k0_pay34]
  revert e; decide +kernel

/-- A lane's head among the keys. -/
theorem headK (e : Fin 256) (d : Fin 128) :
    Scalar.select (k0_pay36 (ix2 e d)) (IntOp.subi (k0_pay35 (ix2 e d)) 1#32) (k0_pay35 (ix2 e d)) = BitVec.ofNat 32 (d.val / 32) := by
  pointwise [k0_pay35, k0_pay36]
  revert d; decide +kernel

/-- The heads of a value's lane and of a key's lane are the same. -/
theorem own (p q : ℕ) (hp : p < 4) (hq : q < 4) : IntOp.cmpi .eq (BitVec.ofNat 32 p) (BitVec.ofNat 32 q) = if p = q then 1#1 else 0#1 := by
  interval_cases p <;> interval_cases q <;> decide

/-- The state after a chunk: the state before it decayed by the chunk's gates, and the chunk's keys by its values, each
    decayed by the gates after it. -/
def next (st : Fin 256 → Fin 128 → EReal) (B : Fin 64 → Fin 128 → EReal) (k : Fin 64 → Fin 128 → EReal) (v : Fin 64 → Fin 256 → EReal) (e : Fin 256) (d : Fin 128) : EReal :=
  st e d * Ideal.exp (B 63 d) + if e.val / 64 = d.val / 32 then ∑ x, v x e * (k x d * Ideal.exp (B 63 d - B x d)) else 0

/-- The kernel's new state. -/
theorem state (v13 : Vec Ideal S1x256x128 .f32) (v5 : Vec Ideal S1x64x128 .f32) (v7 : Vec Ideal S1x64x256 .f32) (v16 : FVec Ideal S128x128 .f32) (v18 : FVec Ideal S1x128 .f32)
    (v25 : FVec Ideal S64x128 .bf16) (v27 : FVec Ideal S64x128 .f32) (e : Fin 256) (d : Fin 128) :
    ((k0_pay39 (F := Ideal) (k0_pay7 v13) (k0_pay17 v16 v18 v25 v27) (k0_pay23 (k0_pay3 v5) (k0_pay16 v16 v18 v25 v27) (k0_pay17 v16 v18 v25 v27)) (k0_pay24 (k0_pay4 v7))
        k0_pay34 k0_pay35 k0_pay36) (ix3 0 e d) : EReal)
      = next (fun e d => v13 (ix3 0 e d)) (fun r d => (k0_pay16 v16 v18 v25 v27) (ix2 r d)) (fun r d => v5 (ix3 0 r d)) (fun r e => v7 (ix3 0 r e)) e d := by
  generalize hb : (k0_pay16 v16 v18 v25 v27) = b
  have hl : ∀ d, (k0_pay17 v16 v18 v25 v27) (ix2 0 d) = b (ix2 63 d) := fun d => by
    rw [← hb]
    pointwise [k0_pay17]
  have hK := headK e d
  have hV := headV e d
  generalize k0_pay34 = p34 at *
  generalize k0_pay35 = p35 at *
  generalize k0_pay36 = p36 at *
  generalize (k0_pay17 v16 v18 v25 v27) = v67 at *
  pointwise [k0_pay39, k0_pay37, k0_pay23, k0_pay24, k0_pay3, k0_pay4, k0_pay7]
  rw [hK, hV, own _ _ (by omega) (by omega)]
  unfold next
  simp only [hl]
  split_ifs <;> rfl

end Cert.Gla

end
-- ==== Proof.GlaMath.lean ====
/- Gated linear attention: the states after one chunk after another are the sums over all the keys so far, each decayed
   by the gates after it. -/
module

public import proofs.«01_k».proof.Proof.GlaPay

@[expose] public section

noncomputable section

open Idealize.ShloMosaic Idealize.ShloMosaic.TcCoe Idealize.SL.Sem

namespace Cert.Gla

/-- The sum of the gates before a position. -/
def total (L : ℕ → ℝ) (n : ℕ) : ℝ := ∑ i ∈ Finset.range n, L i

/-- The sum over the keys before `N`, each by its value and decayed by the gates after it. -/
def decayed (L : ℕ → ℝ) (V K : ℕ → EReal) (N : ℕ) : EReal := ∑ t ∈ Finset.range N, V t * (K t * ((Real.exp (total L N - total L (t + 1)) : ℝ) : EReal))

theorem total_add (L : ℕ → ℝ) (n k : ℕ) : total L (n + k) = total L n + ∑ i ∈ Finset.range k, L (n + i) := by
  induction k with
  | zero => simp [total]
  | succ k ih =>
    unfold total at *
    rw [← Nat.add_assoc, Finset.sum_range_succ, ih, Finset.sum_range_succ, add_assoc]

/-- A chunk's running sum. -/
theorem run_total (L : ℕ → ℝ) (n : ℕ) (r : Fin 64) :
    (∑ x : Fin 64, if x.val ≤ r.val then L (n + x.val) else 0) = total L (n + (r.val + 1)) - total L n := by
  rw [total_add, add_sub_cancel_left, Fin.sum_univ_eq_sum_range (fun x => if x ≤ r.val then L (n + x) else 0) 64, ← Finset.sum_filter]
  refine Finset.sum_congr (Finset.ext fun x => ?_) fun _ _ => rfl
  simp only [Finset.mem_filter, Finset.mem_range]
  omega

/-- A sum of extended reals by a nonnegative real, term by term. -/
theorem sum_mul_coe (N : ℕ) (f : ℕ → EReal) (c : ℝ) (hc : 0 ≤ c) : (∑ t ∈ Finset.range N, f t) * ((c : ℝ) : EReal) = ∑ t ∈ Finset.range N, f t * ((c : ℝ) : EReal) := by
  induction N with
  | zero => simp
  | succ N ih =>
    rw [Finset.sum_range_succ, Finset.sum_range_succ, EReal.right_distrib_of_nonneg_of_ne_top (EReal.coe_nonneg.2 hc) (EReal.coe_ne_top c), ih]

/-- One chunk on. -/
theorem decayed_step (L : ℕ → ℝ) (V K : ℕ → EReal) (n : ℕ) (B : Fin 64 → ℝ) (hB : ∀ r, B r = total L (n + (r.val + 1)) - total L n) :
    decayed L V K n * Ideal.exp ((B 63 : ℝ) : EReal) + ∑ x : Fin 64, V (n + x.val) * (K (n + x.val) * Ideal.exp (((B 63 : ℝ) : EReal) - ((B x : ℝ) : EReal)))
      = decayed L V K (n + 64) := by
  have h63 : B 63 = total L (n + 64) - total L n := hB 63
  have h2 : ∀ x : Fin 64, V (n + x.val) * (K (n + x.val) * Ideal.exp (((B 63 : ℝ) : EReal) - ((B x : ℝ) : EReal)))
      = (fun x : ℕ => V (n + x) * (K (n + x) * ((Real.exp (total L (n + 64) - total L (n + x + 1)) : ℝ) : EReal))) x.val := fun x => by
    show _ = V (n + x.val) * (K (n + x.val) * ((Real.exp (total L (n + 64) - total L (n + x.val + 1)) : ℝ) : EReal))
    rw [← EReal.coe_sub, Ideal.exp_coe, h63, hB x]
    congr 4
    rw [Nat.add_assoc]
    ring
  rw [Finset.sum_congr rfl fun x _ => h2 x, Fin.sum_univ_eq_sum_range (fun x : ℕ => V (n + x) * (K (n + x) * ((Real.exp (total L (n + 64) - total L (n + x + 1)) : ℝ) : EReal))) 64]
  unfold decayed
  rw [Ideal.exp_coe, sum_mul_coe n _ _ (Real.exp_pos _).le, Finset.sum_range_add]
  congr 1
  refine Finset.sum_congr rfl fun t _ => ?_
  rw [mul_assoc, mul_assoc, ← EReal.coe_mul, ← Real.exp_add, h63]
  congr 4
  ring

/-- A state: the decayed sum where the value's head is the key's, nothing elsewhere. -/
def stateAt (L : Fin 128 → ℕ → ℝ) (V : Fin 256 → ℕ → EReal) (K : Fin 128 → ℕ → EReal) (N : ℕ) (e : Fin 256) (d : Fin 128) : EReal :=
  if e.val / 64 = d.val / 32 then decayed (L d) (V e) (K d) N else 0

theorem stateAt_zero (L : Fin 128 → ℕ → ℝ) (V : Fin 256 → ℕ → EReal) (K : Fin 128 → ℕ → EReal) (e : Fin 256) (d : Fin 128) : stateAt L V K 0 e d = 0 := by
  unfold stateAt decayed
  simp

/-- The kernel's step takes the state after `n` positions to the state after `n + 64`. -/
theorem next_stateAt (L : Fin 128 → ℕ → ℝ) (V : Fin 256 → ℕ → EReal) (K : Fin 128 → ℕ → EReal) (n : ℕ) (s : Fin 64 → Fin 128 → ℝ) (w : Fin 128 → Fin 128 → ℝ) (a : Fin 128 → ℝ)
    (hL : ∀ (x : Fin 64) (d : Fin 128), L d (n + x.val) = gate (arg s w a x d)) (k : Fin 64 → Fin 128 → EReal) (v : Fin 64 → Fin 256 → EReal)
    (hk : ∀ x d, k x d = K d (n + x.val)) (hv : ∀ x e, v x e = V e (n + x.val)) (st : Fin 256 → Fin 128 → EReal) (hst : ∀ e d, st e d = stateAt L V K n e d) (e : Fin 256) (d : Fin 128) :
    next st (fun r d => ((run s w a r d : ℝ) : EReal)) k v e d = stateAt L V K (n + 64) e d := by
  have hB : ∀ r, run s w a r d = total (L d) (n + (r.val + 1)) - total (L d) n := fun r => by
    rw [← run_total]
    unfold run
    exact Finset.sum_congr rfl fun x _ => by rw [hL]
  unfold next
  rw [hst]
  unfold stateAt
  split_ifs
  · simp only [hk, hv]
    exact decayed_step (L d) (V e) (K d) n (fun r => run s w a r d) hB
  · rw [zero_mul, add_zero]

end Cert.Gla

end
-- ==== Proof.GlaRef.lean ====
/- Gated linear attention: the plain reference's state, stage by stage, as functions of the argument arrays over the
   extended reals. -/
module

public import proofs.«01_k».proof.Proof.GlaMath
public import proofs.«01_k».proof.Proof.Gen.Reference4Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.GlaRef

open Cert.Reference4Ideal Cert.Reference4Ideal.Gen

/-- The arguments of the gates. -/
def args (x : FVec Ideal S4x4096x1920 .f32) (u : FVec Ideal S16x128 .f32) (b : FVec Ideal S128 .f32) : FVec Ideal S4x4096x128 .f32 :=
  addf (Host.dotGeneral dot_S4x4096x16_S16x128_S4x4096x128_2_0_01_1_n_n none (extractStridedSlice S4x4096x16 ![0, 0, 1792] x slices_S4x4096x1920_S4x4096x16_0_0_1792) u) (broadcastInDim S4x4096x128 ![0, 1, 2] bcast_S1x1x128_S4x4096x128_0_1_2 (broadcastInDim S1x1x128 ![2] bcast_S128_S1x1x128_2 b))

/-- Every entry zero. -/
def zeros : FVec Ideal S4x4096x128 .f32 := broadcastInDim S4x4096x128 ![] bcast_S_S4x4096x128 (constant S_ .f32 0x00000000#32)

/-- The gates' logarithms. -/
def gates (z : FVec Ideal S4x4096x128 .f32) : FVec Ideal S4x4096x128 .f32 :=
  Host.divf (Host.negf (select (cmpf .une (subf (Host.negf z) zeros) (subf (Host.negf z) zeros)) (addf (Host.negf z) zeros) (addf (maximumf (Host.negf z) zeros) (Host.log1p (Host.exp (Host.negf (Host.absf (subf (Host.negf z) zeros)))))))) (broadcastInDim S4x4096x128 ![] bcast_S_S4x4096x128 (constant S_ .f32 0x41800000#32))

/-- The sums of the gates' logarithms up to each position. -/
def sums (y : FVec Ideal S4x4096x128 .f32) : FVec Ideal S4x4096x128 .f32 :=
  Host.reduceWindowAdd ![1, 4096, 1] ![1, 1, 1] ![0, 4095, 0] ![0, 0, 0] y (broadcastInDim S_ ![] bcast_S_S_ (constant S_ .f32 0x00000000#32)) reduceWindows_S4x4096x128_S4x4096x128_w1s1p0_0_w4096s1p4095_0_w1s1p0_0 h_S_

/-- The heads of the values' lanes. -/
def headsV : IVec S256x128 32 := broadcastInDim S256x128 ![0, 1] bcast_S256x1_S256x128_0_1 (select (andi (cmpi .ne (signi (broadcastInDim S256x1 ![0] bcast_S256_S256x1_0 (iotaInDim S256 32 0))) (broadcastInDim S256x1 ![] bcast_S_S256x1 (signi (id (constantI S_ 32 64#32))))) (cmpi .ne (Host.remsi (broadcastInDim S256x1 ![0] bcast_S256_S256x1_0 (iotaInDim S256 32 0)) (broadcastInDim S256x1 ![] bcast_S_S256x1 (id (constantI S_ 32 64#32)))) (broadcastInDim S256x1 ![] bcast_S_S256x1 (constantI S_ 32 0#32)))) (subi (Host.divsi (broadcastInDim S256x1 ![0] bcast_S256_S256x1_0 (iotaInDim S256 32 0)) (broadcastInDim S256x1 ![] bcast_S_S256x1 (id (constantI S_ 32 64#32)))) (broadcastInDim S256x1 ![] bcast_S_S256x1 (constantI S_ 32 1#32))) (Host.divsi (broadcastInDim S256x1 ![0] bcast_S256_S256x1_0 (iotaInDim S256 32 0)) (broadcastInDim S256x1 ![] bcast_S_S256x1 (id (constantI S_ 32 64#32)))))

/-- The heads of the keys' lanes. -/
def headsK : IVec S256x128 32 := broadcastInDim S256x128 ![0, 1] bcast_S1x128_S256x128_0_1 (select (andi (cmpi .ne (signi (broadcastInDim S1x128 ![1] bcast_S128_S1x128_1 (iotaInDim S128 32 0))) (broadcastInDim S1x128 ![] bcast_S_S1x128 (signi (id (constantI S_ 32 32#32))))) (cmpi .ne (Host.remsi (broadcastInDim S1x128 ![1] bcast_S128_S1x128_1 (iotaInDim S128 32 0)) (broadcastInDim S1x128 ![] bcast_S_S1x128 (id (constantI S_ 32 32#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 32#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 32#32)))))

/-- Which entries of a state belong to a head. -/
def own : IVec S4x256x128 1 := broadcastInDim S4x256x128 ![0, 1, 2] bcast_S1x256x128_S4x256x128_0_1_2 (broadcastInDim S1x256x128 ![1, 2] bcast_S256x128_S1x256x128_1_2 (cmpi .eq headsV headsK))

/-- The state. -/
def result (x : FVec Ideal S4x4096x1920 .f32) (y : FVec Ideal S4x4096x128 .f32) : FVec Ideal S4x256x128 .f32 :=
  select own (Host.dotGeneral dot_S4x4096x256_S4x4096x128_S4x256x128_1_1_2_2_0_0 none (extractStridedSlice S4x4096x256 ![0, 0, 768] x slices_S4x4096x1920_S4x4096x256_0_0_768) (mulf (extractStridedSlice S4x4096x128 ![0, 0, 1664] x slices_S4x4096x1920_S4x4096x128_0_0_1664) (Host.exp (subf (broadcastInDim S4x4096x128 ![0, 1, 2] bcast_S4x1x128_S4x4096x128_0_1_2 (extractStridedSlice S4x1x128 ![0, 4095, 0] (sums y) slices_S4x4096x128_S4x1x128_0_4095_0)) (sums y))))) (broadcastInDim S4x256x128 ![] bcast_S_S4x256x128 (id (constant S_ .f32 0x00000000#32)))

/-- The reference's result array is `result` of its arguments. -/
theorem res_eq (m : (ℓ : Loc nD τ sig) → Buf (Elt Ideal) ℓ) (c : Dev nD) :
    Cert.Reference4Ideal.Value.res_main_v27 m c = result (m ((c.tc : Thread nD τ).loc main_arg0)) (gates (args (m ((c.tc : Thread nD τ).loc main_arg0))
      (m ((c.tc : Thread nD τ).loc main_arg1)) (m ((c.tc : Thread nD τ).loc main_arg2)))) := by
  unfold Cert.Reference4Ideal.Value.res_main_v27; rfl

/-- The gates' arguments, entry by entry. -/
theorem args_apply (x : FVec Ideal S4x4096x1920 .f32) (u : FVec Ideal S16x128 .f32) (b : FVec Ideal S128 .f32) (g : Fin 4) (t : Fin 4096) (d : Fin 128) :
    (args x u b (ix3 g t d) : EReal) = (∑ j : Fin 16, (x (ix3 g t (⟨1792 + j.val, by omega⟩ : Fin 1920)) : EReal) * u (ix2 j d)) + b (ix1 d) := by
  pointwise [args]

/-- A gate's logarithm at a real argument. -/
theorem gates_apply (z : FVec Ideal S4x4096x128 .f32) (g : Fin 4) (t : Fin 4096) (d : Fin 128) (r : ℝ) (h : (z (ix3 g t d) : EReal) = ((r : ℝ) : EReal)) :
    (gates z (ix3 g t d) : EReal) = ((Gla.gate r : ℝ) : EReal) := by
  have h16 : Ideal.ofBits .f32 0x41800000#32 = ((16 : ℝ) : EReal) := by simp [Ideal.ofBits, Ideal.ieee, -EReal.coe_mul]; norm_num
  have hl := Sb.ls_coe r
  unfold SbRef.ls at hl
  pointwise [gates, zeros]
  rw [h, h16]
  simp [hl]
  rw [Ideal.div_coe (by norm_num), ← EReal.coe_mul, Gla.gate]
  congr 1
  ring

/-- A value's lane is in the head of its 64 lanes. -/
theorem headsV_apply (e : Fin 256) (d : Fin 128) : headsV (ix2 e d) = BitVec.ofNat 32 (e.val / 64) := by
  pointwise [headsV]
  revert e; decide +kernel

/-- A key's lane is in the head of its 32 lanes. -/
theorem headsK_apply (e : Fin 256) (d : Fin 128) : headsK (ix2 e d) = BitVec.ofNat 32 (d.val / 32) := by
  pointwise [headsK]
  revert d; decide +kernel

/-- An entry of a state belongs to a head where both lanes' heads are the same. -/
theorem own_apply (g : Fin 4) (e : Fin 256) (d : Fin 128) : own (ix3 g e d) = if e.val / 64 = d.val / 32 then 1#1 else 0#1 := by
  have hv := headsV_apply e d
  have hk := headsK_apply e d
  generalize headsV = p at *
  generalize headsK = q at *
  have h : own (ix3 g e d) = IntOp.cmpi .eq (headsV (ix2 e d)) (headsK (ix2 e d)) := by pointwise [own]
  rw [h, headsV_apply, headsK_apply, Gla.own _ _ (by omega) (by omega)]

/-- The state, entry by entry. -/
theorem result_apply (x : FVec Ideal S4x4096x1920 .f32) (y : FVec Ideal S4x4096x128 .f32) (g : Fin 4) (e : Fin 256) (d : Fin 128) :
    (result x y (ix3 g e d) : EReal) = if e.val / 64 = d.val / 32 then ∑ t : Fin 4096, (x (ix3 g t (⟨768 + e.val, by omega⟩ : Fin 1920)) : EReal)
      * (x (ix3 g t (⟨1664 + d.val, by omega⟩ : Fin 1920)) * Ideal.exp (sums y (ix3 g (4095 : Fin 4096) d) - sums y (ix3 g t d))) else 0 := by
  have ho := own_apply g e d
  generalize hs : sums y = s
  unfold result
  rw [hs]
  generalize own = o at *
  pointwise []
  rw [ho]
  have h0 : (constant (F := Ideal) S_ .f32 0x00000000#32 ix0 : EReal) = 0 := by simp [constant, Ideal.ofBits, Ideal.ieee]
  split_ifs
  · simp [Scalar.select]
  · simpa [Scalar.select] using h0

/-- A column's terms by number. -/
def column (y : FVec Ideal S4x4096x128 .f32) (g : Fin 4) (d : Fin 128) (i : ℕ) : EReal := if hi : i < 4096 then y (ix3 g ⟨i, hi⟩ d) else 0

/-- A window's positions are counted along its middle axis. -/
theorem position (p : (⟨3, ![1, 4096, 1]⟩ : Shape).Idx) : (p 1).val = ((⟨3, ![1, 4096, 1]⟩ : Shape).rowMajor p).val := by
  rw [Shape.rowMajor_val_three]
  have h0 : (p 0).val < 1 := (p 0).isLt
  have h2 : (p 2).val < 1 := (p 2).isLt
  simp only [Matrix.cons_val]
  omega

/-- Only the last `t + 1` places of a window meet the column. -/
theorem tail_sum (t : Fin 4096) (f : ℕ → EReal) :
    (∑ n ∈ Finset.range ((4095 - t.val) + (t.val + 1)), if 4095 ≤ t.val + n then f (t.val + n - 4095) else 0) = ∑ i ∈ Finset.range (t.val + 1), f i := by
  have ht := t.isLt
  rw [Finset.sum_range_add]
  have h0 : (∑ n ∈ Finset.range (4095 - t.val), if 4095 ≤ t.val + n then f (t.val + n - 4095) else 0) = 0 :=
    Finset.sum_eq_zero fun i hi => if_neg (by have := Finset.mem_range.1 hi; omega)
  rw [h0, zero_add]
  refine Finset.sum_congr rfl fun i hi => ?_
  rw [if_pos (by omega), show t.val + (4095 - t.val + i) - 4095 = i by omega]

/-- The sums up to a position, entry by entry. -/
theorem sums_apply (y : FVec Ideal S4x4096x128 .f32) (g : Fin 4) (t : Fin 4096) (d : Fin 128) :
    (sums y (ix3 g t d) : EReal) = ∑ i ∈ Finset.range (t.val + 1), column y g d i := by
  have hz : (broadcastInDim S_ ![] bcast_S_S_ (constant (F := Ideal) S_ .f32 0x00000000#32) (Shape.Idx.first h_S_) : EReal) = 0 := by
    pointwise []
  have hterm : ∀ n : Fin (⟨3, ![1, 4096, 1]⟩ : Shape).numel,
      (if hin : ∀ a : Fin 3, (![0, 4095, 0] : Fin 3 → ℕ) a ≤ ((ix3 g t d : S4x4096x128.Idx) a).val * (![1, 1, 1] : Fin 3 → ℕ) a + ((⟨3, ![1, 4096, 1]⟩ : Shape).rowMajor.symm n a).val
          ∧ ((ix3 g t d : S4x4096x128.Idx) a).val * (![1, 1, 1] : Fin 3 → ℕ) a + ((⟨3, ![1, 4096, 1]⟩ : Shape).rowMajor.symm n a).val - (![0, 4095, 0] : Fin 3 → ℕ) a < S4x4096x128.size a
        then (y (fun a => ⟨((ix3 g t d : S4x4096x128.Idx) a).val * (![1, 1, 1] : Fin 3 → ℕ) a + ((⟨3, ![1, 4096, 1]⟩ : Shape).rowMajor.symm n a).val - (![0, 4095, 0] : Fin 3 → ℕ) a, (hin a).2⟩) : EReal)
        else 0) = if 4095 ≤ t.val + n.val then column y g d (t.val + n.val - 4095) else 0 := by
    intro n
    obtain ⟨p, rfl⟩ := (⟨3, ![1, 4096, 1]⟩ : Shape).rowMajor.surjective n
    rw [← position p]
    simp only [Equiv.symm_apply_apply]
    have h0 : (p 0).val < 1 := (p 0).isLt
    have h1 : (p 1).val < 4096 := (p 1).isLt
    have h2 : (p 2).val < 1 := (p 2).isLt
    unfold column
    by_cases hj : 4095 ≤ t.val + (p 1).val
    · rw [if_pos hj, dif_pos (show t.val + (p 1).val - 4095 < 4096 by omega), dif_pos]
      · congr 1
        funext a
        apply Fin.ext
        fin_cases a <;> simp [ix3] <;> omega
      · intro a
        fin_cases a <;> simp [ix3, S4x4096x128] <;> omega
    · rw [if_neg hj, dif_neg]
      intro hin
      have := (hin 1).1
      simp [ix3] at this
      omega
  have hsum : (∑ n : Fin (⟨3, ![1, 4096, 1]⟩ : Shape).numel, if 4095 ≤ t.val + n.val then column y g d (t.val + n.val - 4095) else 0) = ∑ i ∈ Finset.range (t.val + 1), column y g d i := by
    have hn : (⟨3, ![1, 4096, 1]⟩ : Shape).numel = (4095 - t.val) + (t.val + 1) := by
      have h : (⟨3, ![1, 4096, 1]⟩ : Shape).numel = 4096 := by decide
      omega
    rw [Fin.sum_univ_eq_sum_range (fun n => if 4095 ≤ t.val + n then column y g d (t.val + n - 4095) else 0), hn]
    exact tail_sum t _
  have hw := SbRef.windowed ![1, 4096, 1] ![1, 1, 1] ![0, 4095, 0] ![0, 0, 0] y (broadcastInDim S_ ![] bcast_S_S_ (constant S_ .f32 0x00000000#32))
      reduceWindows_S4x4096x128_S4x4096x128_w1s1p0_0_w4096s1p4095_0_w1s1p0_0 h_S_ (ix3 g t d)
  rw [hz, zero_add] at hw
  unfold sums
  rw [hw, ← hsum]
  exact Finset.sum_congr rfl fun n _ => hterm n

end Cert.GlaRef

end
-- ==== Proof.GlaRun.lean ====
/- Gated linear attention: the state's array after one point of the kernel's grid, entry by entry. -/
module

public import proofs.«01_k».proof.Proof.Gen.Kernel4Ideal.Value
public import proofs.«01_k».proof.Proof.GlaPay
public import Idealize.ShloMosaic.Lib.Pipeline.ValueKit

@[expose] public section

set_option maxRecDepth 16384

noncomputable section

open Idealize.ShloMosaic Idealize.ShloMosaic.TcCoe Idealize.SL.Sem

namespace Cert.Gla

open Cert.Kernel4Ideal Cert.Kernel4Ideal.Gen

/-- A store of one sequence's plane over an array: the plane's entries are the stored ones, the others stay. -/
theorem plane (o : ℕ) (sz : Fin 3 → ℕ) (hsz : sz = ![1, 256, 128]) (inb : ∀ a, (![o, 0, 0] : Fin 3 → ℕ) a + (![1, 256, 128] : Fin 3 → ℕ) a ≤ S4x256x128.size a)
    (w : FVec Ideal (Rect.unit (s := S4x256x128) ![o, 0, 0] ![1, 256, 128] inb).shape .f32) (L : List (View.Piece (Elt Ideal) S4x256x128 .f32))
    (g : Fin 4) (e : Fin 256) (d : Fin 128) :
    View.canon (⟨Rect.unit ![o, 0, 0] ![1, 256, 128] inb, w⟩ :: L) (ix3 g e d) = if g.val = o then w (ix3 (0 : Fin 1) e d) else View.canon L (ix3 g e d) := by
  split
  · rename_i hr
    have e' : (Rect.unit (s := S4x256x128) ![o, 0, 0] ![1, 256, 128] inb).emb (ix3 (0 : Fin 1) e d) = ix3 g e d :=
      funext fun a => Fin.ext (by
        fin_cases a
        · show o + 1 * 0 = g.val; omega
        · show 0 + 1 * e.val = e.val; omega
        · show 0 + 1 * d.val = d.val; omega)
    rw [← e']
    exact View.canon_cons_emb _ w L _
  · rename_i hr
    refine View.canon_cons_of_not_mem _ L fun hm => hr ?_
    rw [Rect.mem_set_unit] at hm
    have h0 : o ≤ g.val ∧ g.val < o + 1 := hm 0
    omega

/-- The four planes stored one after another. -/
theorem planes (i3 : ∀ a, (![3, 0, 0] : Fin 3 → ℕ) a + (![1, 256, 128] : Fin 3 → ℕ) a ≤ S4x256x128.size a) (i2 : ∀ a, (![2, 0, 0] : Fin 3 → ℕ) a + (![1, 256, 128] : Fin 3 → ℕ) a ≤ S4x256x128.size a)
    (i1 : ∀ a, (![1, 0, 0] : Fin 3 → ℕ) a + (![1, 256, 128] : Fin 3 → ℕ) a ≤ S4x256x128.size a) (i0 : ∀ a, (![0, 0, 0] : Fin 3 → ℕ) a + (![1, 256, 128] : Fin 3 → ℕ) a ≤ S4x256x128.size a)
    (p0 p1 p2 p3 : FVec Ideal S1x256x128 .f32) (L : List (View.Piece (Elt Ideal) S4x256x128 .f32)) (N : Fin 4 → Fin 256 → Fin 128 → EReal)
    (h0 : ∀ e d, (p0 (ix3 0 e d) : EReal) = N 0 e d) (h1 : ∀ e d, (p1 (ix3 0 e d) : EReal) = N 1 e d) (h2 : ∀ e d, (p2 (ix3 0 e d) : EReal) = N 2 e d) (h3 : ∀ e d, (p3 (ix3 0 e d) : EReal) = N 3 e d)
    (g : Fin 4) (e : Fin 256) (d : Fin 128) :
    (View.canon (⟨Rect.unit ![3, 0, 0] ![1, 256, 128] i3, p3⟩ :: ⟨Rect.unit ![2, 0, 0] ![1, 256, 128] i2, p2⟩ :: ⟨Rect.unit ![1, 0, 0] ![1, 256, 128] i1, p1⟩
      :: ⟨Rect.unit ![0, 0, 0] ![1, 256, 128] i0, p0⟩ :: L) (ix3 g e d) : EReal) = N g e d := by
  rw [plane 3 _ rfl, plane 2 _ rfl, plane 1 _ rfl, plane 0 _ rfl]
  fin_cases g
  · exact h0 e d
  · exact h1 e d
  · exact h2 e d
  · exact h3 e d

/-- A load of one sequence's plane of an array held by a buffer. -/
theorem ld_plane {R C : ℕ} {m : Memref sig .tc .vmem ⟨_, ![4, R, C]⟩ .f32} (hm : m.IsWhole) (X : Vec Ideal ⟨_, ![4, R, C]⟩ .f32) (g : Fin 4)
    (inb : ∀ a, (![g.val, 0, 0] : Fin 3 → ℕ) a + (![1, R, C] : Fin 3 → ℕ) a ≤ (![4, R, C] : Fin 3 → ℕ) a) (r : Fin R) (d : Fin C) :
    View.readAt (Elt Ideal) m.view (Rect.unit (s := ⟨_, ![4, R, C]⟩) ![g.val, 0, 0] ![1, R, C] inb).toLoadRect (hm.unread X) (ix3 (0 : Fin 1) r d) = X (ix3 g r d) := by
  rw [show View.readAt (Elt Ideal) m.view (Rect.unit (s := ⟨_, ![4, R, C]⟩) ![g.val, 0, 0] ![1, R, C] inb).toLoadRect (hm.unread X) (ix3 (0 : Fin 1) r d)
    = X ((Rect.unit (s := ⟨_, ![4, R, C]⟩) ![g.val, 0, 0] ![1, R, C] inb).toLoadRect.idx (ix3 (0 : Fin 1) r d)) from congrFun (hm.read_unread X) _]
  refine congrArg X (funext fun a => Fin.ext ?_)
  fin_cases a
  · show g.val + 1 * 0 = g.val; omega
  · show 0 + 1 * r.val = r.val; omega
  · show 0 + 1 * d.val = d.val; omega

/-- A load of a whole two-dimensional array. -/
theorem ld_all {a b : ℕ} {m : Memref sig .tc .vmem ⟨_, ![a, b]⟩ .f32} (hm : m.IsWhole) (X : Vec Ideal ⟨_, ![a, b]⟩ .f32)
    (inb : ∀ d, (![0, 0] : Fin 2 → ℕ) d + (![a, b] : Fin 2 → ℕ) d ≤ (![a, b] : Fin 2 → ℕ) d) (r : Fin a) (d : Fin b) :
    View.readAt (Elt Ideal) m.view (Rect.unit (s := ⟨_, ![a, b]⟩) ![0, 0] ![a, b] inb).toLoadRect (hm.unread X) (ix2 r d) = X (ix2 r d) := by
  rw [show View.readAt (Elt Ideal) m.view (Rect.unit (s := ⟨_, ![a, b]⟩) ![0, 0] ![a, b] inb).toLoadRect (hm.unread X) (ix2 r d)
    = X ((Rect.unit (s := ⟨_, ![a, b]⟩) ![0, 0] ![a, b] inb).toLoadRect.idx (ix2 r d)) from congrFun (hm.read_unread X) _]
  refine congrArg X (funext fun x => Fin.ext ?_)
  fin_cases x
  · show 0 + 1 * r.val = r.val; omega
  · show 0 + 1 * d.val = d.val; omega

/-- A load of one plane after stores that cover the array. -/
theorem ld_cov (v : View sig .tc .vmem S4x256x128 .f32) (L : List (View.Piece (Elt Ideal) S4x256x128 .f32)) (g : Fin 4)
    (inb : ∀ a, (![g.val, 0, 0] : Fin 3 → ℕ) a + (![1, 256, 128] : Fin 3 → ℕ) a ≤ S4x256x128.size a) (e : Fin 256) (d : Fin 128) :
    v.readCov L (Rect.unit (s := S4x256x128) ![g.val, 0, 0] ![1, 256, 128] inb).toLoadRect (ix3 (0 : Fin 1) e d) = View.canon L (ix3 g e d) := by
  rw [View.readCov_eq_canon']
  refine congrArg (View.canon L) (funext fun a => Fin.ext ?_)
  fin_cases a
  · show g.val + 1 * 0 = g.val; omega
  · show 0 + 1 * e.val = e.val; omega
  · show 0 + 1 * d.val = d.val; omega

/-- One sequence's plane of the new state, from the loads. -/
def new (v13 : Vec Ideal S1x256x128 .f32) (v5 : Vec Ideal S1x64x128 .f32) (v7 : Vec Ideal S1x64x256 .f32) (v11 : Vec Ideal S1x64x128 .f32) (v15 : Vec Ideal S128x128 .f32) (v17 : Vec Ideal S1x128 .f32) : FVec Ideal S1x256x128 .f32 :=
  k0_pay39 (F := Ideal) (k0_pay7 v13) (k0_pay17 (k0_pay8 v15) (k0_pay9 v17) (k0_pay13 v11) (k0_pay14 v11))
        (k0_pay23 (k0_pay3 v5) (k0_pay16 (k0_pay8 v15) (k0_pay9 v17) (k0_pay13 v11) (k0_pay14 v11)) (k0_pay17 (k0_pay8 v15) (k0_pay9 v17) (k0_pay13 v11) (k0_pay14 v11))) (k0_pay24 (k0_pay4 v7))
        k0_pay34 k0_pay35 k0_pay36

/-! The body treats the four sequences by the same operations. -/

theorem pay41 : k0_pay41 (F := Ideal) = k0_pay3 := rfl
theorem pay42 : k0_pay42 (F := Ideal) = k0_pay4 := rfl
theorem pay44 : k0_pay44 (F := Ideal) = k0_pay6 := rfl
theorem pay45 : k0_pay45 (F := Ideal) = k0_pay7 := rfl
theorem pay46 : k0_pay46 (F := Ideal) = k0_pay8 := rfl
theorem pay47 : k0_pay47 (F := Ideal) = k0_pay9 := rfl
theorem pay51 : k0_pay51 (F := Ideal) = k0_pay13 := rfl
theorem pay52 : k0_pay52 (F := Ideal) = k0_pay14 := rfl
theorem pay53 : k0_pay53 = k0_pay15 := rfl
theorem pay54 : k0_pay54 (F := Ideal) = k0_pay16 := rfl
theorem pay55 : k0_pay55 (F := Ideal) = k0_pay17 := rfl
theorem pay61 : k0_pay61 (F := Ideal) = k0_pay23 := rfl
theorem pay62 : k0_pay62 (F := Ideal) = k0_pay24 := rfl
theorem pay75 : k0_pay75 (F := Ideal) = k0_pay37 := rfl
theorem pay77 : k0_pay77 (F := Ideal) = k0_pay39 := rfl
theorem pay72 : k0_pay72 = k0_pay34 := rfl
theorem pay73 : k0_pay73 = k0_pay35 := rfl
theorem pay74 : k0_pay74 = k0_pay36 := rfl
theorem pay79 : k0_pay79 (F := Ideal) = k0_pay3 := rfl
theorem pay80 : k0_pay80 (F := Ideal) = k0_pay4 := rfl
theorem pay82 : k0_pay82 (F := Ideal) = k0_pay6 := rfl
theorem pay83 : k0_pay83 (F := Ideal) = k0_pay7 := rfl
theorem pay84 : k0_pay84 (F := Ideal) = k0_pay8 := rfl
theorem pay85 : k0_pay85 (F := Ideal) = k0_pay9 := rfl
theorem pay89 : k0_pay89 (F := Ideal) = k0_pay13 := rfl
theorem pay90 : k0_pay90 (F := Ideal) = k0_pay14 := rfl
theorem pay91 : k0_pay91 = k0_pay15 := rfl
theorem pay92 : k0_pay92 (F := Ideal) = k0_pay16 := rfl
theorem pay93 : k0_pay93 (F := Ideal) = k0_pay17 := rfl
theorem pay99 : k0_pay99 (F := Ideal) = k0_pay23 := rfl
theorem pay100 : k0_pay100 (F := Ideal) = k0_pay24 := rfl
theorem pay113 : k0_pay113 (F := Ideal) = k0_pay37 := rfl
theorem pay115 : k0_pay115 (F := Ideal) = k0_pay39 := rfl
theorem pay110 : k0_pay110 = k0_pay34 := rfl
theorem pay111 : k0_pay111 = k0_pay35 := rfl
theorem pay112 : k0_pay112 = k0_pay36 := rfl
theorem pay117 : k0_pay117 (F := Ideal) = k0_pay3 := rfl
theorem pay118 : k0_pay118 (F := Ideal) = k0_pay4 := rfl
theorem pay120 : k0_pay120 (F := Ideal) = k0_pay6 := rfl
theorem pay121 : k0_pay121 (F := Ideal) = k0_pay7 := rfl
theorem pay122 : k0_pay122 (F := Ideal) = k0_pay8 := rfl
theorem pay123 : k0_pay123 (F := Ideal) = k0_pay9 := rfl
theorem pay127 : k0_pay127 (F := Ideal) = k0_pay13 := rfl
theorem pay128 : k0_pay128 (F := Ideal) = k0_pay14 := rfl
theorem pay129 : k0_pay129 = k0_pay15 := rfl
theorem pay130 : k0_pay130 (F := Ideal) = k0_pay16 := rfl
theorem pay131 : k0_pay131 (F := Ideal) = k0_pay17 := rfl
theorem pay137 : k0_pay137 (F := Ideal) = k0_pay23 := rfl
theorem pay138 : k0_pay138 (F := Ideal) = k0_pay24 := rfl
theorem pay151 : k0_pay151 (F := Ideal) = k0_pay37 := rfl
theorem pay153 : k0_pay153 (F := Ideal) = k0_pay39 := rfl
theorem pay148 : k0_pay148 = k0_pay34 := rfl
theorem pay149 : k0_pay149 = k0_pay35 := rfl
theorem pay150 : k0_pay150 = k0_pay36 := rfl
theorem pay40 (a b c d e f g) : k0_pay40 (F := Ideal) (k0_pay37 a b c d e f g) = k0_pay39 a b c d e f g := rfl
theorem pay78 (a b c d e f g) : k0_pay78 (F := Ideal) (k0_pay37 a b c d e f g) = k0_pay39 a b c d e f g := rfl
theorem pay116 (a b c d e f g) : k0_pay116 (F := Ideal) (k0_pay37 a b c d e f g) = k0_pay39 a b c d e f g := rfl
theorem pay1 (a b c d e f g) : k0_pay1 (F := Ideal) (k0_pay37 a b c d e f g) = k0_pay39 a b c d e f g := rfl

section

variable (s : Fin 4 → Fin 64 → Fin 128 → ℝ) (w : Fin 128 → Fin 128 → ℝ) (a : Fin 128 → ℝ)
  (x1 : Vec Ideal S4x64x128 .f32) (x2 : Vec Ideal S4x64x256 .f32)

/-- A sequence's state after a point, from the state before it. -/
def after (xs : Vec Ideal S4x256x128 .f32) (g : Fin 4) (e : Fin 256) (d : Fin 128) : EReal :=
  next (fun e d => xs (ix3 g e d)) (fun r d => ((run (s g) w a r d : ℝ) : EReal)) (fun r d => x1 (ix3 g r d)) (fun r e => x2 (ix3 g r e)) e d

variable {s w a x1 x2}

/-- One sequence's plane of the new state, from the loads of it. -/
theorem one {xs : Vec Ideal S4x256x128 .f32} {x4 : Vec Ideal S4x64x128 .f32} {x6 : Vec Ideal S128x128 .f32} {x7 : Vec Ideal S1x128 .f32} (g : Fin 4)
    (hw : ∀ j d, (x6 (ix2 j d) : EReal) = ((w j d : ℝ) : EReal)) (ha : ∀ d, (x7 (ix2 0 d) : EReal) = ((a d : ℝ) : EReal))
    (hs : ∀ g r j, (∀ d, w j d = 0) ∨ (x4 (ix3 g r j) : EReal) = ((s g r j : ℝ) : EReal))
    (v13 : Vec Ideal S1x256x128 .f32) (v5 : Vec Ideal S1x64x128 .f32) (v7 : Vec Ideal S1x64x256 .f32) (v11 : Vec Ideal S1x64x128 .f32) (v15 : Vec Ideal S128x128 .f32) (v17 : Vec Ideal S1x128 .f32)
    (h13 : ∀ e d, (v13 (ix3 0 e d) : EReal) = xs (ix3 g e d)) (h5 : ∀ r d, (v5 (ix3 0 r d) : EReal) = x1 (ix3 g r d)) (h7 : ∀ r e, (v7 (ix3 0 r e) : EReal) = x2 (ix3 g r e))
    (h11 : ∀ r d, (v11 (ix3 0 r d) : EReal) = x4 (ix3 g r d)) (h15 : ∀ r d, (v15 (ix2 r d) : EReal) = x6 (ix2 r d)) (h17 : ∀ d, (v17 (ix2 0 d) : EReal) = x7 (ix2 0 d))
    (e : Fin 256) (d : Fin 128) :
    ((new v13 v5 v7 v11 v15 v17) (ix3 0 e d) : EReal) = after s w a x1 x2 xs g e d := by
  have hB : ∀ r d, ((k0_pay16 (F := Ideal) (k0_pay8 v15) (k0_pay9 v17) (k0_pay13 v11) (k0_pay14 v11)) (ix2 r d) : EReal) = ((run (s g) w a r d : ℝ) : EReal) := fun r d =>
    run_coe v11 v15 v17 (s g) w a (fun j d => (h15 j d).trans (hw j d)) (fun d => (h17 d).trans (ha d))
      (fun r j => (hs g r j).imp id fun h => (h11 r j).trans h) r d
  refine (state v13 v5 v7 _ _ _ _ e d).trans ?_
  unfold after
  exact congrFun (congrFun (congr (congr (congr (congrArg next (funext₂ h13)) (funext₂ hB)) (funext₂ h5)) (funext₂ h7)) e) d

end

/-- The array the carried state is first filled from, whole. -/
theorem filled {m : Memref sig .tc .vmem S4x256x128 .f32} (hm : m.IsWhole) (X : Vec Ideal S4x256x128 .f32) (inb : ∀ a, (![0, 0, 0] : Fin 3 → ℕ) a + S4x256x128.size a ≤ S4x256x128.size a) (g : Fin 4) (e : Fin 256) (d : Fin 128) :
    (View.canon (Val := Elt Ideal) (e := .f32) [⟨Rect.unit (s := S4x256x128) ![0, 0, 0] S4x256x128.size inb, k0_pay2 (F := Ideal) (View.readAt (Elt Ideal) m.view (Rect.unit (s := S4x256x128) ![0, 0, 0] S4x256x128.size inb).toLoadRect (hm.unread X))⟩] (ix3 g e d) : EReal) = X (ix3 g e d) := by
  have z : (![0, 0, 0] : Fin 3 → ℕ) = fun _ => 0 := by funext a; fin_cases a <;> rfl
  refine (congrFun (View.canon_cons_unit_zero (S := S4x256x128) z _ _ []) _).trans ?_
  pointwise [k0_pay2]
  rw [show View.readAt (Elt Ideal) m.view (Rect.unit (s := S4x256x128) ![0, 0, 0] S4x256x128.size inb).toLoadRect (hm.unread X) (ix3 g e d)
    = X ((Rect.unit (s := S4x256x128) ![0, 0, 0] S4x256x128.size inb).toLoadRect.idx (ix3 g e d)) from congrFun (hm.read_unread X) _]
  refine congrArg X (funext fun a => Fin.ext ?_)
  fin_cases a
  · show 0 + 1 * g.val = g.val; omega
  · show 0 + 1 * e.val = e.val; omega
  · show 0 + 1 * d.val = d.val; omega

/-- A plane not stored yet still holds what the array was filled with. -/
theorem skip (o : ℕ) (inb : ∀ a, (![o, 0, 0] : Fin 3 → ℕ) a + (![1, 256, 128] : Fin 3 → ℕ) a ≤ S4x256x128.size a)
    (w : FVec Ideal S1x256x128 .f32) (L : List (View.Piece (Elt Ideal) S4x256x128 .f32)) (g : Fin 4) (hg : g.val ≠ o) (e : Fin 256) (d : Fin 128) (x : EReal)
    (h : (View.canon L (ix3 g e d) : EReal) = x) : (View.canon (⟨Rect.unit ![o, 0, 0] ![1, 256, 128] inb, w⟩ :: L) (ix3 g e d) : EReal) = x := by
  rw [plane o _ rfl, if_neg hg]; exact h

end Cert.Gla

end
-- ==== Proof.GlaRunA.lean ====
/- Gated linear attention: the state after the first point, entry by entry. -/
module

public import proofs.«01_k».proof.Proof.GlaRun

@[expose] public section

set_option maxRecDepth 16384

noncomputable section

open Idealize.ShloMosaic Idealize.ShloMosaic.TcCoe Idealize.SL.Sem

namespace Cert.Gla

open Cert.Kernel4Ideal Cert.Kernel4Ideal.Gen

section

variable (c : Dev nD) (i : grid0.Coords) (arg2 : Memref sig .tc .vmem S4x64x128 .f32) (harg2 : arg2.IsWhole) (arg3 : Memref sig .tc .vmem S4x64x128 .f32) (harg3 : arg3.IsWhole) (arg4 : Memref sig .tc .vmem S4x64x256 .f32) (harg4 : arg4.IsWhole) (arg5 : Memref sig .tc .vmem S4x64x256 .f32) (harg5 : arg5.IsWhole) (arg6 : Memref sig .tc .vmem S4x64x128 .f32) (harg6 : arg6.IsWhole) (arg7 : Memref sig .tc .vmem S4x256x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S4x64x256 .bf16) (harg12 : arg12.IsWhole) (arg13 : Memref sig .tc .vmem S4x256x128 .f32) (harg13 : arg13.IsWhole) (arg14 : Memref sig .tc .vmem S4x256x128 .f32) (harg14 : arg14.IsWhole)
  (x0 : Vec Ideal S4x64x128 .f32) (x1 : Vec Ideal S4x64x128 .f32) (x2 : Vec Ideal S4x64x256 .f32) (x3 : Vec Ideal S4x64x256 .f32) (x4 : Vec Ideal S4x64x128 .f32) (x5 : Vec Ideal S4x256x128 .f32) (x6 : Vec Ideal S128x128 .f32) (x7 : Vec Ideal S1x128 .f32) (x8 : Vec Ideal S1x256 .f32) (x9 : Vec Ideal S256x256 .bf16) (xs0 : Vec Ideal S4x256x128 .f32)
  (s : Fin 4 → Fin 64 → Fin 128 → ℝ) (w : Fin 128 → Fin 128 → ℝ) (a : Fin 128 → ℝ)
  (hw : ∀ j d, (x6 (ix2 j d) : EReal) = ((w j d : ℝ) : EReal)) (ha : ∀ d, (x7 (ix2 0 d) : EReal) = ((a d : ℝ) : EReal))
  (hs : ∀ g r j, (∀ d, w j d = 0) ∨ (x4 (ix3 g r j) : EReal) = ((s g r j : ℝ) : EReal))

include hw ha hs

set_option maxHeartbeats 2000000 in
/-- The carried state after the first point. -/
theorem scratchA (hc0 : cond0_0 i) (g : Fin 4) (e : Fin 256) (d : Fin 128) :
    ((sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9) (ix3 g e d) : EReal) = after s w a x1 x2 x5 g e d := by
  unfold sout0_A_0
  rw [View.read_writes_junk_eq_canon]
  refine planes inb_S4x256x128_S1x256x128_3_0_0 inb_S4x256x128_S1x256x128_2_0_0 inb_S4x256x128_S1x256x128_1_0_0 inb_S4x256x128_S1x256x128_0_0_0 _ _ _ _ (kernelRun0_A.sl.HS0_1 (F := Ideal) c arg7 harg7 x5) _ ?_ ?_ ?_ ?_ g e d
  · simp only [kernelRun0_A.sl.r, kernelRun0_A.sl.r_1, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_25, kernelRun0_A.sl.r_26, kernelRun0_A.sl.v13]
    exact one 0 hw ha hs _ _ _ _ _ _ (fun e d => (ld_cov arg14.view _ 0 _ e d).trans (filled harg7 x5 _ 0 e d)) (ld_plane harg3 x1 0 _) (ld_plane harg4 x2 0 _) (ld_plane harg6 x4 0 _) (ld_all harg8 x6 _) (ld_all harg9 x7 _ 0)
  · simp only [kernelRun0_A.sl.r_27, kernelRun0_A.sl.r_28, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_52, kernelRun0_A.sl.r_53, kernelRun0_A.sl.v318, pay41, pay42, pay44, pay45, pay46, pay47, pay51, pay52, pay53, pay54, pay55, pay61, pay62, pay75, pay77, pay72, pay73, pay74]
    exact one 1 hw ha hs _ _ _ _ _ _ (fun e d => (ld_cov arg14.view _ 1 _ e d).trans (skip 0 _ _ _ 1 (by decide) e d _ (filled harg7 x5 _ 1 e d))) (ld_plane harg3 x1 1 _) (ld_plane harg4 x2 1 _) (ld_plane harg6 x4 1 _) (ld_all harg8 x6 _) (ld_all harg9 x7 _ 0)
  · simp only [kernelRun0_A.sl.r_54, kernelRun0_A.sl.r_55, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_79, kernelRun0_A.sl.r_80, kernelRun0_A.sl.v623, pay79, pay80, pay82, pay83, pay84, pay85, pay89, pay90, pay91, pay92, pay93, pay99, pay100, pay113, pay115, pay110, pay111, pay112]
    exact one 2 hw ha hs _ _ _ _ _ _ (fun e d => (ld_cov arg14.view _ 2 _ e d).trans (skip 1 _ _ _ 2 (by decide) e d _ (skip 0 _ _ _ 2 (by decide) e d _ (filled harg7 x5 _ 2 e d)))) (ld_plane harg3 x1 2 _) (ld_plane harg4 x2 2 _) (ld_plane harg6 x4 2 _) (ld_all harg8 x6 _) (ld_all harg9 x7 _ 0)
  · simp only [kernelRun0_A.sl.r_81, kernelRun0_A.sl.r_82, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_106, kernelRun0_A.sl.r_107, kernelRun0_A.sl.v928, pay117, pay118, pay120, pay121, pay122, pay123, pay127, pay128, pay129, pay130, pay131, pay137, pay138, pay151, pay153, pay148, pay149, pay150]
    exact one 3 hw ha hs _ _ _ _ _ _ (fun e d => (ld_cov arg14.view _ 3 _ e d).trans (skip 2 _ _ _ 3 (by decide) e d _ (skip 1 _ _ _ 3 (by decide) e d _ (skip 0 _ _ _ 3 (by decide) e d _ (filled harg7 x5 _ 3 e d))))) (ld_plane harg3 x1 3 _) (ld_plane harg4 x2 3 _) (ld_plane harg6 x4 3 _) (ld_all harg8 x6 _) (ld_all harg9 x7 _ 0)

end

end Cert.Gla

end
-- ==== Proof.GlaRunB.lean ====
/- Gated linear attention: the state after a point that is not the first, entry by entry. -/
module

public import proofs.«01_k».proof.Proof.GlaRun

@[expose] public section

set_option maxRecDepth 16384

noncomputable section

open Idealize.ShloMosaic Idealize.ShloMosaic.TcCoe Idealize.SL.Sem

namespace Cert.Gla

open Cert.Kernel4Ideal Cert.Kernel4Ideal.Gen

section

variable (c : Dev nD) (i : grid0.Coords) (arg2 : Memref sig .tc .vmem S4x64x128 .f32) (harg2 : arg2.IsWhole) (arg3 : Memref sig .tc .vmem S4x64x128 .f32) (harg3 : arg3.IsWhole) (arg4 : Memref sig .tc .vmem S4x64x256 .f32) (harg4 : arg4.IsWhole) (arg5 : Memref sig .tc .vmem S4x64x256 .f32) (harg5 : arg5.IsWhole) (arg6 : Memref sig .tc .vmem S4x64x128 .f32) (harg6 : arg6.IsWhole) (arg7 : Memref sig .tc .vmem S4x256x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S4x64x256 .bf16) (harg12 : arg12.IsWhole) (arg13 : Memref sig .tc .vmem S4x256x128 .f32) (harg13 : arg13.IsWhole) (arg14 : Memref sig .tc .vmem S4x256x128 .f32) (harg14 : arg14.IsWhole)
  (x0 : Vec Ideal S4x64x128 .f32) (x1 : Vec Ideal S4x64x128 .f32) (x2 : Vec Ideal S4x64x256 .f32) (x3 : Vec Ideal S4x64x256 .f32) (x4 : Vec Ideal S4x64x128 .f32) (x5 : Vec Ideal S4x256x128 .f32) (x6 : Vec Ideal S128x128 .f32) (x7 : Vec Ideal S1x128 .f32) (x8 : Vec Ideal S1x256 .f32) (x9 : Vec Ideal S256x256 .bf16) (xs0 : Vec Ideal S4x256x128 .f32)
  (s : Fin 4 → Fin 64 → Fin 128 → ℝ) (w : Fin 128 → Fin 128 → ℝ) (a : Fin 128 → ℝ)
  (hw : ∀ j d, (x6 (ix2 j d) : EReal) = ((w j d : ℝ) : EReal)) (ha : ∀ d, (x7 (ix2 0 d) : EReal) = ((a d : ℝ) : EReal))
  (hs : ∀ g r j, (∀ d, w j d = 0) ∨ (x4 (ix3 g r j) : EReal) = ((s g r j : ℝ) : EReal))

include hw ha hs

set_option maxHeartbeats 2000000 in
/-- The carried state after a point that is not the first. -/
theorem scratchB (hc0 : ¬cond0_0 i) (g : Fin 4) (e : Fin 256) (d : Fin 128) :
    ((sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0) (ix3 g e d) : EReal) = after s w a x1 x2 xs0 g e d := by
  unfold sout0_B_0
  rw [View.read_writes_junk_eq_canon]
  refine planes inb_S4x256x128_S1x256x128_3_0_0 inb_S4x256x128_S1x256x128_2_0_0 inb_S4x256x128_S1x256x128_1_0_0 inb_S4x256x128_S1x256x128_0_0_0 _ _ _ _ [] _ ?_ ?_ ?_ ?_ g e d
  · simp only [kernelRun0_B.sl.r, kernelRun0_B.sl.r_1, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_25, kernelRun0_B.sl.r_26]
    exact one 0 hw ha hs _ _ _ _ _ _ (ld_plane harg14 xs0 0 _) (ld_plane harg3 x1 0 _) (ld_plane harg4 x2 0 _) (ld_plane harg6 x4 0 _) (ld_all harg8 x6 _) (ld_all harg9 x7 _ 0)
  · simp only [kernelRun0_B.sl.r_27, kernelRun0_B.sl.r_28, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_52, kernelRun0_B.sl.r_53, kernelRun0_B.sl.v318, pay41, pay42, pay44, pay45, pay46, pay47, pay51, pay52, pay53, pay54, pay55, pay61, pay62, pay75, pay77, pay72, pay73, pay74]
    exact one 1 hw ha hs _ _ _ _ _ _ (ld_plane harg14 xs0 1 _) (ld_plane harg3 x1 1 _) (ld_plane harg4 x2 1 _) (ld_plane harg6 x4 1 _) (ld_all harg8 x6 _) (ld_all harg9 x7 _ 0)
  · simp only [kernelRun0_B.sl.r_54, kernelRun0_B.sl.r_55, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_79, kernelRun0_B.sl.r_80, kernelRun0_B.sl.v623, pay79, pay80, pay82, pay83, pay84, pay85, pay89, pay90, pay91, pay92, pay93, pay99, pay100, pay113, pay115, pay110, pay111, pay112]
    exact one 2 hw ha hs _ _ _ _ _ _ (ld_plane harg14 xs0 2 _) (ld_plane harg3 x1 2 _) (ld_plane harg4 x2 2 _) (ld_plane harg6 x4 2 _) (ld_all harg8 x6 _) (ld_all harg9 x7 _ 0)
  · simp only [kernelRun0_B.sl.r_81, kernelRun0_B.sl.r_82, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_106, kernelRun0_B.sl.r_107, kernelRun0_B.sl.v928, pay117, pay118, pay120, pay121, pay122, pay123, pay127, pay128, pay129, pay130, pay131, pay137, pay138, pay151, pay153, pay148, pay149, pay150]
    exact one 3 hw ha hs _ _ _ _ _ _ (ld_plane harg14 xs0 3 _) (ld_plane harg3 x1 3 _) (ld_plane harg4 x2 3 _) (ld_plane harg6 x4 3 _) (ld_all harg8 x6 _) (ld_all harg9 x7 _ 0)

set_option maxHeartbeats 2000000 in
/-- The state returned after a point that is not the first. -/
theorem outB (hc0 : ¬cond0_0 i) (g : Fin 4) (e : Fin 256) (d : Fin 128) :
    ((out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0) (ix3 g e d) : EReal) = after s w a x1 x2 xs0 g e d := by
  unfold out0_B_11
  rw [View.read_writes_junk_eq_canon]
  refine planes inb_S4x256x128_S1x256x128_3_0_0 inb_S4x256x128_S1x256x128_2_0_0 inb_S4x256x128_S1x256x128_1_0_0 inb_S4x256x128_S1x256x128_0_0_0 _ _ _ _ [] _ ?_ ?_ ?_ ?_ g e d
  · simp only [kernelRun0_B.sl.r, kernelRun0_B.sl.r_1, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_25, kernelRun0_B.sl.r_26, pay40]
    exact one 0 hw ha hs _ _ _ _ _ _ (ld_plane harg14 xs0 0 _) (ld_plane harg3 x1 0 _) (ld_plane harg4 x2 0 _) (ld_plane harg6 x4 0 _) (ld_all harg8 x6 _) (ld_all harg9 x7 _ 0)
  · simp only [kernelRun0_B.sl.r_27, kernelRun0_B.sl.r_28, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_52, kernelRun0_B.sl.r_53, kernelRun0_B.sl.v318, pay41, pay42, pay44, pay45, pay46, pay47, pay51, pay52, pay53, pay54, pay55, pay61, pay62, pay75, pay77, pay72, pay73, pay74, pay78]
    exact one 1 hw ha hs _ _ _ _ _ _ (ld_plane harg14 xs0 1 _) (ld_plane harg3 x1 1 _) (ld_plane harg4 x2 1 _) (ld_plane harg6 x4 1 _) (ld_all harg8 x6 _) (ld_all harg9 x7 _ 0)
  · simp only [kernelRun0_B.sl.r_54, kernelRun0_B.sl.r_55, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_79, kernelRun0_B.sl.r_80, kernelRun0_B.sl.v623, pay79, pay80, pay82, pay83, pay84, pay85, pay89, pay90, pay91, pay92, pay93, pay99, pay100, pay113, pay115, pay110, pay111, pay112, pay116]
    exact one 2 hw ha hs _ _ _ _ _ _ (ld_plane harg14 xs0 2 _) (ld_plane harg3 x1 2 _) (ld_plane harg4 x2 2 _) (ld_plane harg6 x4 2 _) (ld_all harg8 x6 _) (ld_all harg9 x7 _ 0)
  · simp only [kernelRun0_B.sl.r_81, kernelRun0_B.sl.r_82, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_106, kernelRun0_B.sl.r_107, kernelRun0_B.sl.v928, pay117, pay118, pay120, pay121, pay122, pay123, pay127, pay128, pay129, pay130, pay131, pay137, pay138, pay151, pay153, pay148, pay149, pay150, pay1]
    exact one 3 hw ha hs _ _ _ _ _ _ (ld_plane harg14 xs0 3 _) (ld_plane harg3 x1 3 _) (ld_plane harg4 x2 3 _) (ld_plane harg6 x4 3 _) (ld_all harg8 x6 _) (ld_all harg9 x7 _ 0)

end

end Cert.Gla

end
-- ==== Proof.GlaBlocks.lean ====
/- Gated linear attention: the kernel's staged blocks as parts of its arguments. -/
module

public import proofs.«01_k».proof.Proof.GlaRunA
public import proofs.«01_k».proof.Proof.GlaRunB
public import proofs.«01_k».proof.Proof.GlaMath
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Gla

open Cert.Kernel4Ideal Cert.Kernel4Ideal.Gen

variable (m : (ℓ : Loc nD τ sig) → Buf (Elt Ideal) ℓ)

/-- The block that each window stages at a grid point. -/
theorem idx : ∀ t : Fin cfg0.N, win0_1.index t = ![0, t.val, 13] ∧ win0_2.index t = ![0, t.val, 3]
    ∧ win0_4.index t = ![0, t.val, 14] ∧ win0_5.index t = ![0, 0, 0] ∧ win0_6.index t = ![0, 0]
    ∧ win0_7.index t = ![0, 0] ∧ win0_11.index t = ![0, 0, 0] :=
  (by decide +kernel : ∀ t : Fin grid0.N, _)

/-- The projections' array. -/
abbrev rows (c : Dev nD) : FVec Ideal S4x4096x1920 .f32 := m ((c : Thread nD τ).loc main_arg0)

/-- The staged block of the keys. -/
theorem b1 (c : Dev nD) (t : Fin cfg0.N) (hN : t.val < 64) (g : Fin 4) (r : Fin 64) (d : Fin 128) :
    (iblk m c 1 t : FVec Ideal S4x64x128 .f32) (ix3 g r d) = rows m c (ix3 g (⟨t.val * 64 + r.val, by omega⟩ : Fin 4096) (⟨1664 + d.val, by omega⟩ : Fin 1920)) := by
  blk_point [iblk, V, idx t]

/-- The staged block of the gates' columns. -/
theorem b4 (c : Dev nD) (t : Fin cfg0.N) (hN : t.val < 64) (g : Fin 4) (r : Fin 64) (d : Fin 128) :
    (iblk m c 4 t : FVec Ideal S4x64x128 .f32) (ix3 g r d) = rows m c (ix3 g (⟨t.val * 64 + r.val, by omega⟩ : Fin 4096) (⟨1792 + d.val, by omega⟩ : Fin 1920)) := by
  blk_point [iblk, V, idx t]

/-- The staged block of the values. -/
theorem b2 (c : Dev nD) (t : Fin cfg0.N) (hN : t.val < 64) (g : Fin 4) (r : Fin 64) (e : Fin 256) :
    (X0_2 m c t : FVec Ideal S4x64x256 .f32) (ix3 g r e) = rows m c (ix3 g (⟨t.val * 64 + r.val, by omega⟩ : Fin 4096) (⟨768 + e.val, by omega⟩ : Fin 1920)) := by
  have h : X0_2 m c t (ix3 g r e) = iblk m c 2 t (fun a => ⟨((ix3 g r e : S4x64x256.Idx) a).val, lt_of_lt_of_eq ((ix3 g r e : S4x64x256.Idx) a).isLt (xsize0_2 t a).symm⟩) := by
    unfold X0_2 Pipeline.Window.fill
    rw [dif_pos (moved0_2 t _)]
  rw [h]
  blk_point [iblk, V, idx t]

/-- The staged initial state is zero. -/
theorem b5 (c : Dev nD) (t : Fin cfg0.N) (g : Fin 4) (e : Fin 256) (d : Fin 128) :
    @Eq EReal ((iblk m c 5 t : FVec Ideal S4x256x128 .f32) (ix3 g e d)) 0 := by
  have hV : V m c main_v8 = broadcastInDim S4x256x128 ![] bcast_S_S4x256x128 (constant (F := Ideal) S_ .f32 0x00000000#32) := by rfl
  have h : (iblk m c 5 t : FVec Ideal S4x256x128 .f32) (ix3 g e d) = broadcastInDim S4x256x128 ![] bcast_S_S4x256x128 (constant (F := Ideal) S_ .f32 0x00000000#32) (ix3 g e d) := by
    rw [← hV]
    blk_point [iblk, idx t]
  rw [h]
  pointwise []

/-- The staged biases. -/
theorem b7 (c : Dev nD) (t : Fin cfg0.N) (d : Fin 128) :
    ((iblk m c 7 t : FVec Ideal S1x128 .f32) (ix2 0 d) : EReal) = (m ((c : Thread nD τ).loc main_arg2) : FVec Ideal S128 .f32) (ix1 d) := by
  have hV : V m c main_v12 = broadcastInDim S1x128 ![1] bcast_S128_S1x128_1 (m ((c : Thread nD τ).loc main_arg2) : FVec Ideal S128 .f32) := by rfl
  have h : (iblk m c 7 t : FVec Ideal S1x128 .f32) (ix2 0 d) = broadcastInDim S1x128 ![1] bcast_S128_S1x128_1 (m ((c : Thread nD τ).loc main_arg2) : FVec Ideal S128 .f32) (ix2 0 d) := by
    rw [← hV]
    blk_point [iblk, idx t]
  rw [h]
  pointwise []

/-- The gates' matrix with rows of zeros below it. -/
def padded (u : FVec Ideal S16x128 .f32) : FVec Ideal S128x128 .f32 :=
  Host.scatter scatter_S128x128_S1_S16x128_01_n_0_0 (fun _ b => b) (broadcastInDim S128x128 ![] bcast_S_S128x128 (constant (F := Ideal) S_ .f32 0x00000000#32))
    (broadcastInDim S1 ![] bcast_S_S1 (constantI S_ 32 0#32)) u

/-- Where each entry of the matrix is put. -/
theorem lands (k : S16x128.Idx) : scatter_S128x128_S1_S16x128_01_n_0_0.resultIdx? k (broadcastInDim S1 ![] bcast_S_S1 (constantI S_ 32 0#32))
    = some (ix2 (⟨(k 0).val, by have h : (k 0).val < 16 := (k 0).isLt; omega⟩ : Fin 128) (k 1 : Fin 128)) := by
  have hk0 : (k 0).val < 16 := (k 0).isLt
  have hk1 : (k 1).val < 128 := (k 1).isLt
  have hs : ∀ a, scatter_S128x128_S1_S16x128_01_n_0_0.start k (broadcastInDim S1 ![] bcast_S_S1 (constantI S_ 32 0#32)) a = 0 := fun a => by
    fin_cases a <;> rfl
  have hw : ∀ a, scatter_S128x128_S1_S16x128_01_n_0_0.window k a = (k a).val := fun a => by
    fin_cases a <;> rfl
  unfold ScatterDims.resultIdx?
  rw [dif_pos fun a => by
    rw [hs, hw]
    fin_cases a
    · show 0 ≤ (0 : ℤ) + ((k 0).val : ℤ) ∧ (0 : ℤ) + ((k 0).val : ℤ) < ((128 : ℕ) : ℤ); omega
    · show 0 ≤ (0 : ℤ) + ((k 1).val : ℤ) ∧ (0 : ℤ) + ((k 1).val : ℤ) < ((128 : ℕ) : ℤ); omega]
  refine congrArg some (funext fun a => Fin.ext ?_)
  show (scatter_S128x128_S1_S16x128_01_n_0_0.start k _ a + scatter_S128x128_S1_S16x128_01_n_0_0.window k a).toNat = _
  rw [hs, hw, zero_add, Int.toNat_natCast]
  fin_cases a <;> rfl

/-- The padded matrix's first sixteen rows. -/
theorem padded_row (u : FVec Ideal S16x128 .f32) (j : Fin 128) (d : Fin 128) (hj : j.val < 16) : padded u (ix2 j d) = u (ix2 (⟨j.val, hj⟩ : Fin 16) d) := by
  refine Routing.scatter_set_hit _ _ _ _ _ _ (fun k hk => ?_) (ix2 (⟨j.val, hj⟩ : Fin 16) d) (lands _)
  rw [lands] at hk
  have h := Option.some.inj hk
  have h0 : (k 0).val = j.val := congrArg (fun i : S128x128.Idx => (i 0).val) h
  have h1 : (k 1).val = d.val := congrArg (fun i : S128x128.Idx => (i 1).val) h
  refine congrArg u (funext fun a => Fin.ext ?_)
  fin_cases a
  · exact h0
  · exact h1

/-- The padded matrix's other rows are zero. -/
theorem padded_zero (u : FVec Ideal S16x128 .f32) (j : Fin 128) (d : Fin 128) (hj : ¬ j.val < 16) : (padded u (ix2 j d) : EReal) = 0 := by
  unfold padded
  rw [Routing.scatter_set_miss _ _ _ _ _ (fun k hk => hj ?_)]
  · pointwise []
  · rw [lands] at hk
    have h0 : (k 0).val = j.val := congrArg (fun i : S128x128.Idx => (i 0).val) (Option.some.inj hk)
    have hk0 : (k 0).val < 16 := (k 0).isLt
    omega

set_option maxHeartbeats 4000000 in
/-- The matrix that the host gives the kernel is the padded one. -/
theorem V_padded (c : Dev nD) : V m c main_v11 = padded (m ((c : Thread nD τ).loc main_arg1) : FVec Ideal S16x128 .f32) := by
  rfl

/-- The staged matrix of the gates. -/
theorem b6 (c : Dev nD) (t : Fin cfg0.N) (j d : Fin 128) :
    (iblk m c 6 t : FVec Ideal S128x128 .f32) (ix2 j d) = padded (m ((c : Thread nD τ).loc main_arg1) : FVec Ideal S16x128 .f32) (ix2 j d) := by
  rw [← V_padded m c]
  blk_point [iblk, idx t]

end Cert.Gla

end
-- ==== Proof.GlaFinal.lean ====
/- Gated linear attention: the array the kernel leaves, position by position. -/
module

public import proofs.«01_k».proof.Proof.GlaBlocks
public import proofs.«01_k».proof.Proof.GlaRunA
public import proofs.«01_k».proof.Proof.GlaRunB
public import proofs.«01_k».proof.Proof.GlaMath
public import proofs.«01_k».proof.Proof.Gen.Kernel4Ideal.Value

@[expose] public section

set_option maxRecDepth 16384

noncomputable section

open Idealize.ShloMosaic Idealize.ShloMosaic.TcCoe Idealize.SL.Sem

namespace Cert.Gla

open Cert.Kernel4Ideal Cert.Kernel4Ideal.Gen Cert.Kernel4Ideal.Value

/-- The gates' matrix as real numbers, zero from its seventeenth row on. -/
def wr (u : FVec Ideal S16x128 .f32) (j d : Fin 128) : ℝ := if hj : j.val < 16 then EReal.toReal (u (ix2 (⟨j.val, hj⟩ : Fin 16) d)) else 0

/-- The gates' columns as real numbers. -/
def sr (x : FVec Ideal S4x4096x1920 .f32) (g : Fin 4) (t : Fin 4096) (j : Fin 128) : ℝ := EReal.toReal (x (ix3 g t (⟨1792 + j.val, by omega⟩ : Fin 1920)))

/-- The gates' sixteen columns are real numbers. -/
def ColsReal (x : FVec Ideal S4x4096x1920 .f32) : Prop :=
  ∀ (g : Fin 4) (t : Fin 4096) (j : Fin 16), (x (ix3 g t (⟨1792 + j.val, by omega⟩ : Fin 1920)) : EReal) = ((EReal.toReal (x (ix3 g t (⟨1792 + j.val, by omega⟩ : Fin 1920))) : ℝ) : EReal)

/-- The gate's logarithm at a position. -/
def lg (x : FVec Ideal S4x4096x1920 .f32) (u : FVec Ideal S16x128 .f32) (b : FVec Ideal S128 .f32) (g : Fin 4) (d : Fin 128) (t : ℕ) : ℝ :=
  if ht : t < 4096 then gate ((∑ j, sr x g ⟨t, ht⟩ j * wr u j d) + EReal.toReal (b (ix1 d))) else 0

/-- The value's lane at a position. -/
def vs (x : FVec Ideal S4x4096x1920 .f32) (g : Fin 4) (e : Fin 256) (t : ℕ) : EReal := if ht : t < 4096 then x (ix3 g ⟨t, ht⟩ (⟨768 + e.val, by omega⟩ : Fin 1920)) else 0

/-- The key's lane at a position. -/
def ks (x : FVec Ideal S4x4096x1920 .f32) (g : Fin 4) (d : Fin 128) (t : ℕ) : EReal := if ht : t < 4096 then x (ix3 g ⟨t, ht⟩ (⟨1664 + d.val, by omega⟩ : Fin 1920)) else 0

section

variable (m : (ℓ : Loc nD τ sig) → Buf (Elt Ideal) ℓ) (c : Dev nD)

/-- The gates' matrix. -/
abbrev mat : FVec Ideal S16x128 .f32 := m ((c : Thread nD τ).loc main_arg1)

/-- The gates' biases. -/
abbrev bias : FVec Ideal S128 .f32 := m ((c : Thread nD τ).loc main_arg2)

variable (hx : ColsReal (rows m c))
  (hu : ∀ i, (mat m c i : EReal) = ((EReal.toReal (mat m c i) : ℝ) : EReal))
  (hb : ∀ i, (bias m c i : EReal) = ((EReal.toReal (bias m c i) : ℝ) : EReal))

include hu in
/-- The staged matrix as real numbers. -/
theorem hw (t : Fin cfg0.N) (j d : Fin 128) : ((iblk m c 6 t : FVec Ideal S128x128 .f32) (ix2 j d) : EReal) = ((wr (mat m c) j d : ℝ) : EReal) := by
  rw [b6]
  unfold wr
  by_cases hj : j.val < 16
  · rw [dif_pos hj, padded_row _ _ _ hj]
    exact hu _
  · rw [dif_neg hj]
    exact padded_zero _ _ _ hj

include hb in
/-- The staged biases as real numbers. -/
theorem ha (t : Fin cfg0.N) (d : Fin 128) : ((iblk m c 7 t : FVec Ideal S1x128 .f32) (ix2 0 d) : EReal) = ((EReal.toReal (bias m c (ix1 d)) : ℝ) : EReal) :=
  (b7 m c t d).trans (hb _)

/-- A grid point's rows of the gates' columns. -/
def st (t : Fin cfg0.N) (hN : t.val < 64) (g : Fin 4) (r : Fin 64) (j : Fin 128) : ℝ := sr (rows m c) g (⟨t.val * 64 + r.val, by omega⟩ : Fin 4096) j

include hx in
/-- A staged column of the gates is real, or its row of the matrix is zero. -/
theorem hs (t : Fin cfg0.N) (hN : t.val < 64) (g : Fin 4) (r : Fin 64) (j : Fin 128) :
    (∀ d, wr (mat m c) j d = 0) ∨ ((iblk m c 4 t : FVec Ideal S4x64x128 .f32) (ix3 g r j) : EReal) = ((st m c t hN g r j : ℝ) : EReal) := by
  by_cases hj : j.val < 16
  · refine Or.inr ((b4 m c t hN g r j).trans ?_)
    exact hx g _ ⟨j.val, hj⟩
  · exact Or.inl fun d => dif_neg hj

/-- One step of a state at a grid point. -/
theorem after_stateAt (t : Fin cfg0.N) (hN : t.val < 64) (g : Fin 4) (xs : FVec Ideal S4x256x128 .f32)
    (hxs : ∀ e d, (xs (ix3 g e d) : EReal) = stateAt (lg (rows m c) (mat m c) (bias m c) g) (vs (rows m c) g) (ks (rows m c) g) (t.val * 64) e d) (e : Fin 256) (d : Fin 128) :
    after (st m c t hN) (wr (mat m c)) (fun d => EReal.toReal (bias m c (ix1 d))) (iblk m c 1 t) (X0_2 m c t) xs g e d
      = stateAt (lg (rows m c) (mat m c) (bias m c) g) (vs (rows m c) g) (ks (rows m c) g) (t.val * 64 + 64) e d := by
  unfold after
  refine next_stateAt _ _ _ _ _ _ _ (fun x d => ?_) _ _ (fun x d => ?_) (fun x e => ?_) _ hxs e d
  · unfold lg arg
    rw [dif_pos (show t.val * 64 + x.val < 4096 by omega)]
    rfl
  · unfold ks
    rw [dif_pos (show t.val * 64 + x.val < 4096 by omega)]
    exact b1 m c t hN g x d
  · unfold vs
    rw [dif_pos (show t.val * 64 + x.val < 4096 by omega)]
    exact b2 m c t hN g x e

include hx hu hb

/-- The first grid point's step. -/
theorem stepA (t : Fin cfg0.N) (hN : t.val < 64) (h0 : t.val % 64 = 0) (g : Fin 4) (e : Fin 256) (d : Fin 128) :
    ((outsAt0 m c t.val t.isLt).2.2 (ix3 g e d) : EReal) = after (st m c t hN) (wr (mat m c)) (fun d => EReal.toReal (bias m c (ix1 d))) (iblk m c 1 t) (X0_2 m c t) (iblk m c 5 t) g e d := by
  rw [outsAt0_A m c t h0]
  dsimp only
  exact scratchA _ _ _ _ _ _ _ _ _ _ _ _ _ _ _ _ _ _ _ _ _ _ _ _ _ _ _ _ _ _ _ _ _ _ _ _ _ _ (st m c t hN) (wr (mat m c)) (fun d => EReal.toReal (bias m c (ix1 d))) (hw m c hu t) (ha m c hb t) (hs m c hx t hN) _ g e d

/-- Another grid point's step. -/
theorem stepB (t : Fin cfg0.N) (hN : t.val < 64) (h0 : ¬t.val % 64 = 0) (g : Fin 4) (e : Fin 256) (d : Fin 128) :
    ((outsAt0 m c t.val t.isLt).2.2 (ix3 g e d) : EReal) = after (st m c t hN) (wr (mat m c)) (fun d => EReal.toReal (bias m c (ix1 d))) (iblk m c 1 t) (X0_2 m c t) ((outsAt0 m c (t.val - 1) (Nat.lt_of_le_of_lt (Nat.sub_le _ _) t.isLt)).2.2) g e d := by
  rw [outsAt0_B m c t h0]
  dsimp only
  exact scratchB _ _ _ _ _ _ _ _ _ _ _ _ _ _ _ _ _ _ _ _ _ _ _ _ _ _ _ _ _ _ _ _ _ _ _ _ _ _ _ (st m c t hN) (wr (mat m c)) (fun d => EReal.toReal (bias m c (ix1 d))) (hw m c hu t) (ha m c hb t) (hs m c hx t hN) _ g e d

/-- What another grid point returns. -/
theorem stepOut (t : Fin cfg0.N) (hN : t.val < 64) (h0 : ¬t.val % 64 = 0) (g : Fin 4) (e : Fin 256) (d : Fin 128) :
    ((outsAt0 m c t.val t.isLt).2.1 (ix3 g e d) : EReal) = after (st m c t hN) (wr (mat m c)) (fun d => EReal.toReal (bias m c (ix1 d))) (iblk m c 1 t) (X0_2 m c t) ((outsAt0 m c (t.val - 1) (Nat.lt_of_le_of_lt (Nat.sub_le _ _) t.isLt)).2.2) g e d := by
  rw [outsAt0_B m c t h0]
  dsimp only
  exact outB _ _ _ _ _ _ _ _ _ _ _ _ _ _ _ _ _ _ _ _ _ _ _ _ _ _ _ _ _ _ _ _ _ _ _ _ _ _ _ (st m c t hN) (wr (mat m c)) (fun d => EReal.toReal (bias m c (ix1 d))) (hw m c hu t) (ha m c hb t) (hs m c hx t hN) _ g e d

/-- The carried state after each grid point. -/
theorem carried (n : ℕ) (hn : n < cfg0.N) (g : Fin 4) (e : Fin 256) (d : Fin 128) :
    ((outsAt0 m c n hn).2.2 (ix3 g e d) : EReal) = stateAt (lg (rows m c) (mat m c) (bias m c) g) (vs (rows m c) g) (ks (rows m c) g) (n * 64 + 64) e d := by
  induction n generalizing g e d with
  | zero =>
    refine (stepA m c hx hu hb ⟨0, hn⟩ (Nat.zero_lt_succ _) rfl g e d).trans ?_
    refine after_stateAt m c ⟨0, hn⟩ _ g _ (fun e d => ?_) e d
    refine (b5 m c ⟨0, hn⟩ g e d).trans ?_
    show (0 : EReal) = stateAt _ _ _ (0 * 64) e d
    rw [zero_mul, stateAt_zero]
  | succ n ih =>
    have hN : n + 1 < 64 := lt_of_lt_of_eq hn N_0
    have h0 : ¬ (n + 1) % 64 = 0 := by omega
    refine (stepB m c hx hu hb ⟨n + 1, hn⟩ hN h0 g e d).trans ?_
    refine after_stateAt m c ⟨n + 1, hn⟩ hN g _ (fun e d => ?_) e d
    refine (ih _ g e d).trans ?_
    show stateAt _ _ _ (n * 64 + 64) e d = stateAt _ _ _ ((n + 1) * 64) e d
    rw [Nat.succ_mul]

/-- The returned state after each grid point but the first. -/
theorem returned (n : ℕ) (hn : n < cfg0.N) (h0 : ¬n % 64 = 0) (N : ℕ) (hN : n * 64 + 64 = N) (g : Fin 4) (e : Fin 256) (d : Fin 128) :
    ((outsAt0 m c n hn).2.1 (ix3 g e d) : EReal) = stateAt (lg (rows m c) (mat m c) (bias m c) g) (vs (rows m c) g) (ks (rows m c) g) N e d := by
  have h64 : n < 64 := lt_of_lt_of_eq hn N_0
  refine (stepOut m c hx hu hb ⟨n, hn⟩ h64 h0 g e d).trans ?_
  rw [← hN]
  refine after_stateAt m c ⟨n, hn⟩ h64 g _ (fun e d => ?_) e d
  refine (carried m c hx hu hb (n - 1) _ g e d).trans ?_
  rw [show (n - 1) * 64 + 64 = n * 64 by omega]

/-- The array the kernel leaves. -/
theorem final (g : Fin 4) (e : Fin 256) (d : Fin 128) :
    (G11 m c (ix3 g e d) : EReal) = stateAt (lg (rows m c) (mat m c) (bias m c) g) (vs (rows m c) g) (ks (rows m c) g) 4096 e d := by
  have hn : 63 < cfg0.N := lt_of_lt_of_eq (by decide) N_0.symm
  rw [G11_last, ← outsAt0_sweep m c 63 hn]
  exact returned m c hx hu hb 63 hn (by decide) 4096 (by decide) g e d

end

end Cert.Gla

end
-- ==== Proof.GlaSame.lean ====
/- Gated linear attention: the plain reference's state is the decayed sum over the positions. -/
module

public import proofs.«01_k».proof.Proof.GlaRef
public import proofs.«01_k».proof.Proof.GlaFinal

@[expose] public section

set_option maxRecDepth 16384

noncomputable section

open Idealize.ShloMosaic Idealize.ShloMosaic.TcCoe Idealize.SL.Sem

namespace Cert.Gla

open Cert.Reference4Ideal Cert.Reference4Ideal.Gen

/-- A sum over the matrix's sixteen rows is the sum over the padded matrix's rows. -/
theorem sum_padded (f : Fin 128 → ℝ) (u : FVec Ideal S16x128 .f32) (d : Fin 128) :
    (∑ j : Fin 16, f ⟨j.val, by omega⟩ * EReal.toReal (u (ix2 j d))) = ∑ j : Fin 128, f j * wr u j d := by
  have h := Fin.sum_univ_add (M := ℝ) (a := 16) (b := 112) (fun j => f j * wr u j d)
  rw [show (∑ j : Fin 128, f j * wr u j d) = ∑ j : Fin (16 + 112), f j * wr u j d from rfl, h, Finset.sum_eq_zero (s := (Finset.univ : Finset (Fin 112))), add_zero]
  · refine Finset.sum_congr rfl fun j _ => ?_
    have hj : (Fin.castAdd 112 j : Fin 128).val < 16 := j.isLt
    rw [wr, dif_pos hj]
    rfl
  · intro j _
    have hj : ¬ (Fin.natAdd 16 j : Fin 128).val < 16 := by simp
    rw [wr, dif_neg hj, mul_zero]

section

variable (x : FVec Ideal S4x4096x1920 .f32) (u : FVec Ideal S16x128 .f32) (b : FVec Ideal S128 .f32)
  (hx : ColsReal x)
  (hu : ∀ i, (u i : EReal) = ((EReal.toReal (u i) : ℝ) : EReal)) (hb : ∀ i, (b i : EReal) = ((EReal.toReal (b i) : ℝ) : EReal))

include hx hu hb

/-- The reference's gates. -/
theorem gates_real (g : Fin 4) (t : Fin 4096) (d : Fin 128) : (GlaRef.gates (GlaRef.args x u b) (ix3 g t d) : EReal) = ((lg x u b g d t.val : ℝ) : EReal) := by
  unfold ColsReal at hx
  unfold lg
  rw [dif_pos t.isLt]
  refine GlaRef.gates_apply _ g t d _ ?_
  rw [GlaRef.args_apply, ← sum_padded (sr x g t) u d, hb, EReal.coe_add, coe_sum_fin]
  congr 1
  refine Finset.sum_congr rfl fun j _ => ?_
  rw [hx, hu, EReal.coe_mul]
  rfl

/-- The reference's running sums. -/
theorem sums_real (g : Fin 4) (t : Fin 4096) (d : Fin 128) :
    (GlaRef.sums (GlaRef.gates (GlaRef.args x u b)) (ix3 g t d) : EReal) = ((total (lg x u b g d) (t.val + 1) : ℝ) : EReal) := by
  rw [GlaRef.sums_apply, total, ← Fin.sum_univ_eq_sum_range (fun i => lg x u b g d i), coe_sum_fin, Fin.sum_univ_eq_sum_range (fun i => ((lg x u b g d i : ℝ) : EReal))]
  refine Finset.sum_congr rfl fun i hi => ?_
  have hi' : i < 4096 := by have := Finset.mem_range.1 hi; omega
  rw [GlaRef.column, dif_pos hi']
  exact gates_real x u b hx hu hb g ⟨i, hi'⟩ d

/-- The reference's state. -/
theorem result_real (g : Fin 4) (e : Fin 256) (d : Fin 128) :
    (GlaRef.result x (GlaRef.gates (GlaRef.args x u b)) (ix3 g e d) : EReal) = stateAt (lg x u b g) (vs x g) (ks x g) 4096 e d := by
  rw [GlaRef.result_apply, stateAt, decayed]
  split_ifs
  · rw [← Fin.sum_univ_eq_sum_range (fun t => vs x g e t * (ks x g d t * ((Real.exp (total (lg x u b g d) 4096 - total (lg x u b g d) (t + 1)) : ℝ) : EReal)))]
    refine Finset.sum_congr rfl fun t _ => ?_
    rw [sums_real x u b hx hu hb, sums_real x u b hx hu hb, vs, ks, dif_pos t.isLt, dif_pos t.isLt, ← EReal.coe_sub, Ideal.exp_coe]
    rfl
  · rfl

end

/-- The reference's state is the array the kernel leaves. -/
theorem same (m : (ℓ : Loc Kernel4Ideal.nD Kernel4Ideal.τ Kernel4Ideal.sig) → Buf (Elt Ideal) ℓ) (c : Dev Kernel4Ideal.nD)
    (hx : ColsReal (rows m c))
    (hu : ∀ i, (mat m c i : EReal) = ((EReal.toReal (mat m c i) : ℝ) : EReal)) (hb : ∀ i, (bias m c i : EReal) = ((EReal.toReal (bias m c i) : ℝ) : EReal)) :
    GlaRef.result (rows m c) (GlaRef.gates (GlaRef.args (rows m c) (mat m c) (bias m c))) = (Kernel4Ideal.Value.G11 m c : FVec Ideal S4x256x128 .f32) := by
  funext i
  obtain ⟨g, e, d, rfl⟩ : ∃ (g : Fin 4) (e : Fin 256) (d : Fin 128), i = ix3 g e d := ⟨i 0, i 1, i 2, eq_ix3 i⟩
  exact (result_real _ _ _ hx hu hb g e d).trans (final m c hx hu hb g e d).symm

end Cert.Gla

end
-- ==== Proof.GlaPre.lean ====
/- Gated linear attention: what the claim's condition says of the arguments. -/
module

public import proofs.«01_k».proof.Pre_gates_finite
public import proofs.«01_k».proof.Kernel4Ideal
public import proofs.«01_k».proof.Proof.SbPre

@[expose] public section

set_option maxRecDepth 16384

noncomputable section

open Idealize.ShloMosaic Idealize.ShloMosaic.TcCoe Idealize.SL.Sem

namespace Cert.Gla

/-- The shapes the condition is stated with fit. -/
instance pre_facts : Cert.Pre_gates_finite.Facts where
  slices_S4x4096x1920_S4x4096x16_0_0_1792 := by decide
  bcast_S_S4x4096x16 := by decide
  reducesTo_S4x4096x16_S_d0_1_2 := by decide
  h_S_ := by decide
  bcast_S_S16x128 := by decide
  reducesTo_S16x128_S_d0_1 := by decide
  bcast_S_S128 := by decide
  reducesTo_S128_S_d0 := by decide

instance : Subsingleton Cert.Pre_gates_finite.S_.Idx := ⟨fun a b => funext fun i => i.elim0⟩

/-- The condition says that the gates' sixteen columns, their matrix and their biases are real numbers. -/
theorem finite (x : FVec Ideal Kernel4Ideal.S4x4096x1920 .f32) (w : FVec Ideal Kernel4Ideal.S16x128 .f32) (a : FVec Ideal Kernel4Ideal.S128 .f32) (n : FVec Ideal Kernel4Ideal.S64 .f32)
    (h : Cert.Pre_gates_finite.fn (F := Ideal) x w a n = fun _ => 1#1) :
    (∀ (g : Fin 4) (t : Fin 4096) (j : Fin 16), (x (ix3 g t (⟨1792 + j.val, by omega⟩ : Fin 1920)) : EReal) = ((EReal.toReal (x (ix3 g t (⟨1792 + j.val, by omega⟩ : Fin 1920))) : ℝ) : EReal))
      ∧ (∀ i, (w i : EReal) = ((EReal.toReal (w i) : ℝ) : EReal)) ∧ (∀ i, (a i : EReal) = ((EReal.toReal (a i) : ℝ) : EReal)) := by
  have h0 := congrFun h ix0
  unfold Cert.Pre_gates_finite.fn at h0
  obtain ⟨h1, hb⟩ := IntOp.andi_eq_one.1 h0
  obtain ⟨hq, hk⟩ := IntOp.andi_eq_one.1 h1
  refine ⟨fun g t j => Sb.real_of_lt _ ?_, fun i => Sb.real_of_lt _ ?_, fun i => Sb.real_of_lt _ ?_⟩
  · have h2 := Host.reduce_andi_all _ _ _ _ _ hq (ix3 g t j)
    have e : (extractStridedSlice Pre_gates_finite.S4x4096x16 ![0, 0, 1792] x Pre_gates_finite.Facts.slices_S4x4096x1920_S4x4096x16_0_0_1792 (ix3 g t j) : EReal) = x (ix3 g t (⟨1792 + j.val, by omega⟩ : Fin 1920)) := by
      pointwise []
    rw [← e]
    exact h2
  · exact Host.reduce_andi_all _ _ _ _ _ hk i
  · exact Host.reduce_andi_all _ _ _ _ _ hb i

end Cert.Gla

end
-- ==== Proof.GlaClaim.lean ====
/- The value claim of the gated linear attention's state. -/
module

public import proofs.«01_k».proof.Defs
public import proofs.«01_k».proof.Proof.Frames
public import proofs.«01_k».proof.Proof.GlaSame
public import proofs.«01_k».proof.Proof.GlaPre
public import Idealize.ShloMosaic.Lib.Claim

@[expose] public section

noncomputable section

namespace Cert.Proof

open Idealize.ShloMosaic Idealize.SL.Sem

/-- The gated linear attention kernel over the extended reals, on finite gates. -/
theorem frame_gla_finite : Cert.quiescent_Kernel4Ideal_pre_gates_finite := fun m g _ => frame_Kernel4Ideal m g trivial

/-- The gated linear attention reference, on finite gates. -/
theorem frame_gla_reference_finite : Cert.quiescent_Reference4Ideal_pre_gates_finite := fun m g _ => frame_Reference4Ideal m g trivial

set_option maxHeartbeats 4000000 in
/-- The chunked kernel and the plain reference leave the same state over the extended reals, on finite gates, whatever
    the keys and values. -/
theorem algebraic_gla : Cert.algebraic_Kernel4Ideal_Reference4Ideal_pre_gates_finite := by
  pair_intro
  · run_from Cert.Kernel4Ideal.Value.run m g
  · run_from Cert.Reference4Ideal.Value.run m' g'
    obtain ⟨e0, e1, e2, e3⟩ := hagree c
    obtain ⟨hx, hu, hb⟩ := Cert.Gla.finite _ _ _ _ (hpre c)
    rw [Cert.GlaRef.res_eq, e0, e1, e2]
    exact Cert.Gla.same m c hx hu hb

end Cert.Proof

end
-- ==== Proof.lean ====
/- The certificate: the frames of the kernels and references, the idealizations, and the value claims. -/
module

public import proofs.«01_k».proof.Defs
public import proofs.«01_k».proof.Proof.Frames
public import proofs.«01_k».proof.Proof.SbClaim
public import proofs.«01_k».proof.Proof.OutFfnClaim
public import proofs.«01_k».proof.Proof.InProjClaim
public import proofs.«01_k».proof.Proof.GlaClaim

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Sb.pre_facts, Cert.Gla.pre_facts,
    frame_Kernel, frame_KernelIdeal, frame_sb_finite, frame_ReferenceIdeal, frame_sb_reference_finite,
    frame_Kernel2, frame_Kernel2Ideal, frame_Reference2Ideal,
    frame_Kernel3, frame_Kernel3Ideal, frame_Reference3Ideal,
    frame_Kernel4, frame_Kernel4Ideal, frame_gla_finite, frame_Reference4Ideal, frame_gla_reference_finite,
    preserves_Kernel, algebraic_sb, preserves_Kernel2, algebraic_out_ffn, preserves_Kernel3, algebraic_in_proj, preserves_Kernel4, algebraic_gla⟩

end Cert.Proof

end
